-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)) (v5 : (c : Dev Cert.KernelIdeal.nD) → Buf (Elt Ideal) ((c.tc : Thread Cert.KernelIdeal.nD Cert.KernelIdeal.τ).loc Cert.KernelIdeal.main_v24_5)) (v6 : (c : Dev Cert.KernelIdeal.nD) → Buf (Elt Ideal) ((c.tc : Thread Cert.KernelIdeal.nD Cert.KernelIdeal.τ).loc Cert.KernelIdeal.main_v24_6)) (v7 : (c : Dev Cert.KernelIdeal.nD) → Buf (Elt Ideal) ((c.tc : Thread Cert.KernelIdeal.nD Cert.KernelIdeal.τ).loc Cert.KernelIdeal.main_v24_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_v24_5) = v5 c
          ∧ r.2.mem ((c.tc : Thread Cert.KernelIdeal.nD Cert.KernelIdeal.τ).loc Cert.KernelIdeal.main_v24_6) = v6 c
          ∧ r.2.mem ((c.tc : Thread Cert.KernelIdeal.nD Cert.KernelIdeal.τ).loc Cert.KernelIdeal.main_v24_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_v118) = v5 c
          ∧ r.2.mem ((c.tc : Thread Cert.ReferenceIdeal.nD Cert.ReferenceIdeal.τ).loc Cert.ReferenceIdeal.main_v119) = v6 c
          ∧ r.2.mem ((c.tc : Thread Cert.ReferenceIdeal.nD Cert.ReferenceIdeal.τ).loc Cert.ReferenceIdeal.main_v120) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v106) = v1 c
          ∧ r.2.mem ((c.tc : Thread Cert.Reference3Ideal.nD Cert.Reference3Ideal.τ).loc Cert.Reference3Ideal.main_v89) = v2 c
          ∧ r.2.mem ((c.tc : Thread Cert.Reference3Ideal.nD Cert.Reference3Ideal.τ).loc Cert.Reference3Ideal.main_v87) = v3 c
          ∧ r.2.mem ((c.tc : Thread Cert.Reference3Ideal.nD Cert.Reference3Ideal.τ).loc Cert.Reference3Ideal.main_v105) = v4 c
          ∧ r.2.mem ((c.tc : Thread Cert.Reference3Ideal.nD Cert.Reference3Ideal.τ).loc Cert.Reference3Ideal.main_v99) = v5 c
          ∧ r.2.mem ((c.tc : Thread Cert.Reference3Ideal.nD Cert.Reference3Ideal.τ).loc Cert.Reference3Ideal.main_v95) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v88) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_v71) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)) (v6 : (c : Dev Cert.Kernel5Ideal.nD) → Buf (Elt Ideal) ((c.tc : Thread Cert.Kernel5Ideal.nD Cert.Kernel5Ideal.τ).loc Cert.Kernel5Ideal.main_v15_6)) (v7 : (c : Dev Cert.Kernel5Ideal.nD) → Buf (Elt Ideal) ((c.tc : Thread Cert.Kernel5Ideal.nD Cert.Kernel5Ideal.τ).loc Cert.Kernel5Ideal.main_v15_7)) (v8 : (c : Dev Cert.Kernel5Ideal.nD) → Buf (Elt Ideal) ((c.tc : Thread Cert.Kernel5Ideal.nD Cert.Kernel5Ideal.τ).loc Cert.Kernel5Ideal.main_v15_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_v15_6) = v6 c
          ∧ r.2.mem ((c.tc : Thread Cert.Kernel5Ideal.nD Cert.Kernel5Ideal.τ).loc Cert.Kernel5Ideal.main_v15_7) = v7 c
          ∧ r.2.mem ((c.tc : Thread Cert.Kernel5Ideal.nD Cert.Kernel5Ideal.τ).loc Cert.Kernel5Ideal.main_v15_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v82) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v86) = v4 c
          ∧ r.2.mem ((c.tc : Thread Cert.Reference5Ideal.nD Cert.Reference5Ideal.τ).loc Cert.Reference5Ideal.main_v63) = v5 c
          ∧ r.2.mem ((c.tc : Thread Cert.Reference5Ideal.nD Cert.Reference5Ideal.τ).loc Cert.Reference5Ideal.main_v87) = v6 c
          ∧ r.2.mem ((c.tc : Thread Cert.Reference5Ideal.nD Cert.Reference5Ideal.τ).loc Cert.Reference5Ideal.main_v88) = v7 c
          ∧ r.2.mem ((c.tc : Thread Cert.Reference5Ideal.nD Cert.Reference5Ideal.τ).loc Cert.Reference5Ideal.main_v69) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)) (v5 : (c : Dev Cert.Kernel6Ideal.nD) → Buf (Elt Ideal) ((c.tc : Thread Cert.Kernel6Ideal.nD Cert.Kernel6Ideal.τ).loc Cert.Kernel6Ideal.main_v9_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_v9_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_v56) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_v57) = v4 c
          ∧ r.2.mem ((c.tc : Thread Cert.Reference6Ideal.nD Cert.Reference6Ideal.τ).loc Cert.Reference6Ideal.main_v41) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v29 : IVec S_ 1) (main_v32 : IVec S8192x1024 1) (main_c_12 : IVec S_ 1) : IVec S_ 1 :=
  let main_v33 : IVec S_ 1 := (fun x v => Host.reduce IntOp.andi x v reducesTo_S8192x1024_S_d0_1 h_S_) main_v32 main_c_12
  let main_v34 : IVec S_ 1 := andi main_v29 main_v33
  main_v34

def fn_part1 {F : FTy → Type} [FloatOps F] (main_arg4 : FVec F S2816x1024 .f32) (main_arg5 : FVec F S1024 .f32) (main_arg6 : FVec F S8192x1024 .f32) (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  let main_v20 : FVec F S2816x1024 .f32 := Host.absf main_arg4
  let main_cst_7 : FVec F S_ .f32 := constant S_ .f32 0x7F800000#32
  let main_v21 : FVec F S2816x1024 .f32 := broadcastInDim S2816x1024 ![] bcast_S_S2816x1024 main_cst_7
  let main_v22 : IVec S2816x1024 1 := cmpf .olt main_v20 main_v21
  let main_c_8 : IVec S_ 1 := constantI S_ 1 1#1
  let main_v23 : IVec S_ 1 := (fun x v => Host.reduce IntOp.andi x v reducesTo_S2816x1024_S_d0_1 h_S_) main_v22 main_c_8
  let main_v24 : IVec S_ 1 := andi main_v19 main_v23
  let main_v25 : FVec F S1024 .f32 := Host.absf main_arg5
  let main_cst_9 : FVec F S_ .f32 := constant S_ .f32 0x7F800000#32
  let main_v26 : FVec F S1024 .f32 := broadcastInDim S1024 ![] bcast_S_S1024 main_cst_9
  let main_v27 : IVec S1024 1 := cmpf .olt main_v25 main_v26
  let main_c_10 : IVec S_ 1 := constantI S_ 1 1#1
  let main_v28 : IVec S_ 1 := (fun x v => Host.reduce IntOp.andi x v reducesTo_S1024_S_d0 h_S_) main_v27 main_c_10
  let main_v29 : IVec S_ 1 := andi main_v24 main_v28
  let main_v30 : FVec F S8192x1024 .f32 := Host.absf main_arg6
  let main_cst_11 : FVec F S_ .f32 := constant S_ .f32 0x7F800000#32
  let main_v31 : FVec F S8192x1024 .f32 := broadcastInDim S8192x1024 ![] bcast_S_S8192x1024 main_cst_11
  let main_v32 : IVec S8192x1024 1 := cmpf .olt main_v30 main_v31
  let main_c_12 : IVec S_ 1 := constantI S_ 1 1#1
  fn_part2 (F := F) main_v29 main_v32 main_c_12

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x2816 .f32 := Host.absf main_arg2
  let main_cst_3 : FVec F S_ .f32 := constant S_ .f32 0x7F800000#32
  let main_v11 : FVec F S1024x2816 .f32 := broadcastInDim S1024x2816 ![] bcast_S_S1024x2816 main_cst_3
  let main_v12 : IVec S1024x2816 1 := cmpf .olt main_v10 main_v11
  let main_c_4 : IVec S_ 1 := constantI S_ 1 1#1
  let main_v13 : IVec S_ 1 := (fun x v => Host.reduce IntOp.andi x v reducesTo_S1024x2816_S_d0_1 h_S_) main_v12 main_c_4
  let main_v14 : IVec S_ 1 := andi main_v9 main_v13
  let main_v15 : FVec F S1024x2816 .f32 := Host.absf main_arg3
  let main_cst_5 : FVec F S_ .f32 := constant S_ .f32 0x7F800000#32
  fn_part1 (F := F) main_arg4 main_arg5 main_arg6 main_v14 main_v15 main_cst_5
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x704x1024 : Shape := ⟨3, ![4, 704, 1024]⟩
abbrev S4x8192x704 : Shape := ⟨3, ![4, 8192, 704]⟩
abbrev S1x128 : Shape := ⟨2, ![1, 128]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 42
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S2816x1024, .f32⟩
  | .hbm, ⟨25, _⟩ => ⟨S4x704x1024, .f32⟩
  | .hbm, ⟨26, _⟩ => ⟨S4x704x1024, .bf16⟩
  | .hbm, ⟨27, _⟩ => ⟨S2816x1024, .f32⟩
  | .hbm, ⟨28, _⟩ => ⟨S4x704x1024, .f32⟩
  | .hbm, ⟨29, _⟩ => ⟨S4x704x1024, .bf16⟩
  | .hbm, ⟨30, _⟩ => ⟨S4x704x1024, .f32⟩
  | .hbm, ⟨31, _⟩ => ⟨S4x704x1024, .bf16⟩
  | .hbm, ⟨32, _⟩ => ⟨S1x1024, .f32⟩
  | .hbm, ⟨33, _⟩ => ⟨S1x1024, .f32⟩
  | .hbm, ⟨34, _⟩ => ⟨S4x8192x704, .bf16⟩
  | .hbm, ⟨35, _⟩ => ⟨S4x8192x704, .bf16⟩
  | .hbm, ⟨36, _⟩ => ⟨S4x8192x704, .bf16⟩
  | .hbm, ⟨37, _⟩ => ⟨S8192x1024, .f32⟩
  | .hbm, ⟨38, _⟩ => ⟨S8192x1024, .bf16⟩
  | .hbm, ⟨39, _⟩ => ⟨S1x128, .f32⟩
  | .hbm, ⟨40, _⟩ => ⟨S1x1024, .f32⟩
  | .hbm, ⟨41, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x704x1024, .bf16⟩
  | .local _ .vmem, ⟨7, _⟩ => ⟨S4x704x1024, .bf16⟩
  | .local _ .vmem, ⟨8, _⟩ => ⟨S4x704x1024, .bf16⟩
  | .local _ .vmem, ⟨9, _⟩ => ⟨S1x1024, .f32⟩
  | .local _ .vmem, ⟨10, _⟩ => ⟨S1x1024, .f32⟩
  | .local _ .vmem, ⟨11, _⟩ => ⟨S4x256x704, .bf16⟩
  | .local _ .vmem, ⟨12, _⟩ => ⟨S4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S4x256x704, .f32⟩
  | .local _ .vmem, ⟨25, _⟩ => ⟨S4x256x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev main_v24_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1x128 : Shape := ⟨2, ![1, 128]⟩

abbrev nBuf : Space → Nat
  | .hbm => 169
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x2816, .f32⟩
  | 28 => ⟨S8192x2816, .f32⟩
  | 29 => ⟨S8192x2816, .f32⟩
  | 30 => ⟨S8192x2816, .f32⟩
  | 31 => ⟨S_, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S8192x2816, .f32⟩
  | 41 => ⟨S8192x2816, .f32⟩
  | 42 => ⟨S8192x2816, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S1024x2816, .f32⟩
  | 115 => ⟨S2816x1024, .f32⟩
  | 116 => ⟨S8192x2816, .f32⟩
  | 117 => ⟨S8192x2816, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S2816x1024, .f32⟩
  | 124 => ⟨S1024x2816, .f32⟩
  | 125 => ⟨S8192x1024, .f32⟩
  | 126 => ⟨S2816x1024, .f32⟩
  | 127 => ⟨S1024x2816, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S_, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S8192x1024, .f32⟩
  | 15 => ⟨S8192x1024, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x4x704, .f32⟩
  | 28 => ⟨S4x8192x704, .f32⟩
  | 29 => ⟨S4x8192x704, .bf16⟩
  | 30 => ⟨S8192x4x704, .f32⟩
  | 31 => ⟨S4x8192x704, .f32⟩
  | 32 => ⟨S4x8192x704, .bf16⟩
  | 33 => ⟨S8192x4x704, .f32⟩
  | 34 => ⟨S4x8192x704, .f32⟩
  | 35 => ⟨S4x8192x704, .bf16⟩
  | 36 => ⟨S8192x1024, .f32⟩
  | 37 => ⟨S8192x1024, .bf16⟩
  | 38 => ⟨S1x128, .f32⟩
  | 39 => ⟨S1x1024, .f32⟩
  | 40 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_cst_12 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_15 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_cst_17 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_18 : Ref sig .tc := ⟨.hbm, 104, rfl⟩
abbrev main_v66 : Ref sig .tc := ⟨.hbm, 105, rfl⟩
abbrev main_v67 : Ref sig .tc := ⟨.hbm, 106, rfl⟩
abbrev main_cst_19 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_23 : Ref sig .tc := ⟨.hbm, 145, rfl⟩
abbrev main_v99 : Ref sig .tc := ⟨.hbm, 146, rfl⟩
abbrev main_v100 : Ref sig .tc := ⟨.hbm, 147, rfl⟩
abbrev main_cst_24 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]
-- ==== Kernel2.lean ====
abbrev S8192x1024 : Shape := ⟨2, ![8192, 1024]⟩
abbrev S4x8192x704 : Shape := ⟨3, ![4, 8192, 704]⟩
abbrev S4x704x1024 : Shape := ⟨3, ![4, 704, 1024]⟩
abbrev S2048x1024 : Shape := ⟨2, ![2048, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S4x8192x704, .bf16⟩
  | .hbm, ⟨4, _⟩ => ⟨S8192x1024, .bf16⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S2048x1024, .bf16⟩
  | .local _ .vmem, ⟨9, _⟩ => ⟨S2048x1024, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x1024 : Shape := ⟨2, ![8192, 1024]⟩
abbrev S4x8192x704 : Shape := ⟨3, ![4, 8192, 704]⟩
abbrev S8192x4x704 : Shape := ⟨3, ![8192, 4, 704]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S4x8192x704, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S4x8192x704, .f32⟩
  | .hbm, ⟨8, _⟩ => ⟨S8192x4x704, .f32⟩
  | .hbm, ⟨9, _⟩ => ⟨S8192x2816, .f32⟩
  | .hbm, ⟨10, _⟩ => ⟨S_, .f32⟩
  | .hbm, ⟨11, _⟩ => ⟨S1024x2816, .f32⟩
  | .hbm, ⟨12, _⟩ => ⟨S8192x2816, .f32⟩
  | .hbm, ⟨13, _⟩ => ⟨S2816x1024, .f32⟩
  | .hbm, ⟨14, _⟩ => ⟨S1024x2816, .f32⟩
  | .hbm, ⟨15, _⟩ => ⟨S4x8192x704, .f32⟩
  | .hbm, ⟨16, _⟩ => ⟨S8192x4x704, .f32⟩
  | .hbm, ⟨17, _⟩ => ⟨S8192x2816, .f32⟩
  | .hbm, ⟨18, _⟩ => ⟨S_, .f32⟩
  | .hbm, ⟨19, _⟩ => ⟨S1024x2816, .f32⟩
  | .hbm, ⟨20, _⟩ => ⟨S8192x2816, .f32⟩
  | .hbm, ⟨21, _⟩ => ⟨S2816x1024, .f32⟩
  | .hbm, ⟨22, _⟩ => ⟨S1024x2816, .f32⟩
  | .hbm, ⟨23, _⟩ => ⟨S4x8192x704, .f32⟩
  | .hbm, ⟨24, _⟩ => ⟨S8192x4x704, .f32⟩
  | .hbm, ⟨25, _⟩ => ⟨S8192x2816, .f32⟩
  | .hbm, ⟨26, _⟩ => ⟨S_, .f32⟩
  | .hbm, ⟨27, _⟩ => ⟨S2816x1024, .f32⟩
  | .hbm, ⟨28, _⟩ => ⟨S8192x1024, .f32⟩
  | .hbm, ⟨29, _⟩ => ⟨S1024x2816, .f32⟩
  | .hbm, ⟨30, _⟩ => ⟨S2816x1024, .f32⟩
  | .hbm, ⟨31, _⟩ => ⟨S2816x1024, .f32⟩
  | .hbm, ⟨32, _⟩ => ⟨S4x704x1024, .f32⟩
  | .hbm, ⟨33, _⟩ => ⟨S2816x1024, .f32⟩
  | .hbm, ⟨34, _⟩ => ⟨S4x704x1024, .f32⟩
  | .hbm, ⟨35, _⟩ => ⟨S4x704x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S1024x512 : Shape := ⟨2, ![1024, 512]⟩
abbrev S16x512 : Shape := ⟨2, ![16, 512]⟩
abbrev S1040x512 : Shape := ⟨2, ![1040, 512]⟩
abbrev S1024x1 : Shape := ⟨2, ![1024, 1]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x1024 : Shape := ⟨2, ![512, 1024]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S4x128x128, .bf16⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S8192x512, .bf16⟩
  | .hbm, ⟨8, _⟩ => ⟨S8192x512, .f32⟩
  | .hbm, ⟨9, _⟩ => ⟨S1024x1024, .f32⟩
  | .hbm, ⟨10, _⟩ => ⟨S1x1024, .f32⟩
  | .hbm, ⟨11, _⟩ => ⟨S4x128x128, .f32⟩
  | .hbm, ⟨12, _⟩ => ⟨S1x512, .f32⟩
  | .hbm, ⟨13, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S16x512, .f32⟩
  | .local _ .vmem, ⟨7, _⟩ => ⟨S16x512, .f32⟩
  | .local _ .vmem, ⟨8, _⟩ => ⟨S4x128x128, .bf16⟩
  | .local _ .vmem, ⟨9, _⟩ => ⟨S1x512, .f32⟩
  | .local _ .vmem, ⟨10, _⟩ => ⟨S1x512, .f32⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x1024, .f32⟩
  | .local _ .vmem, ⟨17, _⟩ => ⟨S1x1024, .f32⟩
  | .local _ .vmem, ⟨18, _⟩ => ⟨S4x128x128, .f32⟩
  | .local _ .vmem, ⟨19, _⟩ => ⟨S1x512, .f32⟩
  | .local _ .vmem, ⟨20, _⟩ => ⟨S1x512, .f32⟩
  | .local _ .vmem, ⟨21, _⟩ => ⟨S1040x512, .f32⟩
  | .local _ .vmem, ⟨22, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x1024 : Shape := ⟨2, ![8192, 1024]⟩
abbrev S8192x512 : Shape := ⟨2, ![8192, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S16x512 : Shape := ⟨2, ![16, 512]⟩
abbrev S8208x512 : Shape := ⟨2, ![8208, 512]⟩
abbrev S8192 : Shape := ⟨1, ![8192]⟩
abbrev S8192x1 : Shape := ⟨2, ![8192, 1]⟩
abbrev S8192x128 : Shape := ⟨2, ![8192, 128]⟩
abbrev S1x1024 : Shape := ⟨2, ![1, 1024]⟩
abbrev S8192x4x128 : Shape := ⟨3, ![8192, 4, 128]⟩
abbrev S4x128x8192 : Shape := ⟨3, ![4, 128, 8192]⟩
abbrev S1024 : Shape := ⟨1, ![1024]⟩
abbrev S512 : Shape := ⟨1, ![512]⟩
abbrev S4x8192x128 : Shape := ⟨3, ![4, 8192, 128]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S4x128x128, .bf16⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S8192x512, .f32⟩
  | .hbm, ⟨8, _⟩ => ⟨S_, .f32⟩
  | .hbm, ⟨9, _⟩ => ⟨S16x512, .f32⟩
  | .hbm, ⟨10, _⟩ => ⟨S8208x512, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x512, .f32⟩
  | .hbm, ⟨17, _⟩ => ⟨S8192x512, .f32⟩
  | .hbm, ⟨18, _⟩ => ⟨S8192x128, .f32⟩
  | .hbm, ⟨19, _⟩ => ⟨S_, .i32⟩
  | .hbm, ⟨20, _⟩ => ⟨S8192x1, .i32⟩
  | .hbm, ⟨21, _⟩ => ⟨S8192x1, .i32⟩
  | .hbm, ⟨22, _⟩ => ⟨S8192x1, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x128, .f32⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x128, .f32⟩
  | .hbm, ⟨49, _⟩ => ⟨S_, .i32⟩
  | .hbm, ⟨50, _⟩ => ⟨S8192x1, .i32⟩
  | .hbm, ⟨51, _⟩ => ⟨S8192x1, .i32⟩
  | .hbm, ⟨52, _⟩ => ⟨S8192x1, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x128, .f32⟩
  | .hbm, ⟨74, _⟩ => ⟨S_, .i32⟩
  | .hbm, ⟨75, _⟩ => ⟨S8192x1, .i32⟩
  | .hbm, ⟨76, _⟩ => ⟨S8192x1, .i32⟩
  | .hbm, ⟨77, _⟩ => ⟨S8192x1, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S8192x512, .f32⟩
  | .hbm, ⟨83, _⟩ => ⟨S4x128x128, .f32⟩
  | .hbm, ⟨84, _⟩ => ⟨S1024x1024, .f32⟩
  | .hbm, ⟨85, _⟩ => ⟨S_, .f32⟩
  | .hbm, ⟨86, _⟩ => ⟨S1x1024, .f32⟩
  | .hbm, ⟨87, _⟩ => ⟨S8192x4x128, .f32⟩
  | .hbm, ⟨88, _⟩ => ⟨S4x128x8192, .f32⟩
  | .hbm, ⟨89, _⟩ => ⟨S8192x4x128, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S1024x1024, .f32⟩
  | .hbm, ⟨104, _⟩ => ⟨S1024x1024, .f32⟩
  | .hbm, ⟨105, _⟩ => ⟨S8192x1024, .f32⟩
  | .hbm, ⟨106, _⟩ => ⟨S8192x512, .f32⟩
  | .hbm, ⟨107, _⟩ => ⟨S8192x512, .f32⟩
  | .hbm, ⟨108, _⟩ => ⟨S8192x512, .f32⟩
  | .hbm, ⟨109, _⟩ => ⟨S_, .f32⟩
  | .hbm, ⟨110, _⟩ => ⟨S512, .f32⟩
  | .hbm, ⟨111, _⟩ => ⟨S1x512, .f32⟩
  | .hbm, ⟨112, _⟩ => ⟨S8192x512, .f32⟩
  | .hbm, ⟨113, _⟩ => ⟨S8192x512, .f32⟩
  | .hbm, ⟨114, _⟩ => ⟨S_, .f32⟩
  | .hbm, ⟨115, _⟩ => ⟨S512, .f32⟩
  | .hbm, ⟨116, _⟩ => ⟨S1x512, .f32⟩
  | .hbm, ⟨117, _⟩ => ⟨S8192x4x128, .f32⟩
  | .hbm, ⟨118, _⟩ => ⟨S4x128x8192, .f32⟩
  | .hbm, ⟨119, _⟩ => ⟨S4x8192x128, .f32⟩
  | .hbm, ⟨120, _⟩ => ⟨S8192x4x128, .f32⟩
  | .hbm, ⟨121, _⟩ => ⟨S4x128x128, .f32⟩
  | .hbm, ⟨122, _⟩ => ⟨S4x128x128, .f32⟩
  | .hbm, ⟨123, _⟩ => ⟨S8192x512, .f32⟩
  | .hbm, ⟨124, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_c_3 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_4 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_5 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_6 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_7 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩

abbrev nD : Nat := 1
abbrev τ : Topo := Topo.v7x

variable {F : FTy → Type} [FloatOps F]
-- ==== Kernel4.lean ====
abbrev S8192x512 : Shape := ⟨2, ![8192, 512]⟩
abbrev S8192x128 : Shape := ⟨2, ![8192, 128]⟩
abbrev S8192x1024 : Shape := ⟨2, ![8192, 1024]⟩
abbrev S1280x1024 : Shape := ⟨2, ![1280, 1024]⟩
abbrev S1x1024 : Shape := ⟨2, ![1, 1024]⟩
abbrev S1x1280 : Shape := ⟨2, ![1, 1280]⟩
abbrev S1024x512 : Shape := ⟨2, ![1024, 512]⟩
abbrev S1024x128 : Shape := ⟨2, ![1024, 128]⟩
abbrev S16x512 : Shape := ⟨2, ![16, 512]⟩
abbrev S1024x1024 : Shape := ⟨2, ![1024, 1024]⟩
abbrev S1040x512 : Shape := ⟨2, ![1040, 512]⟩
abbrev S1024x1 : Shape := ⟨2, ![1024, 1]⟩
abbrev S16x128 : Shape := ⟨2, ![16, 128]⟩
abbrev S1024x1280 : Shape := ⟨2, ![1024, 1280]⟩
abbrev S1280 : Shape := ⟨1, ![1280]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S1280x1024, .bf16⟩
  | .hbm, ⟨7, _⟩ => ⟨S1x1024, .f32⟩
  | .hbm, ⟨8, _⟩ => ⟨S8192x1024, .f32⟩
  | .hbm, ⟨9, _⟩ => ⟨S1280x1024, .f32⟩
  | .hbm, ⟨10, _⟩ => ⟨S1x1280, .f32⟩
  | .hbm, ⟨11, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .f32⟩
  | .local _ .vmem, ⟨7, _⟩ => ⟨S1024x512, .f32⟩
  | .local _ .vmem, ⟨8, _⟩ => ⟨S16x512, .f32⟩
  | .local _ .vmem, ⟨9, _⟩ => ⟨S16x512, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1280x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1280x1024, .f32⟩
  | .local _ .vmem, ⟨19, _⟩ => ⟨S1x1280, .f32⟩
  | .local _ .vmem, ⟨20, _⟩ => ⟨S1x1024, .f32⟩
  | .local _ .vmem, ⟨21, _⟩ => ⟨S1040x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1280x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S8192x512 : Shape := ⟨2, ![8192, 512]⟩
abbrev S8192x128 : Shape := ⟨2, ![8192, 128]⟩
abbrev S8192x1024 : Shape := ⟨2, ![8192, 1024]⟩
abbrev S1280x1024 : Shape := ⟨2, ![1280, 1024]⟩
abbrev S1x1024 : Shape := ⟨2, ![1, 1024]⟩
abbrev S4 : Shape := ⟨1, ![4]⟩
abbrev S4x1x1 : Shape := ⟨3, ![4, 1, 1]⟩
abbrev S_ : Shape := ⟨0, ![]⟩
abbrev S8192 : Shape := ⟨1, ![8192]⟩
abbrev S1x8192x1 : Shape := ⟨3, ![1, 8192, 1]⟩
abbrev S1x1x8192 : Shape := ⟨3, ![1, 1, 8192]⟩
abbrev S4x8192x1 : Shape := ⟨3, ![4, 8192, 1]⟩
abbrev S4x8192x8192 : Shape := ⟨3, ![4, 8192, 8192]⟩
abbrev S1x8192x8192 : Shape := ⟨3, ![1, 8192, 8192]⟩
abbrev S8192x4x128 : Shape := ⟨3, ![8192, 4, 128]⟩
abbrev S4x128x8192 : Shape := ⟨3, ![4, 128, 8192]⟩
abbrev S8192x1280 : Shape := ⟨2, ![8192, 1280]⟩
abbrev S1x1280 : Shape := ⟨2, ![1, 1280]⟩
abbrev S8192x1 : Shape := ⟨2, ![8192, 1]⟩
abbrev S1024x1280 : Shape := ⟨2, ![1024, 1280]⟩
abbrev S1280 : Shape := ⟨1, ![1280]⟩
abbrev S1024 : Shape := ⟨1, ![1024]⟩

abbrev nBuf : Space → Nat
  | .hbm => 111
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S1280x1024, .bf16⟩
  | .hbm, ⟨7, _⟩ => ⟨S1x1024, .f32⟩
  | .hbm, ⟨8, _⟩ => ⟨S4, .i32⟩
  | .hbm, ⟨9, _⟩ => ⟨S4x1x1, .i32⟩
  | .hbm, ⟨10, _⟩ => ⟨S_, .i32⟩
  | .hbm, ⟨11, _⟩ => ⟨S4x1x1, .i32⟩
  | .hbm, ⟨12, _⟩ => ⟨S4x1x1, .i32⟩
  | .hbm, ⟨13, _⟩ => ⟨S8192, .i32⟩
  | .hbm, ⟨14, _⟩ => ⟨S1x8192x1, .i32⟩
  | .hbm, ⟨15, _⟩ => ⟨S8192, .i32⟩
  | .hbm, ⟨16, _⟩ => ⟨S1x1x8192, .i32⟩
  | .hbm, ⟨17, _⟩ => ⟨S_, .i32⟩
  | .hbm, ⟨18, _⟩ => ⟨S1x8192x1, .i32⟩
  | .hbm, ⟨19, _⟩ => ⟨S1x8192x1, .i32⟩
  | .hbm, ⟨20, _⟩ => ⟨S4x8192x1, .i32⟩
  | .hbm, ⟨21, _⟩ => ⟨S4x8192x1, .i32⟩
  | .hbm, ⟨22, _⟩ => ⟨S4x8192x1, .i32⟩
  | .hbm, ⟨23, _⟩ => ⟨S_, .i32⟩
  | .hbm, ⟨24, _⟩ => ⟨S4x8192x1, .i32⟩
  | .hbm, ⟨25, _⟩ => ⟨S4x8192x1, .i32⟩
  | .hbm, ⟨26, _⟩ => ⟨S4x8192x8192, .i32⟩
  | .hbm, ⟨27, _⟩ => ⟨S4x8192x8192, .i32⟩
  | .hbm, ⟨28, _⟩ => ⟨S4x8192x8192, .i1⟩
  | .hbm, ⟨29, _⟩ => ⟨S1x8192x8192, .i32⟩
  | .hbm, ⟨30, _⟩ => ⟨S1x8192x8192, .i32⟩
  | .hbm, ⟨31, _⟩ => ⟨S1x8192x8192, .i1⟩
  | .hbm, ⟨32, _⟩ => ⟨S4x8192x8192, .i1⟩
  | .hbm, ⟨33, _⟩ => ⟨S4x8192x8192, .i1⟩
  | .hbm, ⟨34, _⟩ => ⟨S4x8192x8192, .f32⟩
  | .hbm, ⟨35, _⟩ => ⟨S_, .i32⟩
  | .hbm, ⟨36, _⟩ => ⟨S1x8192x1, .i32⟩
  | .hbm, ⟨37, _⟩ => ⟨S1x8192x1, .i32⟩
  | .hbm, ⟨38, _⟩ => ⟨S4x8192x1, .i32⟩
  | .hbm, ⟨39, _⟩ => ⟨S4x8192x1, .i32⟩
  | .hbm, ⟨40, _⟩ => ⟨S4x8192x1, .f32⟩
  | .hbm, ⟨41, _⟩ => ⟨S4x8192x8192, .f32⟩
  | .hbm, ⟨42, _⟩ => ⟨S4x8192x8192, .f32⟩
  | .hbm, ⟨43, _⟩ => ⟨S8192x4x128, .f32⟩
  | .hbm, ⟨44, _⟩ => ⟨S8192x4x128, .f32⟩
  | .hbm, ⟨45, _⟩ => ⟨S4x128x8192, .f32⟩
  | .hbm, ⟨46, _⟩ => ⟨S4x128x8192, .f32⟩
  | .hbm, ⟨47, _⟩ => ⟨S8192x4x128, .f32⟩
  | .hbm, ⟨48, _⟩ => ⟨S8192x4x128, .f32⟩
  | .hbm, ⟨49, _⟩ => ⟨S8192x512, .f32⟩
  | .hbm, ⟨50, _⟩ => ⟨S8192x512, .f32⟩
  | .hbm, ⟨51, _⟩ => ⟨S8192x128, .f32⟩
  | .hbm, ⟨52, _⟩ => ⟨S8192x128, .f32⟩
  | .hbm, ⟨53, _⟩ => ⟨S8192x1280, .f32⟩
  | .hbm, ⟨54, _⟩ => ⟨S1280x1024, .f32⟩
  | .hbm, ⟨55, _⟩ => ⟨S_, .f32⟩
  | .hbm, ⟨56, _⟩ => ⟨S1x1280, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1024x1280, .f32⟩
  | .hbm, ⟨77, _⟩ => ⟨S8192x1280, .f32⟩
  | .hbm, ⟨78, _⟩ => ⟨S8192x1280, .f32⟩
  | .hbm, ⟨79, _⟩ => ⟨S8192x1280, .f32⟩
  | .hbm, ⟨80, _⟩ => ⟨S_, .f32⟩
  | .hbm, ⟨81, _⟩ => ⟨S1280, .f32⟩
  | .hbm, ⟨82, _⟩ => ⟨S1x1280, .f32⟩
  | .hbm, ⟨83, _⟩ => ⟨S1280x1024, .f32⟩
  | .hbm, ⟨84, _⟩ => ⟨S1024x1280, .f32⟩
  | .hbm, ⟨85, _⟩ => ⟨S8192x1024, .f32⟩
  | .hbm, ⟨86, _⟩ => ⟨S1280x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Kernel5.lean ====
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩
abbrev S176x1024 : Shape := ⟨2, ![176, 1024]⟩

abbrev nBuf : Space → Nat
  | .hbm => 36
  | .vmem => 42
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S1x1024x704, .f32⟩
  | .hbm, ⟨7, _⟩ => ⟨S1x1024x704, .f32⟩
  | .hbm, ⟨8, _⟩ => ⟨S1x704x1024, .f32⟩
  | .hbm, ⟨9, _⟩ => ⟨S1x1024x704, .f32⟩
  | .hbm, ⟨10, _⟩ => ⟨S1x1024x704, .f32⟩
  | .hbm, ⟨11, _⟩ => ⟨S1x704x1024, .f32⟩
  | .hbm, ⟨12, _⟩ => ⟨S1024x704, .f32⟩
  | .hbm, ⟨13, _⟩ => ⟨S704x1024, .f32⟩
  | .hbm, ⟨14, _⟩ => ⟨S1024x704, .f32⟩
  | .hbm, ⟨15, _⟩ => ⟨S704x1024, .f32⟩
  | .hbm, ⟨16, _⟩ => ⟨S704x1024, .f32⟩
  | .hbm, ⟨17, _⟩ => ⟨S1024x704, .f32⟩
  | .hbm, ⟨18, _⟩ => ⟨S704x1024, .f32⟩
  | .hbm, ⟨19, _⟩ => ⟨S1024x704, .f32⟩
  | .hbm, ⟨20, _⟩ => ⟨S704x1024, .f32⟩
  | .hbm, ⟨21, _⟩ => ⟨S704x1024, .f32⟩
  | .hbm, ⟨22, _⟩ => ⟨S1024x704, .f32⟩
  | .hbm, ⟨23, _⟩ => ⟨S704x1024, .f32⟩
  | .hbm, ⟨24, _⟩ => ⟨S1024x704, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S176x1024, .f32⟩
  | .local _ .vmem, ⟨33, _⟩ => ⟨S176x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev main_v15_7 : Ref sig .tc := ⟨.hbm, 34, rfl⟩
abbrev main_v15_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference5Ideal.lean ====
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩
abbrev S_ : Shape := ⟨0, ![]⟩

abbrev nBuf : Space → Nat
  | .hbm => 128
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S1x1024x704, .f32⟩
  | .hbm, ⟨7, _⟩ => ⟨S1x1024x704, .f32⟩
  | .hbm, ⟨8, _⟩ => ⟨S1x704x1024, .f32⟩
  | .hbm, ⟨9, _⟩ => ⟨S1x1024x704, .f32⟩
  | .hbm, ⟨10, _⟩ => ⟨S1x1024x704, .f32⟩
  | .hbm, ⟨11, _⟩ => ⟨S1x704x1024, .f32⟩
  | .hbm, ⟨12, _⟩ => ⟨S1024x704, .f32⟩
  | .hbm, ⟨13, _⟩ => ⟨S1024x704, .f32⟩
  | .hbm, ⟨14, _⟩ => ⟨S704x1024, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S704x1024, .f32⟩
  | .hbm, ⟨20, _⟩ => ⟨S1024x704, .f32⟩
  | .hbm, ⟨21, _⟩ => ⟨S1024x704, .f32⟩
  | .hbm, ⟨22, _⟩ => ⟨S704x1024, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S_, .f32⟩
  | .hbm, ⟨42, _⟩ => ⟨S1024x704, .f32⟩
  | .hbm, ⟨43, _⟩ => ⟨S1024x704, .f32⟩
  | .hbm, ⟨44, _⟩ => ⟨S1024x704, .f32⟩
  | .hbm, ⟨45, _⟩ => ⟨S_, .f32⟩
  | .hbm, ⟨46, _⟩ => ⟨S1024x704, .f32⟩
  | .hbm, ⟨47, _⟩ => ⟨S1024x704, .f32⟩
  | .hbm, ⟨48, _⟩ => ⟨S1024x704, .f32⟩
  | .hbm, ⟨49, _⟩ => ⟨S_, .f32⟩
  | .hbm, ⟨50, _⟩ => ⟨S1024x704, .f32⟩
  | .hbm, ⟨51, _⟩ => ⟨S1024x704, .f32⟩
  | .hbm, ⟨52, _⟩ => ⟨S1024x704, .f32⟩
  | .hbm, ⟨53, _⟩ => ⟨S_, .f32⟩
  | .hbm, ⟨54, _⟩ => ⟨S1024x704, .f32⟩
  | .hbm, ⟨55, _⟩ => ⟨S1024x704, .f32⟩
  | .hbm, ⟨56, _⟩ => ⟨S_, .f32⟩
  | .hbm, ⟨57, _⟩ => ⟨S1024x704, .f32⟩
  | .hbm, ⟨58, _⟩ => ⟨S1024x704, .f32⟩
  | .hbm, ⟨59, _⟩ => ⟨S_, .f32⟩
  | .hbm, ⟨60, _⟩ => ⟨S1024x704, .f32⟩
  | .hbm, ⟨61, _⟩ => ⟨S1024x704, .f32⟩
  | .hbm, ⟨62, _⟩ => ⟨S1024x704, .f32⟩
  | .hbm, ⟨63, _⟩ => ⟨S_, .f32⟩
  | .hbm, ⟨64, _⟩ => ⟨S1024x704, .f32⟩
  | .hbm, ⟨65, _⟩ => ⟨S1024x704, .f32⟩
  | .hbm, ⟨66, _⟩ => ⟨S1024x704, .f32⟩
  | .hbm, ⟨67, _⟩ => ⟨S_, .f32⟩
  | .hbm, ⟨68, _⟩ => ⟨S1024x704, .f32⟩
  | .hbm, ⟨69, _⟩ => ⟨S1024x704, .f32⟩
  | .hbm, ⟨70, _⟩ => ⟨S1024x704, .f32⟩
  | .hbm, ⟨71, _⟩ => ⟨S_, .f32⟩
  | .hbm, ⟨72, _⟩ => ⟨S1024x704, .f32⟩
  | .hbm, ⟨73, _⟩ => ⟨S1024x704, .f32⟩
  | .hbm, ⟨74, _⟩ => ⟨S_, .f32⟩
  | .hbm, ⟨75, _⟩ => ⟨S1024x704, .f32⟩
  | .hbm, ⟨76, _⟩ => ⟨S1024x704, .f32⟩
  | .hbm, ⟨77, _⟩ => ⟨S1024x704, .f32⟩
  | .hbm, ⟨78, _⟩ => ⟨S_, .f32⟩
  | .hbm, ⟨79, _⟩ => ⟨S1024x704, .f32⟩
  | .hbm, ⟨80, _⟩ => ⟨S1024x704, .f32⟩
  | .hbm, ⟨81, _⟩ => ⟨S1024x704, .f32⟩
  | .hbm, ⟨82, _⟩ => ⟨S_, .f32⟩
  | .hbm, ⟨83, _⟩ => ⟨S1024x704, .f32⟩
  | .hbm, ⟨84, _⟩ => ⟨S1024x704, .f32⟩
  | .hbm, ⟨85, _⟩ => ⟨S1024x704, .f32⟩
  | .hbm, ⟨86, _⟩ => ⟨S_, .f32⟩
  | .hbm, ⟨87, _⟩ => ⟨S1024x704, .f32⟩
  | .hbm, ⟨88, _⟩ => ⟨S1024x704, .f32⟩
  | .hbm, ⟨89, _⟩ => ⟨S_, .f32⟩
  | .hbm, ⟨90, _⟩ => ⟨S704x1024, .f32⟩
  | .hbm, ⟨91, _⟩ => ⟨S704x1024, .f32⟩
  | .hbm, ⟨92, _⟩ => ⟨S_, .f32⟩
  | .hbm, ⟨93, _⟩ => ⟨S704x1024, .f32⟩
  | .hbm, ⟨94, _⟩ => ⟨S704x1024, .f32⟩
  | .hbm, ⟨95, _⟩ => ⟨S704x1024, .f32⟩
  | .hbm, ⟨96, _⟩ => ⟨S_, .f32⟩
  | .hbm, ⟨97, _⟩ => ⟨S704x1024, .f32⟩
  | .hbm, ⟨98, _⟩ => ⟨S704x1024, .f32⟩
  | .hbm, ⟨99, _⟩ => ⟨S704x1024, .f32⟩
  | .hbm, ⟨100, _⟩ => ⟨S_, .f32⟩
  | .hbm, ⟨101, _⟩ => ⟨S704x1024, .f32⟩
  | .hbm, ⟨102, _⟩ => ⟨S704x1024, .f32⟩
  | .hbm, ⟨103, _⟩ => ⟨S704x1024, .f32⟩
  | .hbm, ⟨104, _⟩ => ⟨S_, .f32⟩
  | .hbm, ⟨105, _⟩ => ⟨S704x1024, .f32⟩
  | .hbm, ⟨106, _⟩ => ⟨S704x1024, .f32⟩
  | .hbm, ⟨107, _⟩ => ⟨S_, .f32⟩
  | .hbm, ⟨108, _⟩ => ⟨S704x1024, .f32⟩
  | .hbm, ⟨109, _⟩ => ⟨S704x1024, .f32⟩
  | .hbm, ⟨110, _⟩ => ⟨S704x1024, .f32⟩
  | .hbm, ⟨111, _⟩ => ⟨S_, .f32⟩
  | .hbm, ⟨112, _⟩ => ⟨S704x1024, .f32⟩
  | .hbm, ⟨113, _⟩ => ⟨S704x1024, .f32⟩
  | .hbm, ⟨114, _⟩ => ⟨S704x1024, .f32⟩
  | .hbm, ⟨115, _⟩ => ⟨S_, .f32⟩
  | .hbm, ⟨116, _⟩ => ⟨S704x1024, .f32⟩
  | .hbm, ⟨117, _⟩ => ⟨S704x1024, .f32⟩
  | .hbm, ⟨118, _⟩ => ⟨S704x1024, .f32⟩
  | .hbm, ⟨119, _⟩ => ⟨S_, .f32⟩
  | .hbm, ⟨120, _⟩ => ⟨S704x1024, .f32⟩
  | .hbm, ⟨121, _⟩ => ⟨S704x1024, .f32⟩
  | .hbm, ⟨122, _⟩ => ⟨S704x1024, .f32⟩
  | .hbm, ⟨123, _⟩ => ⟨S704x1024, .f32⟩
  | .hbm, ⟨124, _⟩ => ⟨S704x1024, .f32⟩
  | .hbm, ⟨125, _⟩ => ⟨S704x1024, .f32⟩
  | .hbm, ⟨126, _⟩ => ⟨S704x1024, .f32⟩
  | .hbm, ⟨127, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_16 : Ref sig .tc := ⟨.hbm, 86, rfl⟩
abbrev main_v57 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_v60 : Ref sig .tc := ⟨.hbm, 91, rfl⟩
abbrev main_cst_18 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_19 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_20 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_21 : Ref sig .tc := ⟨.hbm, 104, rfl⟩
abbrev main_v70 : Ref sig .tc := ⟨.hbm, 105, rfl⟩
abbrev main_v71 : Ref sig .tc := ⟨.hbm, 106, rfl⟩
abbrev main_cst_22 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_23 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_24 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_25 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]
-- ==== Kernel6.lean ====
abbrev S1x1024x320 : Shape := ⟨3, ![1, 1024, 320]⟩
abbrev S1x256x1024 : Shape := ⟨3, ![1, 256, 1024]⟩
abbrev S320x1024 : Shape := ⟨2, ![320, 1024]⟩
abbrev S256x1024 : Shape := ⟨2, ![256, 1024]⟩
abbrev S1024x320 : Shape := ⟨2, ![1024, 320]⟩
abbrev S80x1024 : Shape := ⟨2, ![80, 1024]⟩
abbrev S64x1024 : Shape := ⟨2, ![64, 1024]⟩

abbrev nBuf : Space → Nat
  | .hbm => 23
  | .vmem => 28
  | .smem => 0
  | _ => 0

abbrev bufTy : (tb : Table) → Fin (tcTables nBuf tb) → BufTy
  | .hbm, ⟨0, _⟩ => ⟨S1x1024x320, .f32⟩
  | .hbm, ⟨1, _⟩ => ⟨S1x256x1024, .f32⟩
  | .hbm, ⟨2, _⟩ => ⟨S320x1024, .f32⟩
  | .hbm, ⟨3, _⟩ => ⟨S256x1024, .f32⟩
  | .hbm, ⟨4, _⟩ => ⟨S1x1024x320, .f32⟩
  | .hbm, ⟨5, _⟩ => ⟨S1x256x1024, .f32⟩
  | .hbm, ⟨6, _⟩ => ⟨S1x1024x320, .f32⟩
  | .hbm, ⟨7, _⟩ => ⟨S1x256x1024, .f32⟩
  | .hbm, ⟨8, _⟩ => ⟨S1024x320, .f32⟩
  | .hbm, ⟨9, _⟩ => ⟨S320x1024, .f32⟩
  | .hbm, ⟨10, _⟩ => ⟨S256x1024, .f32⟩
  | .hbm, ⟨11, _⟩ => ⟨S1024x320, .f32⟩
  | .hbm, ⟨12, _⟩ => ⟨S320x1024, .f32⟩
  | .hbm, ⟨13, _⟩ => ⟨S256x1024, .f32⟩
  | .hbm, ⟨14, _⟩ => ⟨S1024x320, .f32⟩
  | .hbm, ⟨15, _⟩ => ⟨S320x1024, .f32⟩
  | .hbm, ⟨16, _⟩ => ⟨S256x1024, .f32⟩
  | .hbm, ⟨17, _⟩ => ⟨S320x1024, .f32⟩
  | .hbm, ⟨18, _⟩ => ⟨S256x1024, .f32⟩
  | .hbm, ⟨19, _⟩ => ⟨S320x1024, .f32⟩
  | .hbm, ⟨20, _⟩ => ⟨S256x1024, .f32⟩
  | .hbm, ⟨21, _⟩ => ⟨S320x1024, .f32⟩
  | .hbm, ⟨22, _⟩ => ⟨S256x1024, .f32⟩
  | .local _ .vmem, ⟨0, _⟩ => ⟨S80x1024, .f32⟩
  | .local _ .vmem, ⟨1, _⟩ => ⟨S80x1024, .f32⟩
  | .local _ .vmem, ⟨2, _⟩ => ⟨S64x1024, .f32⟩
  | .local _ .vmem, ⟨3, _⟩ => ⟨S64x1024, .f32⟩
  | .local _ .vmem, ⟨4, _⟩ => ⟨S80x1024, .f32⟩
  | .local _ .vmem, ⟨5, _⟩ => ⟨S80x1024, .f32⟩
  | .local _ .vmem, ⟨6, _⟩ => ⟨S64x1024, .f32⟩
  | .local _ .vmem, ⟨7, _⟩ => ⟨S64x1024, .f32⟩
  | .local _ .vmem, ⟨8, _⟩ => ⟨S80x1024, .f32⟩
  | .local _ .vmem, ⟨9, _⟩ => ⟨S80x1024, .f32⟩
  | .local _ .vmem, ⟨10, _⟩ => ⟨S64x1024, .f32⟩
  | .local _ .vmem, ⟨11, _⟩ => ⟨S64x1024, .f32⟩
  | .local _ .vmem, ⟨12, _⟩ => ⟨S80x1024, .f32⟩
  | .local _ .vmem, ⟨13, _⟩ => ⟨S80x1024, .f32⟩
  | .local _ .vmem, ⟨14, _⟩ => ⟨S64x1024, .f32⟩
  | .local _ .vmem, ⟨15, _⟩ => ⟨S64x1024, .f32⟩
  | .local _ .vmem, ⟨16, _⟩ => ⟨S80x1024, .f32⟩
  | .local _ .vmem, ⟨17, _⟩ => ⟨S80x1024, .f32⟩
  | .local _ .vmem, ⟨18, _⟩ => ⟨S64x1024, .f32⟩
  | .local _ .vmem, ⟨19, _⟩ => ⟨S64x1024, .f32⟩
  | .local _ .vmem, ⟨20, _⟩ => ⟨S80x1024, .f32⟩
  | .local _ .vmem, ⟨21, _⟩ => ⟨S80x1024, .f32⟩
  | .local _ .vmem, ⟨22, _⟩ => ⟨S64x1024, .f32⟩
  | .local _ .vmem, ⟨23, _⟩ => ⟨S64x1024, .f32⟩
  | .local _ .vmem, ⟨24, _⟩ => ⟨S80x1024, .f32⟩
  | .local _ .vmem, ⟨25, _⟩ => ⟨S80x1024, .f32⟩
  | .local _ .vmem, ⟨26, _⟩ => ⟨S64x1024, .f32⟩
  | .local _ .vmem, ⟨27, _⟩ => ⟨S64x1024, .f32⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S80x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S80x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S1x1024x320 : Shape := ⟨3, ![1, 1024, 320]⟩
abbrev S1x256x1024 : Shape := ⟨3, ![1, 256, 1024]⟩
abbrev S320x1024 : Shape := ⟨2, ![320, 1024]⟩
abbrev S256x1024 : Shape := ⟨2, ![256, 1024]⟩
abbrev S1024x320 : Shape := ⟨2, ![1024, 320]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S1x1024x320, .f32⟩
  | .hbm, ⟨1, _⟩ => ⟨S1x256x1024, .f32⟩
  | .hbm, ⟨2, _⟩ => ⟨S320x1024, .f32⟩
  | .hbm, ⟨3, _⟩ => ⟨S256x1024, .f32⟩
  | .hbm, ⟨4, _⟩ => ⟨S1x1024x320, .f32⟩
  | .hbm, ⟨5, _⟩ => ⟨S1x256x1024, .f32⟩
  | .hbm, ⟨6, _⟩ => ⟨S1x1024x320, .f32⟩
  | .hbm, ⟨7, _⟩ => ⟨S1x256x1024, .f32⟩
  | .hbm, ⟨8, _⟩ => ⟨S1024x320, .f32⟩
  | .hbm, ⟨9, _⟩ => ⟨S256x1024, .f32⟩
  | .hbm, ⟨10, _⟩ => ⟨S1024x320, .f32⟩
  | .hbm, ⟨11, _⟩ => ⟨S1024x320, .f32⟩
  | .hbm, ⟨12, _⟩ => ⟨S256x1024, .f32⟩
  | .hbm, ⟨13, _⟩ => ⟨S1024x320, .f32⟩
  | .hbm, ⟨14, _⟩ => ⟨S256x1024, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S_, .f32⟩
  | .hbm, ⟨19, _⟩ => ⟨S1024x320, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S_, .f32⟩
  | .hbm, ⟨34, _⟩ => ⟨S1024x320, .f32⟩
  | .hbm, ⟨35, _⟩ => ⟨S1024x320, .f32⟩
  | .hbm, ⟨36, _⟩ => ⟨S1024x320, .f32⟩
  | .hbm, ⟨37, _⟩ => ⟨S_, .f32⟩
  | .hbm, ⟨38, _⟩ => ⟨S1024x320, .f32⟩
  | .hbm, ⟨39, _⟩ => ⟨S1024x320, .f32⟩
  | .hbm, ⟨40, _⟩ => ⟨S1024x320, .f32⟩
  | .hbm, ⟨41, _⟩ => ⟨S_, .f32⟩
  | .hbm, ⟨42, _⟩ => ⟨S1024x320, .f32⟩
  | .hbm, ⟨43, _⟩ => ⟨S1024x320, .f32⟩
  | .hbm, ⟨44, _⟩ => ⟨S1024x320, .f32⟩
  | .hbm, ⟨45, _⟩ => ⟨S_, .f32⟩
  | .hbm, ⟨46, _⟩ => ⟨S1024x320, .f32⟩
  | .hbm, ⟨47, _⟩ => ⟨S1024x320, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S_, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S_, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S_, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S_, .f32⟩
  | .hbm, ⟨71, _⟩ => ⟨S256x1024, .f32⟩
  | .hbm, ⟨72, _⟩ => ⟨S256x1024, .f32⟩
  | .hbm, ⟨73, _⟩ => ⟨S256x1024, .f32⟩
  | .hbm, ⟨74, _⟩ => ⟨S_, .f32⟩
  | .hbm, ⟨75, _⟩ => ⟨S256x1024, .f32⟩
  | .hbm, ⟨76, _⟩ => ⟨S256x1024, .f32⟩
  | .hbm, ⟨77, _⟩ => ⟨S256x1024, .f32⟩
  | .hbm, ⟨78, _⟩ => ⟨S_, .f32⟩
  | .hbm, ⟨79, _⟩ => ⟨S256x1024, .f32⟩
  | .hbm, ⟨80, _⟩ => ⟨S256x1024, .f32⟩
  | .hbm, ⟨81, _⟩ => ⟨S320x1024, .f32⟩
  | .hbm, ⟨82, _⟩ => ⟨S320x1024, .f32⟩
  | .hbm, ⟨83, _⟩ => ⟨S320x1024, .f32⟩
  | _, _ => ⟨S1x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== Proof.Vocab.lean ====
/- The body of the kernel at one grid point, as a few named vector functions: what a point computes from its blocks,
   whatever the float values are. Each printed payload is one of these (`rfl`), so the facts about them are stated once
   and not once for each of the four shards. -/
module

public import proofs.«01_k».proof.Proof.Gen.KernelIdeal.Value
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe

variable {F : FTy → Type} [FloatOps F]

/-- A block of rows times the transpose of a shard of weights. -/
def dotT (a : FVec F S256x1024 .bf16) (w : Vec F S1x704x1024 .bf16) : FVec F S256x704 .f32 :=
  matmul dot_S256x1024_S704x1024_S256x704_1_1_0_0_n_n none a (shapeCast S704x1024 w shapeCasts_S1x704x1024_S704x1024)
    (constant S256x704 .f32 0x00000000#32)

/-- A block of hidden rows times a shard of weights. -/
def dotN (a : FVec F S256x704 .bf16) (w : Vec F S1x704x1024 .bf16) : FVec F S256x1024 .f32 :=
  matmul dot_S256x704_S704x1024_S256x1024_1_0_0_1_n_n none a (shapeCast S704x1024 w shapeCasts_S1x704x1024_S704x1024)
    (constant S256x1024 .f32 0x00000000#32)

/-- The gated activation. -/
def actV (gate up : FVec F S256x704 .f32) : FVec F S256x704 .bf16 :=
  truncf .bf16 (mulf (mulf gate (logistic gate)) up) bitsLt_bf16_f32

/-- The gradient of the up projection. -/
def dupV (dact gate : FVec F S256x704 .f32) : FVec F S256x704 .bf16 :=
  truncf .bf16 (mulf dact (mulf gate (logistic gate))) bitsLt_bf16_f32

/-- The gradient of the gate's input. -/
def dgateV (dact gate up : FVec F S256x704 .f32) : FVec F S256x704 .bf16 :=
  truncf .bf16 (mulf (mulf dact up) (mulf (logistic gate)
    (addf (broadcast S256x704 (Scalar.ofBits .f32 0x3F800000#32))
      (mulf gate (subf (broadcast S256x704 (Scalar.ofBits .f32 0x3F800000#32)) (logistic gate)))))) bitsLt_bf16_f32

/-- The error against the target. -/
def errV (xh : FVec F S256x1024 .f32) (gf : Vec F S1x1024 .f32) (tg : Vec F S256x1024 .f32) : FVec F S256x1024 .f32 :=
  subf (mulf xh (broadcastTo S256x1024 (k0_pay38 gf) broadcasts_S1x1024_S256x1024)) tg

/-- The block's part of the loss, in every lane. -/
def lossV (err : FVec F S256x1024 .f32) : FVec F S1x128 .f32 :=
  broadcast S1x128 (Scalar.divf (Scalar.mulf (Scalar.ofBits .f32 0x3F000000#32)
    (extractAt ![0, 0, 0] (shapeCast S1x1x1 (multiReduction .add [1, 2] S1
      (shapeCast S1x256x1024 (mulf err err) shapeCasts_S256x1024_S1x256x1024) 0x00000000#32 reduces_S1x256x1024_S1
      (.inl rfl) rfl) shapeCasts_S1_S1x1x1) inpos_S1x1x1_p0_0_0)) (Scalar.ofBits .f32 0x44800000#32))

/-- A hidden block as a shard's slice of a stored array, and back. -/
def pack {φ : FTy} (v : FVec F S256x704 φ) : FVec F S1x256x704 φ :=
  shapeCast S1x256x704 v shapeCasts_S256x704_S1x256x704
@[inherit_doc pack] def unpack {φ : FTy} (v : FVec F S1x256x704 φ) : FVec F S256x704 φ :=
  shapeCast S256x704 v shapeCasts_S1x256x704_S256x704

theorem unpack_pack {φ : FTy} (v : FVec F S256x704 φ) : unpack (pack v) = v := by
  funext i
  idx_vars i
  pointwise [unpack, pack]

/-! ## One point's stages -/

variable (h : Vec F S256x1024 .bf16) (x tg : Vec F S256x1024 .f32) (wg wu wd : Fin 4 → Vec F S1x704x1024 .bf16)
  (g gf : Vec F S1x1024 .f32)

/-- The gate's input at shard `s`. -/
def gateB (s : Fin 4) := dotT (k0_pay6 h) (wg s)
/-- The up projection at shard `s`. -/
def upB (s : Fin 4) := dotT (k0_pay6 h) (wu s)
/-- The activation at shard `s`. -/
def actB (s : Fin 4) := actV (gateB h wg s) (upB h wu s)
/-- The output with the residual. -/
def x2B := addf (addf (addf (addf x (dotN (actB h wg wu 0) (wd 0))) (dotN (actB h wg wu 1) (wd 1)))
  (dotN (actB h wg wu 2) (wd 2))) (dotN (actB h wg wu 3) (wd 3))
/-- The error. -/
def errB := errV (k0_pay81 (x2B h x wg wu wd)) gf tg
/-- The gradient of the output. -/
def dx2B := k0_pay45 (k0_pay80 (x2B h x wg wu wd)) (k0_pay81 (x2B h x wg wu wd)) (k0_pay38 gf) (errB h x tg wg wu wd gf)
/-- The gradient of the activation at shard `s`. -/
def dactB (s : Fin 4) := dotT (truncf .bf16 (dx2B h x tg wg wu wd gf) bitsLt_bf16_f32) (wd s)
/-- The gradient of the up projection at shard `s`. -/
def dupB (s : Fin 4) := dupV (dactB h x tg wg wu wd gf s) (gateB h wg s)
/-- The gradient of the gate's input at shard `s`. -/
def dgateB (s : Fin 4) := dgateV (dactB h x tg wg wu wd gf s) (gateB h wg s) (upB h wu s)
/-- The part of the normalised rows' gradient that comes through shard `s`. -/
def dhS (s : Fin 4) := addf (dotN (dgateB h x tg wg wu wd gf s) (wg s)) (dotN (dupB h x tg wg wu wd gf s) (wu s))
/-- The gradient of the normalised rows. -/
def dhB := addf (addf (addf (dhS h x tg wg wu wd gf 0) (dhS h x tg wg wu wd gf 1)) (dhS h x tg wg wu wd gf 2))
  (dhS h x tg wg wu wd gf 3)
/-- The gradient of the rows. -/
def dx1B := k0_pay2 (dx2B h x tg wg wu wd gf) (dhB h x tg wg wu wd gf) (k0_pay80 x) (k0_pay81 x) g

end Cert.KernelIdeal.Body
-- ==== Proof.Spec.lean ====
/- The mathematics of the feed-forward block's forward and backward pass, over the real numbers: what every row of
   the block is, and the two identities by which a derivative written by the chain rule equals the one the kernel
   writes (the gradient of a root-mean-square norm, the gradient of a silu gate). -/
module

public import Idealize.ShloMosaic.PureOps.Ideal.Laws
public import Idealize.ShloMosaic.Lib.IdealHost

@[expose] public section

noncomputable section

namespace Ffn

open Finset

/-- The norm's epsilon: the rational number that the f32 word for 1e-5 stands for. -/
def eps : ℝ := 10995116 / 1099511627776

theorem eps_pos : 0 < eps := by norm_num [eps]

/-- The mean of the squares of a row. -/
def ms (x : Fin 1024 → ℝ) : ℝ := (∑ k, x k * x k) / 1024

theorem ms_eps_pos (x : Fin 1024 → ℝ) : 0 < ms x + eps :=
  add_pos_of_nonneg_of_pos (div_nonneg (sum_nonneg fun k _ => mul_self_nonneg (x k)) (by norm_num)) eps_pos

/-- The reciprocal root mean square of a row. -/
def rs (x : Fin 1024 → ℝ) : ℝ := (√(ms x + eps))⁻¹

/-- A row divided by its root mean square. -/
def nrm (x : Fin 1024 → ℝ) (k : Fin 1024) : ℝ := x k * rs x

/-- The logistic function. -/
def sg (a : ℝ) : ℝ := (1 + Real.exp (-a))⁻¹

/-- The gradient of a root-mean-square norm at a row `x`, for the gradient `dh` of the normalised row: `r` is the
    row's reciprocal root mean square, `xh` the normalised row. -/
def back (dh xh : Fin 1024 → ℝ) (r : ℝ) (k : Fin 1024) : ℝ :=
  r * (dh k - xh k * ((∑ j, dh j * xh j) / 1024))

theorem rs_sq (x : Fin 1024 → ℝ) : rs x * rs x = 1 / (ms x + eps) := by
  rw [rs, ← mul_inv, Real.mul_self_sqrt (ms_eps_pos x).le, one_div]

/-- The chain rule's form of the norm's gradient (through the division, the mean and the square) is `back`. -/
theorem back_chain (dh x : Fin 1024 → ℝ) (k : Fin 1024) :
    dh k * rs x + x k * ((∑ j, x j * dh j) * (-(1 / 2) * (rs x / (ms x + eps))) / 1024)
        + (∑ j, x j * dh j) * (-(1 / 2) * (rs x / (ms x + eps))) / 1024 * x k
      = back dh (nrm x) (rs x) k := by
  have h1 : (∑ j, dh j * nrm x j) = (∑ j, x j * dh j) * rs x := by
    rw [sum_mul]; exact sum_congr rfl fun j _ => by rw [nrm]; ring
  have h2 : rs x / (ms x + eps) = rs x * (rs x * rs x) := by rw [rs_sq]; ring
  rw [back, h1, h2, nrm]
  ring

/-! ## The block, row by row -/

/-- The arrays that the block takes: the rows `x`, the norm's weights `g`, the gate, up and down matrices, the last
    norm's weights `gf` and the target. -/
structure Args where
  /-- the block's rows -/
  x : Fin 8192 → Fin 1024 → ℝ
  /-- the weights of the norm before the block -/
  g : Fin 1024 → ℝ
  /-- the gate matrix -/
  wg : Fin 1024 → Fin 2816 → ℝ
  /-- the up matrix -/
  wu : Fin 1024 → Fin 2816 → ℝ
  /-- the down matrix -/
  wd : Fin 2816 → Fin 1024 → ℝ
  /-- the weights of the last norm -/
  gf : Fin 1024 → ℝ
  /-- the target -/
  tg : Fin 8192 → Fin 1024 → ℝ

namespace Args

variable (A : Args)

/-- The normalised row that goes into the block. -/
def h (t : Fin 8192) (k : Fin 1024) : ℝ := nrm (A.x t) k * A.g k
/-- The gate's input. -/
def gate (t : Fin 8192) (c : Fin 2816) : ℝ := ∑ k, A.h t k * A.wg k c
/-- The up projection. -/
def up (t : Fin 8192) (c : Fin 2816) : ℝ := ∑ k, A.h t k * A.wu k c
/-- The gated activation. -/
def act (t : Fin 8192) (c : Fin 2816) : ℝ := A.gate t c * sg (A.gate t c) * A.up t c
/-- The block's output with the residual. -/
def x2 (t : Fin 8192) (k : Fin 1024) : ℝ := A.x t k + ∑ c, A.act t c * A.wd c k
/-- The error against the target. -/
def err (t : Fin 8192) (k : Fin 1024) : ℝ := nrm (A.x2 t) k * A.gf k - A.tg t k
/-- The loss: half the sum over rows of the mean square error. -/
def loss : ℝ := ∑ t, 1 / 2 * ((∑ k, A.err t k * A.err t k) / 1024)
/-- The gradient of the last norm's output. -/
def dy (t : Fin 8192) (k : Fin 1024) : ℝ := A.err t k / 1024
/-- The gradient of the last norm's weights. -/
def dgf (k : Fin 1024) : ℝ := ∑ t, A.dy t k * nrm (A.x2 t) k
/-- The gradient of the block's output. -/
def dx2 (t : Fin 8192) : Fin 1024 → ℝ := back (fun k => A.dy t k * A.gf k) (nrm (A.x2 t)) (rs (A.x2 t))
/-- The gradient of the activation. -/
def dact (t : Fin 8192) (c : Fin 2816) : ℝ := ∑ k, A.dx2 t k * A.wd c k
/-- The gradient of the up projection. -/
def dup (t : Fin 8192) (c : Fin 2816) : ℝ := A.dact t c * (A.gate t c * sg (A.gate t c))
/-- The gradient of the gate's input. -/
def dgate (t : Fin 8192) (c : Fin 2816) : ℝ :=
  A.dact t c * A.up t c * (sg (A.gate t c) * (1 + A.gate t c * (1 - sg (A.gate t c))))
/-- The gradient of the normalised row. -/
def dh (t : Fin 8192) (k : Fin 1024) : ℝ := (∑ c, A.dgate t c * A.wg k c) + ∑ c, A.dup t c * A.wu k c
/-- The gradient of the first norm's weights. -/
def dg (k : Fin 1024) : ℝ := ∑ t, A.dh t k * nrm (A.x t) k
/-- The gradient of the block's rows. -/
def dx1 (t : Fin 8192) (k : Fin 1024) : ℝ :=
  A.dx2 t k + back (fun k => A.dh t k * A.g k) (nrm (A.x t)) (rs (A.x t)) k

end Args

/-! ## The four shards of the hidden width -/

/-- The column of the hidden width that sits at lane `f` of the shard `s`. -/
def col (s : Fin 4) (f : Fin 704) : Fin 2816 := ⟨704 * s.val + f.val, by omega⟩

/-- A sum over the hidden width, shard by shard. -/
theorem sum_col (F : Fin 2816 → ℝ) : ∑ c, F c = ∑ s : Fin 4, ∑ f : Fin 704, F (col s f) := by
  rw [← Fintype.sum_prod_type', ← Equiv.sum_comp (finProdFinEquiv (m := 4) (n := 704)) F]
  refine sum_congr rfl fun p _ => congrArg F (Fin.ext ?_)
  show p.2.val + 704 * p.1.val = 704 * p.1.val + p.2.val
  omega

/-! ## Real sums inside the extended reals -/

/-- A finite sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Ffn
-- ==== Proof.Reals.lean ====
/- The float operations of the two programs at real arguments: at the extended reals a quotient by a nonzero real, a
   reciprocal root of a positive real and a logistic are the real ones, and the literals are these rationals. -/
module

public import proofs.«01_k».proof.Proof.Spec

@[expose] public section

noncomputable section

namespace Ffn

open Idealize.ShloMosaic

/-- A quotient of reals by a nonzero real. -/
theorem div_real (a : ℝ) {b : ℝ} (h : b ≠ 0) : Ideal.div (a : EReal) (b : EReal) = ((a / b : ℝ) : EReal) := by
  rw [Ideal.div_coe h, ← EReal.coe_mul, mul_one_div]

/-- The reciprocal root of a row's mean square plus epsilon is the row's reciprocal root mean square. -/
theorem rsqrt_ms (x : Fin 1024 → ℝ) : Ideal.rsqrt ((ms x + eps : ℝ) : EReal) = ((rs x : ℝ) : EReal) := by
  rw [Ideal.rsqrt_coe, if_neg (ms_eps_pos x).le.not_gt, if_neg (ms_eps_pos x).ne', rs]

theorem sg_ne (a : ℝ) : (1 + Real.exp (-a)) ≠ 0 := by positivity

/-- The logistic function. -/
theorem logistic_real (a : ℝ) : Ideal.logistic (a : EReal) = ((sg a : ℝ) : EReal) := by
  rw [Ideal.logistic_coe, sg]

/-- The word for 0. -/
theorem word_zero : Ideal.ofBits .f32 0x00000000#32 = ((0 : ℝ) : EReal) := by
  rw [Ideal.ofBits_zero_f32, EReal.coe_zero]
/-- The word for 1. -/
theorem word_one : Ideal.ofBits .f32 0x3F800000#32 = ((1 : ℝ) : EReal) := by
  rw [Ideal.ofBits_one_f32, EReal.coe_one]
/-- The word for 2. -/
theorem word_two : Ideal.ofBits .f32 0x40000000#32 = ((2 : ℝ) : EReal) := by
  simp [Ideal.ofBits, Ideal.ieee, -EReal.coe_mul]; norm_num
/-- The word for 1/2. -/
theorem word_half : Ideal.ofBits .f32 0x3F000000#32 = ((1 / 2 : ℝ) : EReal) := by
  simp [Ideal.ofBits, Ideal.ieee, -EReal.coe_mul]; norm_num
/-- The word for -1/2. -/
theorem word_neg_half : Ideal.ofBits .f32 0xBF000000#32 = ((-(1 / 2) : ℝ) : EReal) := by
  simp [Ideal.ofBits, Ideal.ieee, -EReal.coe_mul, -EReal.coe_neg]; norm_num
/-- The word for 1024. -/
theorem word_width : Ideal.ofBits .f32 0x44800000#32 = ((1024 : ℝ) : EReal) := by
  simp [Ideal.ofBits, Ideal.ieee, -EReal.coe_mul]; norm_num
/-- The word for epsilon. -/
theorem word_eps : Ideal.ofBits .f32 0x3727C5AC#32 = ((eps : ℝ) : EReal) := by
  simp [Ideal.ofBits, Ideal.ieee, -EReal.coe_mul, eps]; norm_num

end Ffn
-- ==== Proof.Stage.lean ====
/- What the body's vector functions compute on blocks of real numbers. -/
module

public import proofs.«01_k».proof.Proof.Vocab
public import proofs.«01_k».proof.Proof.Reals

@[expose] public section

set_option maxRecDepth 16384

noncomputable section

namespace Cert.KernelIdeal.Body

open Cert.KernelIdeal Cert.KernelIdeal.Gen Idealize.ShloMosaic Idealize.ShloMosaic.TcCoe Ffn

/-- A block of `n` rows of `w` values holds the reals `f`. -/
def Is2 {n w : ℕ} (v : (⟨2, ![n, w]⟩ : Shape).Idx → EReal) (f : Fin n → Fin w → ℝ) : Prop :=
  ∀ r k, v (ix2 r k) = ((f r k : ℝ) : EReal)

/-- A single matrix under a unit axis holds the reals `f`. -/
def Is3 {n w : ℕ} (v : (⟨3, ![1, n, w]⟩ : Shape).Idx → EReal) (f : Fin n → Fin w → ℝ) : Prop :=
  ∀ r k, v (ix3 0 r k) = ((f r k : ℝ) : EReal)

theorem dotT_is {a : FVec Ideal S256x1024 .bf16} {w : Vec Ideal S1x704x1024 .bf16} {f : Fin 256 → Fin 1024 → ℝ}
    {g : Fin 704 → Fin 1024 → ℝ} (ha : Is2 a f) (hw : Is3 w g) :
    Is2 (dotT a w) (fun r c => ∑ k, f r k * g c k) := by
  intro r c
  pointwise [dotT]
  simp only [ha _ _, hw _ _, ← EReal.coe_mul, ← coe_sum]

theorem dotN_is {a : FVec Ideal S256x704 .bf16} {w : Vec Ideal S1x704x1024 .bf16} {f : Fin 256 → Fin 704 → ℝ}
    {g : Fin 704 → Fin 1024 → ℝ} (ha : Is2 a f) (hw : Is3 w g) :
    Is2 (dotN a w) (fun r k => ∑ c, f r c * g c k) := by
  intro r c
  pointwise [dotN]
  simp only [ha _ _, hw _ _, ← EReal.coe_mul, ← coe_sum]

theorem actV_is {a b : FVec Ideal S256x704 .f32} {f g : Fin 256 → Fin 704 → ℝ} (ha : Is2 a f) (hb : Is2 b g) :
    Is2 (actV a b) (fun r c => f r c * sg (f r c) * g r c) := by
  intro r c
  pointwise [actV]
  simp only [ha _ _, hb _ _, logistic_real, ← EReal.coe_mul]

theorem dupV_is {a b : FVec Ideal S256x704 .f32} {f g : Fin 256 → Fin 704 → ℝ} (ha : Is2 a f) (hb : Is2 b g) :
    Is2 (dupV a b) (fun r c => f r c * (g r c * sg (g r c))) := by
  intro r c
  pointwise [dupV]
  simp only [ha _ _, hb _ _, logistic_real, ← EReal.coe_mul]

theorem dgateV_is {a b d : FVec Ideal S256x704 .f32} {f g e : Fin 256 → Fin 704 → ℝ} (ha : Is2 a f) (hb : Is2 b g) (hd : Is2 d e) :
    Is2 (dgateV a b d) (fun r c => f r c * e r c * (sg (g r c) * (1 + g r c * (1 - sg (g r c))))) := by
  intro r c
  pointwise [dgateV]
  simp only [ha _ _, hb _ _, hd _ _, logistic_real, ← EReal.coe_one, ← EReal.coe_mul, ← EReal.coe_sub, ← EReal.coe_add]

theorem rs_is {a : Vec Ideal S256x1024 .f32} {f : Fin 256 → Fin 1024 → ℝ} (ha : Is2 a f) :
    Is2 (k0_pay80 a) (fun r _ => rs (f r)) := by
  intro r c
  pointwise [k0_pay80]
  simp only [ha _ _, word_width, word_eps, ← EReal.coe_mul, ← coe_sum]
  rw [div_real _ (by norm_num), ← EReal.coe_add]
  exact rsqrt_ms (f r)

theorem nrm_is {a : Vec Ideal S256x1024 .f32} {f : Fin 256 → Fin 1024 → ℝ} (ha : Is2 a f) :
    Is2 (k0_pay81 a) (fun r => nrm (f r)) := by
  intro r c
  have hr := rs_is ha
  pointwise [k0_pay81]
  rw [ha, hr, ← EReal.coe_mul, nrm]

theorem errV_is {a : FVec Ideal S256x1024 .f32} {g : Vec Ideal S1x1024 .f32} {d : Vec Ideal S256x1024 .f32}
   {f e : Fin 256 → Fin 1024 → ℝ} {gf : Fin 1024 → ℝ} (ha : Is2 a f) (hg : Is2 g fun _ => gf) (hd : Is2 d e) :
    Is2 (errV a g d) (fun r k => f r k * gf k - e r k) := by
  intro r c
  pointwise [errV, k0_pay38]
  rw [ha, hg, hd, ← EReal.coe_mul, ← EReal.coe_sub]

theorem lossV_is {a : FVec Ideal S256x1024 .f32}
   {f : Fin 256 → Fin 1024 → ℝ} (ha : Is2 a f) :
    Is2 (lossV a) (fun _ _ => ∑ r, 1 / 2 * ((∑ k, f r k * f r k) / 1024)) := by
  intro r c
  pointwise [lossV]
  simp only [ha _ _, word_width, word_half, ← EReal.coe_mul, ← coe_sum]
  rw [div_real _ (by norm_num)]
  refine congrArg Real.toEReal (?_ : _ = _)
  rw [mul_div_assoc, Finset.sum_div, Finset.mul_sum]

theorem dx2_is {a : FVec Ideal S256x1 .f32} {b d : FVec Ideal S256x1024 .f32} {g : Vec Ideal S1x1024 .f32}
   {f e : Fin 256 → Fin 1024 → ℝ} {gf : Fin 1024 → ℝ} {s : Fin 256 → ℝ} (ha : Is2 a fun r _ => s r) (hb : Is2 b f) (hg : Is2 g fun _ => gf) (hd : Is2 d e) :
    Is2 (k0_pay45 a b g d) (fun r k => back (fun k => e r k / 1024 * gf k) (f r) (s r) k) := by
  intro r c
  pointwise [k0_pay45, k0_pay43]
  simp only [ha _ _, hb _ _, hg _ _, hd _ _, word_width, div_real _ (by norm_num : (1024 : ℝ) ≠ 0), ← EReal.coe_mul, ← coe_sum, ← EReal.coe_sub]
  rfl

theorem dx1_is {p b d : FVec Ideal S256x1024 .f32} {a : FVec Ideal S256x1 .f32} {g : Vec Ideal S1x1024 .f32}
   {q f e : Fin 256 → Fin 1024 → ℝ} {gf : Fin 1024 → ℝ} {s : Fin 256 → ℝ} (hp : Is2 p q) (hd : Is2 d e) (ha : Is2 a fun r _ => s r) (hb : Is2 b f) (hg : Is2 g fun _ => gf)  :
    Is2 (k0_pay2 p d a b g) (fun r k => q r k + back (fun k => e r k * gf k) (f r) (s r) k) := by
  intro r c
  pointwise [k0_pay2]
  simp only [hp _ _, ha _ _, hb _ _, hg _ _, hd _ _, word_width, div_real _ (by norm_num : (1024 : ℝ) ≠ 0), ← EReal.coe_mul, ← coe_sum,
    ← EReal.coe_sub, ← EReal.coe_add]
  rfl

theorem dgf_is {a b : FVec Ideal S256x1024 .f32} {v : Vec Ideal S1x1024 .f32}
   {f e : Fin 256 → Fin 1024 → ℝ} {g : Fin 1024 → ℝ} (ha : Is2 a f) (hb : Is2 b e) (hv : Is2 v fun _ => g)  :
    Is2 (k0_pay44 a b v) (fun _ k => g k + ∑ r, e r k / 1024 * f r k) := by
  intro r c
  pointwise [k0_pay44, k0_pay43]
  simp only [ha _ _, hb _ _, hv _ _, word_width, div_real _ (by norm_num : (1024 : ℝ) ≠ 0), ← EReal.coe_mul, ← coe_sum, ← EReal.coe_add]

theorem dg_is {a b : FVec Ideal S256x1024 .f32} {v : Vec Ideal S1x1024 .f32}
   {f e : Fin 256 → Fin 1024 → ℝ} {g : Fin 1024 → ℝ} (ha : Is2 a f) (hb : Is2 b e) (hv : Is2 v fun _ => g)  :
    Is2 (k0_pay1 a b v) (fun _ k => g k + ∑ r, f r k * e r k) := by
  intro r c
  pointwise [k0_pay1]
  simp only [ha _ _, hb _ _, hv _ _, ← EReal.coe_mul, ← coe_sum, ← EReal.coe_add]

/-! ## The body's stages, at the rows `row r` of the real arrays `A` -/

section Stages
variable (A : Args) (row : Fin 256 → Fin 8192)
  {h : Vec Ideal S256x1024 .bf16} {x tg : Vec Ideal S256x1024 .f32}
  {wg wu wd : Fin 4 → Vec Ideal S1x704x1024 .bf16} {g gf : Vec Ideal S1x1024 .f32}
  (hh : Is2 h fun r => A.h (row r)) (hx : Is2 x fun r => A.x (row r)) (ht : Is2 tg fun r => A.tg (row r))
  (hwg : ∀ s, Is3 (wg s) fun c k => A.wg k (col s c)) (hwu : ∀ s, Is3 (wu s) fun c k => A.wu k (col s c))
  (hwd : ∀ s, Is3 (wd s) fun c k => A.wd (col s c) k) (hg : Is2 g fun _ => A.g) (hgf : Is2 gf fun _ => A.gf)

include hh in
theorem pay6_is : Is2 (k0_pay6 h) fun r => A.h (row r) := by
  intro r k
  pointwise [k0_pay6]
  exact hh r k

include hh hwg in
theorem gate_is (s : Fin 4) : Is2 (gateB h wg s) fun r c => A.gate (row r) (col s c) :=
  dotT_is (pay6_is A row hh) (hwg s)

include hh hwu in
theorem up_is (s : Fin 4) : Is2 (upB h wu s) fun r c => A.up (row r) (col s c) :=
  dotT_is (pay6_is A row hh) (hwu s)

include hh hwg hwu in
theorem act_is (s : Fin 4) : Is2 (actB h wg wu s) fun r c => A.act (row r) (col s c) :=
  actV_is (gate_is A row hh hwg s) (up_is A row hh hwu s)

include hh hx hwg hwu hwd in
theorem x2_is : Is2 (x2B h x wg wu wd) fun r => A.x2 (row r) := by
  intro r k
  have e := fun s => dotN_is (act_is A row hh hwg hwu s) (hwd s) r k
  pointwise [x2B]
  rw [e, e, e, e, hx]
  simp only [← EReal.coe_add]
  refine congrArg Real.toEReal (?_ : _ = A.x (row r) k + ∑ c, A.act (row r) c * A.wd c k)
  rw [sum_col, Fin.sum_univ_four]
  ring

include hh hx ht hwg hwu hwd hgf in
theorem err_is : Is2 (errB h x tg wg wu wd gf) fun r => A.err (row r) :=
  errV_is (nrm_is (x2_is A row hh hx hwg hwu hwd)) hgf ht

include hh hx ht hwg hwu hwd hgf in
theorem dx2_stage : Is2 (dx2B h x tg wg wu wd gf) fun r => A.dx2 (row r) := by
  have e := x2_is A row hh hx hwg hwu hwd
  have hgf' : Is2 (k0_pay38 gf) fun _ => A.gf := by
    intro r k
    pointwise [k0_pay38]
    exact hgf r k
  exact dx2_is (rs_is e) (nrm_is e) hgf' (err_is A row hh hx ht hwg hwu hwd hgf)

include hh hx ht hwg hwu hwd hgf in
theorem dact_is (s : Fin 4) : Is2 (dactB h x tg wg wu wd gf s) fun r c => A.dact (row r) (col s c) := by
  have e := dx2_stage A row hh hx ht hwg hwu hwd hgf
  refine dotT_is (fun r k => ?_) (hwd s)
  pointwise []
  exact e r k

include hh hx ht hwg hwu hwd hgf in
theorem dup_is (s : Fin 4) : Is2 (dupB h x tg wg wu wd gf s) fun r c => A.dup (row r) (col s c) :=
  dupV_is (dact_is A row hh hx ht hwg hwu hwd hgf s) (gate_is A row hh hwg s)

include hh hx ht hwg hwu hwd hgf in
theorem dgate_is (s : Fin 4) : Is2 (dgateB h x tg wg wu wd gf s) fun r c => A.dgate (row r) (col s c) :=
  dgateV_is (dact_is A row hh hx ht hwg hwu hwd hgf s) (gate_is A row hh hwg s) (up_is A row hh hwu s)

include hh hx ht hwg hwu hwd hgf in
theorem dh_is : Is2 (dhB h x tg wg wu wd gf) fun r => A.dh (row r) := by
  intro r k
  have e := fun s => dotN_is (dgate_is A row hh hx ht hwg hwu hwd hgf s) (hwg s) r k
  have e' := fun s => dotN_is (dup_is A row hh hx ht hwg hwu hwd hgf s) (hwu s) r k
  pointwise [dhB, dhS]
  simp only [e, e', ← EReal.coe_add]
  refine congrArg Real.toEReal (?_ : _ = (∑ c, A.dgate (row r) c * A.wg k c) + ∑ c, A.dup (row r) c * A.wu k c)
  rw [sum_col, sum_col, Fin.sum_univ_four, Fin.sum_univ_four]
  ring

include hh hx ht hwg hwu hwd hg hgf in
theorem dx1_stage : Is2 (dx1B h x tg wg wu wd g gf) fun r => A.dx1 (row r) :=
  dx1_is (dx2_stage A row hh hx ht hwg hwu hwd hgf) (dh_is A row hh hx ht hwg hwu hwd hgf) (rs_is hx) (nrm_is hx) hg

end Stages

end Cert.KernelIdeal.Body
-- ==== Proof.Open.lean ====
/- What one grid point leaves in the output blocks: the run's contents after the body, as the named functions of
   `Vocab` of the point's input blocks. -/
module

public import proofs.«01_k».proof.Proof.Vocab
public import Idealize.ShloMosaic.Lib.Pipeline.ValueKit
public import Idealize.ShloMosaic.Lib.Pipeline.ReadBack
public import Idealize.ShloMosaic.Lib.Pipeline.ValueKit.Stack

@[expose] public section

set_option maxRecDepth 16384

noncomputable section

namespace Cert.KernelIdeal.Body

open Cert.KernelIdeal Cert.KernelIdeal.Gen Idealize.ShloMosaic Idealize.ShloMosaic.TcCoe

/-! ## The printed payloads are the named functions -/

section Names
variable {F : FTy → Type} [FloatOps F]
variable (h : Vec F S256x1024 .bf16) (v4 : FVec F S256x1024 .bf16) (x v : FVec F S256x1024 .f32)
  (a b w w' w'' : Vec F S1x704x1024 .bf16) (u u' u'' : FVec F S256x704 .f32) (p p' : FVec F S256x704 .bf16)
  (r : FVec F S256x1 .f32) (gf : FVec F S1x1024 .f32) (z z' : FVec F S1x256x704 .f32)

theorem n7 : k0_pay7 h w = dotT (k0_pay6 h) w := rfl
theorem n8 : k0_pay8 h w = dotT (k0_pay6 h) w := rfl
theorem n9 : k0_pay9 h w w' = actV (dotT (k0_pay6 h) w) (dotT (k0_pay6 h) w') := rfl
theorem n10 : k0_pay10 h w = pack (dotT (k0_pay6 h) w) := rfl
theorem n11 : k0_pay11 h w = pack (dotT (k0_pay6 h) w) := rfl
theorem n12 : k0_pay12 h w w' = pack (actV (dotT (k0_pay6 h) w) (dotT (k0_pay6 h) w')) := rfl
theorem n13 : k0_pay13 h w w' w'' = dotN (actV (dotT (k0_pay6 h) w) (dotT (k0_pay6 h) w')) w'' := rfl
theorem n17 : k0_pay17 v4 w = pack (dotT v4 w) := rfl
theorem n18 : k0_pay18 v4 w = pack (dotT v4 w) := rfl
theorem n19 : k0_pay19 v4 w w' = pack (actV (dotT v4 w) (dotT v4 w')) := rfl
theorem n20 : k0_pay20 v4 x v w w' w'' = addf (addf x v) (dotN (actV (dotT v4 w) (dotT v4 w')) w'') := rfl
theorem n21 : k0_pay21 v4 w = dotT v4 w := rfl
theorem n24 : k0_pay24 v4 u (k0_pay22 w) = actV u (dotT v4 w) := rfl
theorem n25 : k0_pay25 u = pack u := rfl
theorem n26 : k0_pay26 v4 (k0_pay22 w) = pack (dotT v4 w) := rfl
theorem n27 : k0_pay27 v4 u (k0_pay22 w) = pack (actV u (dotT v4 w)) := rfl
theorem n28 : k0_pay28 v4 v u (k0_pay22 w) w' = addf v (dotN (actV u (dotT v4 w)) w') := rfl
theorem n30 : k0_pay30 v4 w = dotT v4 w := rfl
theorem n31 : k0_pay31 v4 w w' = actV (dotT v4 w) (dotT v4 w') := rfl
theorem n32 : k0_pay32 v4 w = pack (dotT v4 w) := rfl
theorem n33 : k0_pay33 u = pack u := rfl
theorem n34 : k0_pay34 p = pack p := rfl
theorem n36 : k0_pay36 v p w = k0_pay80 (addf v (dotN p w)) := rfl
theorem n37 : k0_pay37 v p w = k0_pay81 (addf v (dotN p w)) := rfl
theorem n39 (gf : Vec F S1x1024 .f32) : k0_pay39 v p w gf x = errV (k0_pay81 (addf v (dotN p w))) gf x := rfl
theorem n41 (gf : Vec F S1x1024 .f32) : k0_pay41 v p w gf x = lossV (errV (k0_pay81 (addf v (dotN p w))) gf x) := rfl
theorem n46 : k0_pay46 r x gf v = truncf .bf16 (k0_pay45 r x gf v) bitsLt_bf16_f32 := rfl
theorem n47 : k0_pay47 r x gf v w = dotT (truncf .bf16 (k0_pay45 r x gf v) bitsLt_bf16_f32) w := rfl
theorem n48 : k0_pay48 z = unpack z := rfl
theorem n49 : k0_pay49 z = logistic (unpack z) := rfl
theorem n50 : k0_pay50 r x gf v w z = dupV (dotT (truncf .bf16 (k0_pay45 r x gf v) bitsLt_bf16_f32) w) (unpack z) := rfl
theorem n52 : k0_pay52 u u' (logistic u') z = pack (dgateV u u' (unpack z)) := rfl
theorem n53 : k0_pay53 p = pack p := rfl
theorem n54 : k0_pay54 u u' (logistic u') p z a b = addf (dotN (dgateV u u' (unpack z)) a) (dotN p b) := rfl
theorem n55 : k0_pay55 v4 w = dotT v4 w := rfl
theorem n56 : k0_pay56 z = unpack z := rfl
theorem n57 : k0_pay57 z = logistic (unpack z) := rfl
theorem n58 : k0_pay58 v4 w z = dupV (dotT v4 w) (unpack z) := rfl
theorem n60 : k0_pay60 u u' (logistic u') z = pack (dgateV u u' (unpack z)) := rfl
theorem n61 : k0_pay61 p = pack p := rfl
theorem n62 : k0_pay62 v u u' (logistic u') p z a b = addf v (addf (dotN (dgateV u u' (unpack z)) a) (dotN p b)) := rfl
theorem n63 : k0_pay63 v4 w = dotT v4 w := rfl
theorem n64 : k0_pay64 z = unpack z := rfl
theorem n65 : k0_pay65 z = logistic (unpack z) := rfl
theorem n66 : k0_pay66 v4 w z = dupV (dotT v4 w) (unpack z) := rfl
theorem n68 : k0_pay68 u u' (logistic u') z = pack (dgateV u u' (unpack z)) := rfl
theorem n69 : k0_pay69 p = pack p := rfl
theorem n70 : k0_pay70 v u u' (logistic u') p z a b = addf v (addf (dotN (dgateV u u' (unpack z)) a) (dotN p b)) := rfl
theorem n71 : k0_pay71 v4 w = dotT v4 w := rfl
theorem n72 : k0_pay72 z = unpack z := rfl
theorem n73 : k0_pay73 z = logistic (unpack z) := rfl
theorem n74 : k0_pay74 v4 w z = mulf (dotT v4 w) (mulf (unpack z) (logistic (unpack z))) := rfl
theorem n77 : k0_pay77 u u' (logistic u') z = pack (dgateV u u' (unpack z)) := rfl
theorem n78 : k0_pay78 (mulf u (mulf u' (logistic u'))) = pack (dupV u u') := rfl
theorem n79 : k0_pay79 v u u' (logistic u') (mulf u (mulf u' (logistic u'))) z a b
    = addf v (addf (dotN (dgateV u u' (unpack z)) a) (dotN (dupV u u') b)) := rfl

end Names

/-- The four shards of a block of weights. -/
def sh {F : FTy → Type} [FloatOps F] (b : Vec F S4x704x1024 .bf16) : Fin 4 → Vec F S1x704x1024 .bf16 :=
  ![View.ld b (Rect.unit ![0, 0, 0] ![1, 704, 1024] inb_S4x704x1024_S1x704x1024_0_0_0),
    View.ld b (Rect.unit ![1, 0, 0] ![1, 704, 1024] inb_S4x704x1024_S1x704x1024_1_0_0),
    View.ld b (Rect.unit ![2, 0, 0] ![1, 704, 1024] inb_S4x704x1024_S1x704x1024_2_0_0),
    View.ld b (Rect.unit ![3, 0, 0] ![1, 704, 1024] inb_S4x704x1024_S1x704x1024_3_0_0)]

section Shards
variable {F : FTy → Type} [FloatOps F] (b : Vec F S4x704x1024 .bf16)
theorem sh_0 : sh b 0 = View.ld b (Rect.unit ![0, 0, 0] ![1, 704, 1024] inb_S4x704x1024_S1x704x1024_0_0_0) := rfl
theorem sh_1 : sh b 1 = View.ld b (Rect.unit ![1, 0, 0] ![1, 704, 1024] inb_S4x704x1024_S1x704x1024_1_0_0) := rfl
theorem sh_2 : sh b 2 = View.ld b (Rect.unit ![2, 0, 0] ![1, 704, 1024] inb_S4x704x1024_S1x704x1024_2_0_0) := rfl
theorem sh_3 : sh b 3 = View.ld b (Rect.unit ![3, 0, 0] ![1, 704, 1024] inb_S4x704x1024_S1x704x1024_3_0_0) := rfl
end Shards

variable {F : FTy → Type} [FloatOps F] (m : (ℓ : Loc nD τ sig) → Buf (Elt F) ℓ) (c : Dev nD) (t : Fin cfg0.N)

/-- The point's activation, output, error, and gradients. -/
def actP (s : Fin 4) := actB (iblk m c 0 t) (sh (iblk m c 3 t)) (sh (iblk m c 4 t)) s
@[inherit_doc actP] def x2P := x2B (iblk m c 0 t) (iblk m c 1 t) (sh (iblk m c 3 t)) (sh (iblk m c 4 t)) (sh (iblk m c 5 t))
@[inherit_doc actP] def errP := errB (iblk m c 0 t) (iblk m c 1 t) (iblk m c 2 t) (sh (iblk m c 3 t)) (sh (iblk m c 4 t))
  (sh (iblk m c 5 t)) (iblk m c 7 t)
@[inherit_doc actP] def dx2P := dx2B (iblk m c 0 t) (iblk m c 1 t) (iblk m c 2 t) (sh (iblk m c 3 t)) (sh (iblk m c 4 t))
  (sh (iblk m c 5 t)) (iblk m c 7 t)
@[inherit_doc actP] def dupP (s : Fin 4) := dupB (iblk m c 0 t) (iblk m c 1 t) (iblk m c 2 t) (sh (iblk m c 3 t))
  (sh (iblk m c 4 t)) (sh (iblk m c 5 t)) (iblk m c 7 t) s
@[inherit_doc actP] def dgateP (s : Fin 4) := dgateB (iblk m c 0 t) (iblk m c 1 t) (iblk m c 2 t) (sh (iblk m c 3 t))
  (sh (iblk m c 4 t)) (sh (iblk m c 5 t)) (iblk m c 7 t) s
@[inherit_doc actP] def dhP := dhB (iblk m c 0 t) (iblk m c 1 t) (iblk m c 2 t) (sh (iblk m c 3 t)) (sh (iblk m c 4 t))
  (sh (iblk m c 5 t)) (iblk m c 7 t)
@[inherit_doc actP] def dx1P := dx1B (iblk m c 0 t) (iblk m c 1 t) (iblk m c 2 t) (sh (iblk m c 3 t)) (sh (iblk m c 4 t))
  (sh (iblk m c 5 t)) (iblk m c 6 t) (iblk m c 7 t)

/-- A block stored shard by shard is the stack of the shards. -/
theorem stack4 (f : Fin 4 → FVec F S256x704 .bf16) :
    View.canon [⟨Rect.unit ![3, 0, 0] ![1, 256, 704] inb_S4x256x704_S1x256x704_3_0_0, pack (f 3)⟩,
      ⟨Rect.unit ![2, 0, 0] ![1, 256, 704] inb_S4x256x704_S1x256x704_2_0_0, pack (f 2)⟩,
      ⟨Rect.unit ![1, 0, 0] ![1, 256, 704] inb_S4x256x704_S1x256x704_1_0_0, pack (f 1)⟩,
      ⟨Rect.unit ![0, 0, 0] ![1, 256, 704] inb_S4x256x704_S1x256x704_0_0_0, pack (f 0)⟩]
    = (stackAlong0 f : Vec F S4x256x704 .bf16) := by
  funext y
  canon_tiles x h
  · exact stack_piece f 3 shapeCasts_S256x704_S1x256x704 x y (by simpa using h0) (fun a => by fin_cases a <;> assumption)
  · exact stack_piece f 2 shapeCasts_S256x704_S1x256x704 x y (by simpa using h0) (fun a => by fin_cases a <;> assumption)
  · exact stack_piece f 1 shapeCasts_S256x704_S1x256x704 x y (by simpa using h0) (fun a => by fin_cases a <;> assumption)
  · exact stack_piece f 0 shapeCasts_S256x704_S1x256x704 x y (by simpa using h0) (fun a => by fin_cases a <;> assumption)

/-- What a grid point that starts a sweep leaves in the output blocks. -/
theorem outs_A (h0 : t.val % 32 = 0) :
    (outsAt0 m c t.val t.isLt).1 = stackAlong0 (actP m c t)
    ∧ (outsAt0 m c t.val t.isLt).2.1 = stackAlong0 (dgateP m c t)
    ∧ (outsAt0 m c t.val t.isLt).2.2.1 = stackAlong0 (dupP m c t)
    ∧ (outsAt0 m c t.val t.isLt).2.2.2.1 = dx1P m c t
    ∧ (outsAt0 m c t.val t.isLt).2.2.2.2.1 = truncf .bf16 (dx2P m c t) bitsLt_bf16_f32
    ∧ (outsAt0 m c t.val t.isLt).2.2.2.2.2.1 = k0_pay42 (k0_pay40 k0_pay3) (lossV (errP m c t))
    ∧ (outsAt0 m c t.val t.isLt).2.2.2.2.2.2.1
      = k0_pay44 (k0_pay81 (x2P m c t)) (errP m c t) k0_pay4
    ∧ (outsAt0 m c t.val t.isLt).2.2.2.2.2.2.2
      = k0_pay1 (dhP m c t) (k0_pay81 (iblk m c 1 t)) k0_pay5 := by
  refine ⟨?_, ?_, ?_, ?_, ?_, ?_, ?_, ?_⟩
  all_goals
    rw [outsAt0_A m c t h0]
    frame_open
    simp (disch := decide) only [↓ View.readCov_skip, ↓ View.readCov_cons_toLoadRect, ↓ View.readCov_fill]
    frame_out
    simp only [n7, n8, n9, n10, n11, n12, n13, n17, n18, n19, n20, n21, n24, n25, n26, n27, n28, n30, n31, n32, n33, n34, n36, n37, n39, n41,
    n46, n47, n48, n49, n50, n52, n53, n54, n55, n56, n57, n58, n60, n61, n62, n63, n64, n65, n66, n68, n69, n70, n71, n72, n73, n74, n77, n78, n79,
    unpack_pack]
  case' refine_1 => refine Eq.trans ?_ (stack4 (actP m c t))
  case' refine_2 => refine Eq.trans ?_ (stack4 (dgateP m c t))
  case' refine_3 => refine Eq.trans ?_ (stack4 (dupP m c t))
  all_goals simp only [actP, x2P, errP, dx2P, dupP, dgateP, dhP, dx1P, dx1B, dhB, dhS, dgateB, dupB, dactB, dx2B, errB, x2B, actB, gateB, upB, sh_0, sh_1, sh_2, sh_3]

/-- What a grid point inside a sweep leaves in the output blocks. -/
theorem outs_B (h0 : ¬t.val % 32 = 0) :
    (outsAt0 m c t.val t.isLt).1 = stackAlong0 (actP m c t)
    ∧ (outsAt0 m c t.val t.isLt).2.1 = stackAlong0 (dgateP m c t)
    ∧ (outsAt0 m c t.val t.isLt).2.2.1 = stackAlong0 (dupP m c t)
    ∧ (outsAt0 m c t.val t.isLt).2.2.2.1 = dx1P m c t
    ∧ (outsAt0 m c t.val t.isLt).2.2.2.2.1 = truncf .bf16 (dx2P m c t) bitsLt_bf16_f32
    ∧ (outsAt0 m c t.val t.isLt).2.2.2.2.2.1 = k0_pay42 (k0_pay40 (outsAt0 m c (t.val - 1) (by have := t.isLt; omega)).2.2.2.2.2.1) (lossV (errP m c t))
    ∧ (outsAt0 m c t.val t.isLt).2.2.2.2.2.2.1
      = k0_pay44 (k0_pay81 (x2P m c t)) (errP m c t) (outsAt0 m c (t.val - 1) (by have := t.isLt; omega)).2.2.2.2.2.2.1
    ∧ (outsAt0 m c t.val t.isLt).2.2.2.2.2.2.2
      = k0_pay1 (dhP m c t) (k0_pay81 (iblk m c 1 t)) (outsAt0 m c (t.val - 1) (by have := t.isLt; omega)).2.2.2.2.2.2.2 := by
  refine ⟨?_, ?_, ?_, ?_, ?_, ?_, ?_, ?_⟩
  all_goals
    rw [outsAt0_B m c t h0]
    frame_open
    simp (disch := decide) only [↓ View.readCov_skip, ↓ View.readCov_cons_toLoadRect, ↓ View.readCov_fill]
    frame_out
    simp only [n7, n8, n9, n10, n11, n12, n13, n17, n18, n19, n20, n21, n24, n25, n26, n27, n28, n30, n31, n32, n33, n34, n36, n37, n39, n41,
    n46, n47, n48, n49, n50, n52, n53, n54, n55, n56, n57, n58, n60, n61, n62, n63, n64, n65, n66, n68, n69, n70, n71, n72, n73, n74, n77, n78, n79,
    unpack_pack]
  case' refine_1 => refine Eq.trans ?_ (stack4 (actP m c t))
  case' refine_2 => refine Eq.trans ?_ (stack4 (dgateP m c t))
  case' refine_3 => refine Eq.trans ?_ (stack4 (dupP m c t))
  all_goals simp only [actP, x2P, errP, dx2P, dupP, dgateP, dhP, dx1P, dx1B, dhB, dhS, dgateB, dupB, dactB, dx2B, errB, x2B, actB, gateB, upB, sh_0, sh_1, sh_2, sh_3]

end Cert.KernelIdeal.Body
-- ==== Proof.Blocks.lean ====
/- The blocks that a grid point reads: the arrays the host operations prepare, at real arguments, and their blocks at a
   point. -/
module

public import proofs.«01_k».proof.Proof.Stage
public import proofs.«01_k».proof.Proof.Open
public import Idealize.ShloMosaic.Lib.StableHlo.ReadAt

@[expose] public section

set_option maxRecDepth 16384

noncomputable section

namespace Cert.KernelIdeal.Body

open Cert.KernelIdeal Cert.KernelIdeal.Gen Idealize.ShloMosaic Idealize.ShloMosaic.TcCoe Ffn

/-- The launch memory holds the real arrays `A` in the seven arguments. -/
structure Holds (m : (ℓ : Loc nD τ sig) → Buf (Elt Ideal) ℓ) (c : Dev nD) (A : Args) : Prop where
  /-- the rows -/
  x : (m ((c : Thread nD τ).loc main_arg0) : S8192x1024.Idx → EReal) = fun i => ((A.x (i 0) (i 1) : ℝ) : EReal)
  /-- the first norm's weights -/
  g : (m ((c : Thread nD τ).loc main_arg1) : S1024.Idx → EReal) = fun i => ((A.g (i 0) : ℝ) : EReal)
  /-- the gate matrix -/
  wg : (m ((c : Thread nD τ).loc main_arg2) : S1024x2816.Idx → EReal) = fun i => ((A.wg (i 0) (i 1) : ℝ) : EReal)
  /-- the up matrix -/
  wu : (m ((c : Thread nD τ).loc main_arg3) : S1024x2816.Idx → EReal) = fun i => ((A.wu (i 0) (i 1) : ℝ) : EReal)
  /-- the down matrix -/
  wd : (m ((c : Thread nD τ).loc main_arg4) : S2816x1024.Idx → EReal) = fun i => ((A.wd (i 0) (i 1) : ℝ) : EReal)
  /-- the last norm's weights -/
  gf : (m ((c : Thread nD τ).loc main_arg5) : S1024.Idx → EReal) = fun i => ((A.gf (i 0) : ℝ) : EReal)
  /-- the target -/
  tg : (m ((c : Thread nD τ).loc main_arg6) : S8192x1024.Idx → EReal) = fun i => ((A.tg (i 0) (i 1) : ℝ) : EReal)

variable {m : (ℓ : Loc nD τ sig) → Buf (Elt Ideal) ℓ} {c : Dev nD} {A : Args} (H : Holds m c A)

include H in
theorem hostH (t : Fin 8192) (k : Fin 1024) :
    (V m c main_v13 : S8192x1024.Idx → EReal) (ix2 t k) = ((A.h t k : ℝ) : EReal) := by
  have hx : ∀ k, m (c, Proc.tc.devRef main_arg0) (ix2 t k) = ((A.x t k : ℝ) : EReal) := fun k => congrFun H.x (ix2 t k)
  have hg : m (c, Proc.tc.devRef main_arg1) (ix1 k) = ((A.g k : ℝ) : EReal) := congrFun H.g (ix1 k)
  unfold V
  after_reads_at
  simp only [hx, hg, word_width, word_eps, ← EReal.coe_mul, ← coe_sum]
  rw [div_real _ (by norm_num), ← EReal.coe_add]
  refine (congrArg (fun u => ((A.x t k : ℝ) : EReal) * u * ((A.g k : ℝ) : EReal)) (rsqrt_ms (A.x t))).trans ?_
  rw [← EReal.coe_mul, ← EReal.coe_mul, Args.h, nrm]

include H in
theorem hostWg (s : Fin 4) (f : Fin 704) (k : Fin 1024) :
    (V m c main_v16 : S4x704x1024.Idx → EReal) (ix3 s f k) = ((A.wg k (col s f) : ℝ) : EReal) := by
  unfold V
  after_reads_at
  refine (congrFun H.wg _).trans (congrArg Real.toEReal (congrArg (A.wg k) (Fin.ext ?_)))
  show s.val * 704 + f.val = 704 * s.val + f.val
  omega

include H in
theorem hostWu (s : Fin 4) (f : Fin 704) (k : Fin 1024) :
    (V m c main_v19 : S4x704x1024.Idx → EReal) (ix3 s f k) = ((A.wu k (col s f) : ℝ) : EReal) := by
  unfold V
  after_reads_at
  refine (congrFun H.wu _).trans (congrArg Real.toEReal (congrArg (A.wu k) (Fin.ext ?_)))
  show s.val * 704 + f.val = 704 * s.val + f.val
  omega

include H in
theorem hostWd (s : Fin 4) (f : Fin 704) (k : Fin 1024) :
    (V m c main_v21 : S4x704x1024.Idx → EReal) (ix3 s f k) = ((A.wd (col s f) k : ℝ) : EReal) := by
  unfold V
  after_reads_at
  refine (congrFun H.wd _).trans (congrArg Real.toEReal (congrArg (fun u => A.wd u k) (Fin.ext ?_)))
  show s.val * 704 + f.val = 704 * s.val + f.val
  omega

include H in
theorem hostG (k : Fin 1024) : (V m c main_v22 : S1x1024.Idx → EReal) (ix2 0 k) = ((A.g k : ℝ) : EReal) := by
  unfold V
  after_reads_at
  exact congrFun H.g _

include H in
theorem hostGf (k : Fin 1024) : (V m c main_v23 : S1x1024.Idx → EReal) (ix2 0 k) = ((A.gf k : ℝ) : EReal) := by
  unfold V
  after_reads_at
  exact congrFun H.gf _

/-- The row of the arrays that is row `r` of point `t`'s block. -/
def row (t : Fin cfg0.N) (r : Fin 256) : Fin 8192 := ⟨256 * t.val + r.val, by have := t.isLt; have : cfg0.N = 32 := N_0; omega⟩

/-- Where a block of rows lies. -/
theorem idx0 : ∀ t : Fin cfg0.N, win0_0.index t 0 = t.val ∧ win0_0.index t 1 = 0 :=
  (by decide +kernel : ∀ t : Fin grid0.N, win0_0.index t 0 = t.val ∧ win0_0.index t 1 = 0)
@[inherit_doc idx0] theorem idx1 : ∀ t : Fin cfg0.N, win0_1.index t 0 = t.val ∧ win0_1.index t 1 = 0 :=
  (by decide +kernel : ∀ t : Fin grid0.N, win0_1.index t 0 = t.val ∧ win0_1.index t 1 = 0)
@[inherit_doc idx0] theorem idx2 : ∀ t : Fin cfg0.N, win0_2.index t 0 = t.val ∧ win0_2.index t 1 = 0 :=
  (by decide +kernel : ∀ t : Fin grid0.N, win0_2.index t 0 = t.val ∧ win0_2.index t 1 = 0)

include H in
theorem blk0 (t : Fin cfg0.N) : Is2 (iblk m c 0 t : S256x1024.Idx → EReal) fun r => A.h (row t r) := by
  intro r k
  refine Eq.trans (b := (V m c main_v13 : S8192x1024.Idx → EReal) (ix2 (row t r) k)) ?_ (hostH H _ _)
  blk_simp [iblk]
  refine congrArg (V m c main_v13) ?_
  funext a
  apply Fin.ext
  have h := idx0 t
  fin_cases a
  · blk_simp []
    show win0_0.index t 0 * 256 + r.val = 256 * t.val + r.val
    omega
  · blk_simp []
    show win0_0.index t 1 * 1024 + k.val = k.val
    omega

include H in
theorem blk1 (t : Fin cfg0.N) : Is2 (iblk m c 1 t : S256x1024.Idx → EReal) fun r => A.x (row t r) := by
  intro r k
  refine Eq.trans (b := (V m c main_arg0 : S8192x1024.Idx → EReal) (ix2 (row t r) k)) ?_
    ((congrFun (V_main_arg0 m c) _).trans (congrFun H.x _))
  blk_point [iblk]
  · have h := idx1 t
    simp only [row]
    omega
  · have h := idx1 t
    omega

include H in
theorem blk2 (t : Fin cfg0.N) : Is2 (iblk m c 2 t : S256x1024.Idx → EReal) fun r => A.tg (row t r) := by
  intro r k
  refine Eq.trans (b := (V m c main_arg6 : S8192x1024.Idx → EReal) (ix2 (row t r) k)) ?_
    ((congrFun (V_main_arg6 m c) _).trans (congrFun H.tg _))
  blk_point [iblk]
  · have h := idx2 t
    simp only [row]
    omega
  · have h := idx2 t
    omega

/-- A shard of a block of weights, at an index. -/
theorem sh_apply (b : Vec Ideal S4x704x1024 .bf16) (s : Fin 4) (f : Fin 704) (k : Fin 1024) :
    sh b s (ix3 0 f k) = b (ix3 s f k) := by
  fin_cases s
  · exact View.ld_unit_apply_of b ![0, 0, 0] ![1, 704, 1024] inb_S4x704x1024_S1x704x1024_0_0_0 (ix3 0 f k) (ix3 0 f k)
      fun a => by fin_cases a <;> simp [ix3]
  · exact View.ld_unit_apply_of b ![1, 0, 0] ![1, 704, 1024] inb_S4x704x1024_S1x704x1024_1_0_0 (ix3 0 f k) (ix3 1 f k)
      fun a => by fin_cases a <;> simp [ix3]
  · exact View.ld_unit_apply_of b ![2, 0, 0] ![1, 704, 1024] inb_S4x704x1024_S1x704x1024_2_0_0 (ix3 0 f k) (ix3 2 f k)
      fun a => by fin_cases a <;> simp [ix3]
  · exact View.ld_unit_apply_of b ![3, 0, 0] ![1, 704, 1024] inb_S4x704x1024_S1x704x1024_3_0_0 (ix3 0 f k) (ix3 3 f k)
      fun a => by fin_cases a <;> simp [ix3]

/-! The weights' blocks are whole at every point. -/

@[inherit_doc idx0] theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
@[inherit_doc idx0] theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
@[inherit_doc idx0] theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
@[inherit_doc idx0] theorem idx6 : ∀ t : Fin cfg0.N, win0_6.index t 0 = 0 ∧ win0_6.index t 1 = 0 :=
  (by decide +kernel : ∀ t : Fin grid0.N, win0_6.index t 0 = 0 ∧ win0_6.index t 1 = 0)
@[inherit_doc idx0] theorem idx7 : ∀ t : Fin cfg0.N, win0_7.index t 0 = 0 ∧ win0_7.index t 1 = 0 :=
  (by decide +kernel : ∀ t : Fin grid0.N, win0_7.index t 0 = 0 ∧ win0_7.index t 1 = 0)

theorem whole3 (t : Fin cfg0.N) (y : S4x704x1024.Idx) :
    (iblk m c 3 t : S4x704x1024.Idx → EReal) y = (V m c main_v16 : S4x704x1024.Idx → EReal) y := by
  have h := idx3 t
  blk_simp [iblk]
  refine congrArg (V m c main_v16) ?_
  funext a
  apply Fin.ext
  fin_cases a
  · blk_simp []
    show win0_3.index t 0 * 4 + (y 0).val = (y 0).val
    omega
  · blk_simp []
    show win0_3.index t 1 * 704 + (y 1).val = (y 1).val
    omega
  · blk_simp []
    show win0_3.index t 2 * 1024 + (y 2).val = (y 2).val
    omega

theorem whole4 (t : Fin cfg0.N) (y : S4x704x1024.Idx) :
    (iblk m c 4 t : S4x704x1024.Idx → EReal) y = (V m c main_v19 : S4x704x1024.Idx → EReal) y := by
  have h := idx4 t
  blk_simp [iblk]
  refine congrArg (V m c main_v19) ?_
  funext a
  apply Fin.ext
  fin_cases a
  · blk_simp []
    show win0_4.index t 0 * 4 + (y 0).val = (y 0).val
    omega
  · blk_simp []
    show win0_4.index t 1 * 704 + (y 1).val = (y 1).val
    omega
  · blk_simp []
    show win0_4.index t 2 * 1024 + (y 2).val = (y 2).val
    omega

theorem whole5 (t : Fin cfg0.N) (y : S4x704x1024.Idx) :
    (iblk m c 5 t : S4x704x1024.Idx → EReal) y = (V m c main_v21 : S4x704x1024.Idx → EReal) y := by
  have h := idx5 t
  blk_simp [iblk]
  refine congrArg (V m c main_v21) ?_
  funext a
  apply Fin.ext
  fin_cases a
  · blk_simp []
    show win0_5.index t 0 * 4 + (y 0).val = (y 0).val
    omega
  · blk_simp []
    show win0_5.index t 1 * 704 + (y 1).val = (y 1).val
    omega
  · blk_simp []
    show win0_5.index t 2 * 1024 + (y 2).val = (y 2).val
    omega

theorem whole6 (t : Fin cfg0.N) (y : S1x1024.Idx) :
    (iblk m c 6 t : S1x1024.Idx → EReal) y = (V m c main_v22 : S1x1024.Idx → EReal) y := by
  have h := idx6 t
  blk_simp [iblk]
  refine congrArg (V m c main_v22) ?_
  funext a
  apply Fin.ext
  fin_cases a
  · blk_simp []
    exact h.1
  · blk_simp []
    show win0_6.index t 1 * 1024 + (y 1).val = (y 1).val
    omega

theorem whole7 (t : Fin cfg0.N) (y : S1x1024.Idx) :
    (iblk m c 7 t : S1x1024.Idx → EReal) y = (V m c main_v23 : S1x1024.Idx → EReal) y := by
  have h := idx7 t
  blk_simp [iblk]
  refine congrArg (V m c main_v23) ?_
  funext a
  apply Fin.ext
  fin_cases a
  · blk_simp []
    exact h.1
  · blk_simp []
    show win0_7.index t 1 * 1024 + (y 1).val = (y 1).val
    omega

include H in
theorem blk3 (t : Fin cfg0.N) (s : Fin 4) : Is3 (sh (iblk m c 3 t) s : S1x704x1024.Idx → EReal) fun f k => A.wg k (col s f) :=
  fun f k => (sh_apply _ s f k).trans ((whole3 t _).trans (hostWg H s f k))
include H in
theorem blk4 (t : Fin cfg0.N) (s : Fin 4) : Is3 (sh (iblk m c 4 t) s : S1x704x1024.Idx → EReal) fun f k => A.wu k (col s f) :=
  fun f k => (sh_apply _ s f k).trans ((whole4 t _).trans (hostWu H s f k))
include H in
theorem blk5 (t : Fin cfg0.N) (s : Fin 4) : Is3 (sh (iblk m c 5 t) s : S1x704x1024.Idx → EReal) fun f k => A.wd (col s f) k :=
  fun f k => (sh_apply _ s f k).trans ((whole5 t _).trans (hostWd H s f k))
include H in
theorem blk6 (t : Fin cfg0.N) : Is2 (iblk m c 6 t : S1x1024.Idx → EReal) fun _ => A.g := by
  intro r k
  rw [Subsingleton.elim r 0]
  exact (whole6 t _).trans (hostG H k)
include H in
theorem blk7 (t : Fin cfg0.N) : Is2 (iblk m c 7 t : S1x1024.Idx → EReal) fun _ => A.gf := by
  intro r k
  rw [Subsingleton.elim r 0]
  exact (whole7 t _).trans (hostGf H k)

/-! ## What a point computes -/

include H in
theorem actP_is (t : Fin cfg0.N) (s : Fin 4) : Is2 (actP m c t s) fun r f => A.act (row t r) (col s f) :=
  act_is A (row t) (blk0 H t) (blk3 H t) (blk4 H t) s
include H in
theorem x2P_is (t : Fin cfg0.N) : Is2 (x2P m c t) fun r => A.x2 (row t r) :=
  x2_is A (row t) (blk0 H t) (blk1 H t) (blk3 H t) (blk4 H t) (blk5 H t)
include H in
theorem errP_is (t : Fin cfg0.N) : Is2 (errP m c t) fun r => A.err (row t r) :=
  err_is A (row t) (blk0 H t) (blk1 H t) (blk2 H t) (blk3 H t) (blk4 H t) (blk5 H t) (blk7 H t)
include H in
theorem dx2P_is (t : Fin cfg0.N) : Is2 (dx2P m c t) fun r => A.dx2 (row t r) :=
  dx2_stage A (row t) (blk0 H t) (blk1 H t) (blk2 H t) (blk3 H t) (blk4 H t) (blk5 H t) (blk7 H t)
include H in
theorem dupP_is (t : Fin cfg0.N) (s : Fin 4) : Is2 (dupP m c t s) fun r f => A.dup (row t r) (col s f) :=
  dup_is A (row t) (blk0 H t) (blk1 H t) (blk2 H t) (blk3 H t) (blk4 H t) (blk5 H t) (blk7 H t) s
include H in
theorem dgateP_is (t : Fin cfg0.N) (s : Fin 4) : Is2 (dgateP m c t s) fun r f => A.dgate (row t r) (col s f) :=
  dgate_is A (row t) (blk0 H t) (blk1 H t) (blk2 H t) (blk3 H t) (blk4 H t) (blk5 H t) (blk7 H t) s
include H in
theorem dhP_is (t : Fin cfg0.N) : Is2 (dhP m c t) fun r => A.dh (row t r) :=
  dh_is A (row t) (blk0 H t) (blk1 H t) (blk2 H t) (blk3 H t) (blk4 H t) (blk5 H t) (blk7 H t)
include H in
theorem dx1P_is (t : Fin cfg0.N) : Is2 (dx1P m c t) fun r => A.dx1 (row t r) :=
  dx1_stage A (row t) (blk0 H t) (blk1 H t) (blk2 H t) (blk3 H t) (blk4 H t) (blk5 H t) (blk6 H t) (blk7 H t)

end Cert.KernelIdeal.Body
-- ==== Proof.Arrays.lean ====
/- The result arrays after the run, at real arguments. -/
module

public import proofs.«01_k».proof.Proof.Blocks

@[expose] public section

set_option maxRecDepth 16384

noncomputable section

namespace Cert.KernelIdeal.Body

open Cert.KernelIdeal Cert.KernelIdeal.Gen Idealize.ShloMosaic Idealize.ShloMosaic.TcCoe Ffn

variable {m : (ℓ : Loc nD τ sig) → Buf (Elt Ideal) ℓ} {c : Dev nD} {A : Args} (H : Holds m c A)

/-- The output blocks that a point writes back. -/
theorem out8 (t : Fin cfg0.N) : (outsAt0 m c t.val t.isLt).1 = stackAlong0 (actP m c t) := by
  by_cases h : t.val % 32 = 0
  · exact (outs_A m c t h).1
  · exact (outs_B m c t h).1
@[inherit_doc out8] theorem out9 (t : Fin cfg0.N) : (outsAt0 m c t.val t.isLt).2.1 = stackAlong0 (dgateP m c t) := by
  by_cases h : t.val % 32 = 0
  · exact (outs_A m c t h).2.1
  · exact (outs_B m c t h).2.1
@[inherit_doc out8] theorem out10 (t : Fin cfg0.N) : (outsAt0 m c t.val t.isLt).2.2.1 = stackAlong0 (dupP m c t) := by
  by_cases h : t.val % 32 = 0
  · exact (outs_A m c t h).2.2.1
  · exact (outs_B m c t h).2.2.1
@[inherit_doc out8] theorem out11 (t : Fin cfg0.N) : (outsAt0 m c t.val t.isLt).2.2.2.1 = dx1P m c t := by
  by_cases h : t.val % 32 = 0
  · exact (outs_A m c t h).2.2.2.1
  · exact (outs_B m c t h).2.2.2.1
@[inherit_doc out8] theorem out12 (t : Fin cfg0.N) :
    (outsAt0 m c t.val t.isLt).2.2.2.2.1 = truncf .bf16 (dx2P m c t) bitsLt_bf16_f32 := by
  by_cases h : t.val % 32 = 0
  · exact (outs_A m c t h).2.2.2.2.1
  · exact (outs_B m c t h).2.2.2.2.1

/-- Where an output block lies. -/
theorem idx8 : ∀ t : Fin cfg0.N, win0_8.index t 0 = 0 ∧ win0_8.index t 1 = t.val ∧ win0_8.index t 2 = 0 :=
  (by decide +kernel : ∀ t : Fin grid0.N, win0_8.index t 0 = 0 ∧ win0_8.index t 1 = t.val ∧ win0_8.index t 2 = 0)
@[inherit_doc idx8] theorem idx11 : ∀ t : Fin cfg0.N, win0_11.index t 0 = t.val ∧ win0_11.index t 1 = 0 :=
  (by decide +kernel : ∀ t : Fin grid0.N, win0_11.index t 0 = t.val ∧ win0_11.index t 1 = 0)

@[inherit_doc idx8] theorem idx9 : ∀ t : Fin cfg0.N, win0_9.index t 0 = 0 ∧ win0_9.index t 1 = t.val ∧ win0_9.index t 2 = 0 :=
  (by decide +kernel : ∀ t : Fin grid0.N, win0_9.index t 0 = 0 ∧ win0_9.index t 1 = t.val ∧ win0_9.index t 2 = 0)
@[inherit_doc idx8] theorem idx10 : ∀ t : Fin cfg0.N, win0_10.index t 0 = 0 ∧ win0_10.index t 1 = t.val ∧ win0_10.index t 2 = 0 :=
  (by decide +kernel : ∀ t : Fin grid0.N, win0_10.index t 0 = 0 ∧ win0_10.index t 1 = t.val ∧ win0_10.index t 2 = 0)
@[inherit_doc idx8] theorem idx12 : ∀ t : Fin cfg0.N, win0_12.index t 0 = t.val ∧ win0_12.index t 1 = 0 :=
  (by decide +kernel : ∀ t : Fin grid0.N, win0_12.index t 0 = t.val ∧ win0_12.index t 1 = 0)

/-- A stack of shards of a point's rows, against an array of all rows, at the place `i` where the stack's `y` lands. -/
theorem stack_is {f : Fin 4 → FVec Ideal S256x704 .bf16} {G : Fin 8192 → Fin 2816 → ℝ} (t : Fin cfg0.N)
    (hf : ∀ s, Is2 (f s) fun r k => G (row t r) (col s k)) (y : S4x256x704.Idx) (i : S4x8192x704.Idx)
    (h0 : (i 0 : ℕ) = y 0) (h1 : (i 1 : ℕ) = 256 * t.val + y 1) (h2 : (i 2 : ℕ) = y 2) :
    (stackAlong0 f : S4x256x704.Idx → EReal) y = ((G (i 1) (col (i 0) (i 2)) : ℝ) : EReal) := by
  have e : (fun a : Fin 2 => y a.succ) = ix2 (y 1) (y 2) := by funext a; fin_cases a <;> rfl
  have e0 : i 0 = y 0 := Fin.ext h0
  have e1 : i 1 = row t (y 1) := Fin.ext h1
  have e2 : i 2 = y 2 := Fin.ext h2
  rw [e0, e1, e2]
  refine Eq.trans ?_ (hf (y 0) (y 1) (y 2))
  exact congrArg (f (y 0)) e

/-- A block of a point's rows, against an array of all rows. -/
theorem rows_is {f : S256x1024.Idx → EReal} {G : Fin 8192 → Fin 1024 → ℝ} (t : Fin cfg0.N)
    (hf : Is2 f fun r => G (row t r)) (y : S256x1024.Idx) (i : S8192x1024.Idx)
    (h0 : (i 0 : ℕ) = 256 * t.val + y 0) (h1 : (i 1 : ℕ) = y 1) :
    f y = ((G (i 0) (i 1) : ℝ) : EReal) := by
  have e0 : i 0 = row t (y 0) := Fin.ext h0
  have e1 : i 1 = y 1 := Fin.ext h1
  rw [e0, e1]
  refine Eq.trans (congrArg f ?_) (hf (y 0) (y 1))
  funext a; fin_cases a <;> rfl

include H in
/-- The activations. -/
theorem arr8 : (dats m 0 c).arrAt 8 cfg0.N
    = (fun i => ((A.act (i 1) (col (i 0) (i 2)) : ℝ) : EReal) : S4x8192x704.Idx → EReal) := by
  refine (dats m 0 c).arrAt_eq_of_covers 8 _ (by decide +kernel) fun t hf y => ?_
  blk_simp
  rw [after0_8, out8]
  have h := idx8 t
  refine stack_is t (actP_is H t) y _ ?_ ?_ ?_
  · blk_simp []
    show win0_8.index t 0 * 4 + (y 0).val = (y 0).val
    omega
  · blk_simp []
    show win0_8.index t 1 * 256 + (y 1).val = 256 * t.val + (y 1).val
    omega
  · blk_simp []
    show win0_8.index t 2 * 704 + (y 2).val = (y 2).val
    omega

include H in
/-- The gradients of the gate's input. -/
theorem arr9 : (dats m 0 c).arrAt 9 cfg0.N
    = (fun i => ((A.dgate (i 1) (col (i 0) (i 2)) : ℝ) : EReal) : S4x8192x704.Idx → EReal) := by
  refine (dats m 0 c).arrAt_eq_of_covers 9 _ (by decide +kernel) fun t hf y => ?_
  blk_simp
  rw [after0_9, out9]
  have h := idx9 t
  refine stack_is t (dgateP_is H t) y _ ?_ ?_ ?_
  · blk_simp []
    show win0_9.index t 0 * 4 + (y 0).val = (y 0).val
    omega
  · blk_simp []
    show win0_9.index t 1 * 256 + (y 1).val = 256 * t.val + (y 1).val
    omega
  · blk_simp []
    show win0_9.index t 2 * 704 + (y 2).val = (y 2).val
    omega

include H in
/-- The gradients of the up projection. -/
theorem arr10 : (dats m 0 c).arrAt 10 cfg0.N
    = (fun i => ((A.dup (i 1) (col (i 0) (i 2)) : ℝ) : EReal) : S4x8192x704.Idx → EReal) := by
  refine (dats m 0 c).arrAt_eq_of_covers 10 _ (by decide +kernel) fun t hf y => ?_
  blk_simp
  rw [after0_10, out10]
  have h := idx10 t
  refine stack_is t (dupP_is H t) y _ ?_ ?_ ?_
  · blk_simp []
    show win0_10.index t 0 * 4 + (y 0).val = (y 0).val
    omega
  · blk_simp []
    show win0_10.index t 1 * 256 + (y 1).val = 256 * t.val + (y 1).val
    omega
  · blk_simp []
    show win0_10.index t 2 * 704 + (y 2).val = (y 2).val
    omega

include H in
/-- The gradient of the rows. -/
theorem arr11 : (dats m 0 c).arrAt 11 cfg0.N
    = (fun i => ((A.dx1 (i 0) (i 1) : ℝ) : EReal) : S8192x1024.Idx → EReal) := by
  refine (dats m 0 c).arrAt_eq_of_covers 11 _ (by decide +kernel) fun t hf y => ?_
  blk_simp
  rw [after0_11, out11]
  have h := idx11 t
  refine rows_is t (dx1P_is H t) y _ ?_ ?_
  · blk_simp []
    show win0_11.index t 0 * 256 + (y 0).val = 256 * t.val + (y 0).val
    omega
  · blk_simp []
    show win0_11.index t 1 * 1024 + (y 1).val = (y 1).val
    omega

include H in
/-- The gradient of the block's output. -/
theorem arr12 : (dats m 0 c).arrAt 12 cfg0.N
    = (fun i => ((A.dx2 (i 0) (i 1) : ℝ) : EReal) : S8192x1024.Idx → EReal) := by
  refine (dats m 0 c).arrAt_eq_of_covers 12 _ (by decide +kernel) fun t hf y => ?_
  blk_simp
  rw [after0_12, out12]
  have h := idx12 t
  refine rows_is t (dx2P_is H t) y _ ?_ ?_
  · blk_simp []
    show win0_12.index t 0 * 256 + (y 0).val = 256 * t.val + (y 0).val
    omega
  · blk_simp []
    show win0_12.index t 1 * 1024 + (y 1).val = (y 1).val
    omega

/-- A block that each point adds its real term to, starting afresh at the first point: after the last point it is the
    sum over the points. -/
theorem acc_is {N w : ℕ} (f : (n : ℕ) → n < N → (⟨2, ![1, w]⟩ : Shape).Idx → EReal) (term : Fin N → Fin w → ℝ)
    (h0 : ∀ t : Fin N, t.val = 0 → Is2 (f t.val t.isLt) fun _ k => term t k)
    (hs : ∀ t : Fin N, t.val ≠ 0 → ∀ prev, Is2 (f (t.val - 1) (Nat.lt_of_le_of_lt (Nat.sub_le _ _) t.isLt)) (fun _ => prev) →
      Is2 (f t.val t.isLt) fun _ k => prev k + term t k) (t : Fin N) (ht : t.val + 1 = N) :
    Is2 (f t.val t.isLt) fun _ k => ∑ p, term p k := by
  have key : ∀ (n : ℕ) (h : n < N), Is2 (f n h) fun _ k => ∑ p : Fin (n + 1), term ⟨p.val, by omega⟩ k := by
    intro n
    induction n with
    | zero =>
      intro h r k
      exact (h0 ⟨0, h⟩ rfl r k).trans (congrArg Real.toEReal
        (Fin.sum_univ_one fun p : Fin 1 => term ⟨p.val, by omega⟩ k).symm)
    | succ n ih =>
      intro h r k
      exact (hs ⟨n + 1, h⟩ (Nat.succ_ne_zero n) _ (ih (by omega)) r k).trans
        (congrArg Real.toEReal
        (Fin.sum_univ_castSucc fun p : Fin (n + 1 + 1) => term ⟨p.val, by omega⟩ k).symm)
  obtain ⟨n, hn⟩ := t
  replace ht : n + 1 = N := ht
  subst ht
  exact key n hn

/-- An index of a single row. -/
theorem one_row {w : ℕ} (j : (⟨2, ![1, w]⟩ : Shape).Idx) : j = ix2 0 (j 1) := by
  funext a
  fin_cases a
  · exact Subsingleton.elim (α := Fin 1) _ _
  · rfl

/-- The last point. -/
def lastPoint : Fin cfg0.N := ⟨31, by decide⟩

/-- A sum over the points and their rows is the sum over all rows. -/
theorem sum_rows (G : Fin 8192 → ℝ) : ∑ p : Fin cfg0.N, ∑ r : Fin 256, G (row p r) = ∑ t, G t := by
  refine Fin.sum_mul_add_congr fun s k hl => congrArg G (Fin.ext ?_)
  show 256 * s.val + k.val = s.val * 256 + k.val
  omega

theorem first (t : Fin cfg0.N) : t.val % 32 = 0 ↔ t.val = 0 := by
  have := t.isLt; have : cfg0.N = 32 := N_0; omega

include H in
/-- The loss, in every lane. -/
theorem arr13 : (dats m 0 c).arrAt 13 cfg0.N = (fun _ => ((A.loss : ℝ) : EReal) : S1x128.Idx → EReal) := by
  refine (dats m 0 c).arrAt_eq_of_after_last 13 lastPoint (by decide +kernel) _ fun j => ?_
  blk_simp
  rw [after0_13]
  have e : ∀ acc : S1x128.Idx → EReal, ∀ prev : Fin 128 → ℝ, Is2 acc (fun _ => prev) → ∀ t,
      Is2 (k0_pay42 (k0_pay40 acc) (lossV (errP m c t)))
        fun _ k => prev k + ∑ r, 1 / 2 * ((∑ k, A.err (row t r) k * A.err (row t r) k) / 1024) := by
    intro acc prev ha t r k
    have := lossV_is (errP_is H t) r k
    pointwise [k0_pay42, k0_pay40]
    rw [this, ha r k, ← EReal.coe_add]
  have z : Is2 (k0_pay3 (F := Ideal)) (fun _ _ => 0) := by
    intro r k
    pointwise [k0_pay3]
    rfl
  have key := acc_is (fun n h => (outsAt0 m c n h).2.2.2.2.2.1)
    (fun t _ => ∑ r, 1 / 2 * ((∑ k, A.err (row t r) k * A.err (row t r) k) / 1024))
    (fun t ht r k => by
      show (outsAt0 m c t.val t.isLt).2.2.2.2.2.1 (ix2 r k) = _
      rw [(outs_A m c t ((first t).2 ht)).2.2.2.2.2.1, e _ _ z t r k, zero_add])
    (fun t ht prev hp r k => by
      show (outsAt0 m c t.val t.isLt).2.2.2.2.2.1 (ix2 r k) = _
      rw [(outs_B m c t (fun h => ht ((first t).1 h))).2.2.2.2.2.1]
      exact e _ _ hp t r k) lastPoint rfl
  refine Eq.trans ?_ ((key 0 (j 1)).trans (congrArg Real.toEReal (sum_rows fun t => 1 / 2 * ((∑ k, A.err t k * A.err t k) / 1024))))
  exact congrArg (outsAt0 m c lastPoint.val lastPoint.isLt).2.2.2.2.2.1 (one_row j)

include H in
/-- The gradient of the last norm's weights. -/
theorem arr14 : (dats m 0 c).arrAt 14 cfg0.N = (fun i => ((A.dgf (i 1) : ℝ) : EReal) : S1x1024.Idx → EReal) := by
  refine (dats m 0 c).arrAt_eq_of_after_last 14 lastPoint (by decide +kernel) _ fun j => ?_
  blk_simp
  rw [after0_14]
  have z : Is2 (k0_pay4 (F := Ideal)) (fun _ _ => 0) := by
    intro r k
    pointwise [k0_pay4]
    rfl
  have key := acc_is (fun n h => (outsAt0 m c n h).2.2.2.2.2.2.1) (fun t k => ∑ r, A.err (row t r) k / 1024 * nrm (A.x2 (row t r)) k)
    (fun t ht r k => by
      show (outsAt0 m c t.val t.isLt).2.2.2.2.2.2.1 (ix2 r k) = _
      rw [(outs_A m c t ((first t).2 ht)).2.2.2.2.2.2.1, dgf_is (nrm_is (x2P_is H t)) (errP_is H t) z r k]
      exact congrArg Real.toEReal (zero_add (_ : ℝ)))
    (fun t ht prev hp r k => by
      show (outsAt0 m c t.val t.isLt).2.2.2.2.2.2.1 (ix2 r k) = _
      rw [(outs_B m c t (fun h => ht ((first t).1 h))).2.2.2.2.2.2.1]
      exact dgf_is (nrm_is (x2P_is H t)) (errP_is H t) hp r k) lastPoint rfl
  refine Eq.trans ?_ ((key 0 (j 1)).trans (congrArg Real.toEReal (sum_rows fun t => A.err t (j 1) / 1024 * nrm (A.x2 t) (j 1))))
  exact congrArg (outsAt0 m c lastPoint.val lastPoint.isLt).2.2.2.2.2.2.1 (one_row j)

include H in
/-- The gradient of the first norm's weights. -/
theorem arr15 : (dats m 0 c).arrAt 15 cfg0.N = (fun i => ((A.dg (i 1) : ℝ) : EReal) : S1x1024.Idx → EReal) := by
  refine (dats m 0 c).arrAt_eq_of_after_last 15 lastPoint (by decide +kernel) _ fun j => ?_
  blk_simp
  rw [after0_15]
  have z : Is2 (k0_pay5 (F := Ideal)) (fun _ _ => 0) := by
    intro r k
    pointwise [k0_pay5]
    rfl
  have key := acc_is (fun n h => (outsAt0 m c n h).2.2.2.2.2.2.2) (fun t k => ∑ r, A.dh (row t r) k * nrm (A.x (row t r)) k)
    (fun t ht r k => by
      show (outsAt0 m c t.val t.isLt).2.2.2.2.2.2.2 (ix2 r k) = _
      rw [(outs_A m c t ((first t).2 ht)).2.2.2.2.2.2.2, dg_is (dhP_is H t) (nrm_is (blk1 H t)) z r k]
      exact congrArg Real.toEReal (zero_add (_ : ℝ)))
    (fun t ht prev hp r k => by
      show (outsAt0 m c t.val t.isLt).2.2.2.2.2.2.2 (ix2 r k) = _
      rw [(outs_B m c t (fun h => ht ((first t).1 h))).2.2.2.2.2.2.2]
      exact dg_is (dhP_is H t) (nrm_is (blk1 H t)) hp r k) lastPoint rfl
  refine Eq.trans ?_ ((key 0 (j 1)).trans (congrArg Real.toEReal (sum_rows fun t => A.dh t (j 1) * nrm (A.x t) (j 1))))
  exact congrArg (outsAt0 m c lastPoint.val lastPoint.isLt).2.2.2.2.2.2.2 (one_row j)

end Cert.KernelIdeal.Body
-- ==== Proof.RefValue.lean ====
/- What the reference computes at real arguments: each stage of its forward pass and of its derivative is the row
   function of `Spec` of the same name. -/
module

public import proofs.«01_k».proof.Proof.Gen.ReferenceIdeal.Read
public import proofs.«01_k».proof.Proof.Reals
public import Idealize.ShloMosaic.Lib.ValueIdxRank1

@[expose] public section

noncomputable section

namespace Cert.ReferenceIdeal.Ref

open Cert.ReferenceIdeal Cert.ReferenceIdeal.Gen Cert.ReferenceIdeal.Read Idealize.ShloMosaic Ffn

variable (A : Args)

/-- The seven arguments, holding the reals of `A`. -/
def aX : (⟨S8192x1024, .f32⟩ : BufTy).Contents (Elt Ideal) := fun i => ((A.x (i 0) (i 1) : ℝ) : EReal)
@[inherit_doc aX] def aG : (⟨S1024, .f32⟩ : BufTy).Contents (Elt Ideal) := fun i => ((A.g (i 0) : ℝ) : EReal)
@[inherit_doc aX] def aWg : (⟨S1024x2816, .f32⟩ : BufTy).Contents (Elt Ideal) := fun i => ((A.wg (i 0) (i 1) : ℝ) : EReal)
@[inherit_doc aX] def aWu : (⟨S1024x2816, .f32⟩ : BufTy).Contents (Elt Ideal) := fun i => ((A.wu (i 0) (i 1) : ℝ) : EReal)
@[inherit_doc aX] def aWd : (⟨S2816x1024, .f32⟩ : BufTy).Contents (Elt Ideal) := fun i => ((A.wd (i 0) (i 1) : ℝ) : EReal)
@[inherit_doc aX] def aGf : (⟨S1024, .f32⟩ : BufTy).Contents (Elt Ideal) := fun i => ((A.gf (i 0) : ℝ) : EReal)
@[inherit_doc aX] def aTg : (⟨S8192x1024, .f32⟩ : BufTy).Contents (Elt Ideal) := fun i => ((A.tg (i 0) (i 1) : ℝ) : EReal)

theorem v6_eq (i : S8192x1.Idx) : val_main_v6 (F := Ideal) (aX A) i = ((ms (A.x (i 0)) + eps : ℝ) : EReal) := by
  rw [val_main_v6_apply, val_main_v4_apply, val_main_v2_apply, val_main_v1_apply, val_main_v3_apply,
    val_main_v5_apply, val_main_cst_apply, val_main_cst_0_apply, val_main_cst_1_apply]
  simp only [val_main_v0_apply, aX, Ideal.ofBits_def, Ideal.addf_def, Ideal.mulf_def, Ideal.hostDivf_def, word_zero,
    word_width, word_eps]
  simp only [← EReal.coe_mul, ← EReal.coe_add, ← coe_sum, zero_add]
  rw [div_real _ (by norm_num), ← EReal.coe_add]
  rfl

theorem v7_eq (i : S8192x1.Idx) : val_main_v7 (F := Ideal) (aX A) i = ((rs (A.x (i 0)) : ℝ) : EReal) := by
  rw [val_main_v7_apply, v6_eq, Ideal.hostUnary_rsqrt_def, rsqrt_ms]

/-- The factor of the chain rule through the norm's root. -/
theorem v10_eq (i : S8192x1.Idx) : val_main_v10 (F := Ideal) (aX A) i
    = ((-(1 / 2) * (rs (A.x (i 0)) / (ms (A.x (i 0)) + eps)) : ℝ) : EReal) := by
  rw [val_main_v10_apply, val_main_v9_apply, val_main_v8_apply, v7_eq, v6_eq, val_main_cst_2_apply, Ideal.ofBits_def,
    word_neg_half, Ideal.hostDivf_def, div_real _ (ms_eps_pos _).ne', Ideal.mulf_def, EReal.coe_mul]

theorem v12_eq (i : S8192x1024.Idx) : val_main_v12 (F := Ideal) (aX A) i = ((nrm (A.x (i 0)) (i 1) : ℝ) : EReal) := by
  rw [val_main_v12_apply, val_main_v11_apply, v7_eq, Ideal.mulf_def, aX, ← EReal.coe_mul]
  rfl

theorem v15_eq (i : S8192x1024.Idx) : val_main_v15 (F := Ideal) (aX A) (aG A) i = ((A.h (i 0) (i 1) : ℝ) : EReal) := by
  rw [val_main_v15_apply, v12_eq, val_main_v14_apply, val_main_v13_apply, Ideal.mulf_def, aG, ← EReal.coe_mul]
  rfl

theorem v16_eq (i : S8192x2816.Idx) : val_main_v16 (F := Ideal) (aX A) (aG A) (aWg A) i = ((A.gate (i 0) (i 1) : ℝ) : EReal) := by
  rw [val_main_v16_apply]
  simp only [v15_eq, aWg, ← EReal.coe_mul, ← coe_sum]
  rfl

theorem v17_eq (i : S8192x2816.Idx) : val_main_v17 (F := Ideal) (aX A) (aG A) (aWu A) i = ((A.up (i 0) (i 1) : ℝ) : EReal) := by
  rw [val_main_v17_apply]
  simp only [v15_eq, aWu, ← EReal.coe_mul, ← coe_sum]
  rfl

theorem sg_eq (i : S8192x2816.Idx) :
    val_main_v18_2 (F := Ideal) (aX A) (aG A) (aWg A) i = ((sg (A.gate (i 0) (i 1)) : ℝ) : EReal) := by
  rw [val_main_v18_2_apply, val_main_call0_v4_apply, val_main_call0_cst_0_apply, val_main_call0_v3_apply,
    val_main_call0_v2_apply, val_main_call0_cst_apply, val_main_call0_v1_apply, val_main_call0_v0_apply, v16_eq]
  simp only [Ideal.ofBits_def, word_one, Ideal.hostNegf_def, Ideal.negf_def, Ideal.hostUnary_exp_def, Ideal.addf_def, Ideal.hostDivf_def,
    ← EReal.coe_neg, Ideal.exp_coe, ← EReal.coe_add]
  rw [div_real _ (sg_ne _), sg, one_div]

theorem dsg_eq (i : S8192x2816.Idx) : val_main_v18_1 (F := Ideal) (aX A) (aG A) (aWg A) i
    = ((sg (A.gate (i 0) (i 1)) * (1 - sg (A.gate (i 0) (i 1))) : ℝ) : EReal) := by
  rw [val_main_v18_1_apply, val_main_call0_v7_apply, val_main_call0_v6_apply, val_main_call0_cst_1_apply, sg_eq]
  simp only [Ideal.ofBits_def, word_one, Ideal.mulf_def, Ideal.subf_def, ← EReal.coe_sub, ← EReal.coe_mul]

theorem silu_eq (i : S8192x2816.Idx) : val_main_v18_0 (F := Ideal) (aX A) (aG A) (aWg A) i
    = ((A.gate (i 0) (i 1) * sg (A.gate (i 0) (i 1)) : ℝ) : EReal) := by
  rw [val_main_v18_0_apply, v16_eq, sg_eq, Ideal.mulf_def, ← EReal.coe_mul]

theorem v19_eq (i : S8192x2816.Idx) :
    val_main_v19 (F := Ideal) (aX A) (aG A) (aWg A) (aWu A) i = ((A.act (i 0) (i 1) : ℝ) : EReal) := by
  rw [val_main_v19_apply, silu_eq, v17_eq, Ideal.mulf_def, ← EReal.coe_mul]
  rfl

theorem v21_eq (i : S8192x1024.Idx) :
    val_main_v21 (F := Ideal) (aX A) (aG A) (aWg A) (aWu A) (aWd A) i = ((A.x2 (i 0) (i 1) : ℝ) : EReal) := by
  rw [val_main_v21_apply, val_main_v20_apply]
  simp only [v19_eq, aX, aWd, Ideal.addf_def, ← EReal.coe_mul, ← coe_sum, ← EReal.coe_add]
  rfl

theorem v28_eq (i : S8192x1.Idx) : val_main_v28 (F := Ideal) (aX A) (aG A) (aWg A) (aWu A) (aWd A) i
    = ((ms (A.x2 (i 0)) + eps : ℝ) : EReal) := by
  rw [val_main_v28_apply, val_main_v26_apply, val_main_v24_apply, val_main_v23_apply, val_main_v25_apply,
    val_main_v27_apply, val_main_cst_3_apply, val_main_cst_4_apply, val_main_cst_5_apply]
  simp only [val_main_v22_apply, v21_eq, Ideal.ofBits_def, Ideal.addf_def, Ideal.mulf_def, Ideal.hostDivf_def, word_zero,
    word_width, word_eps, ← EReal.coe_mul, ← EReal.coe_add, ← coe_sum, zero_add]
  rw [div_real _ (by norm_num), ← EReal.coe_add]
  rfl

theorem v29_eq (i : S8192x1.Idx) : val_main_v29 (F := Ideal) (aX A) (aG A) (aWg A) (aWu A) (aWd A) i
    = ((rs (A.x2 (i 0)) : ℝ) : EReal) := by
  rw [val_main_v29_apply, v28_eq, Ideal.hostUnary_rsqrt_def, rsqrt_ms]

theorem v32_eq (i : S8192x1.Idx) : val_main_v32 (F := Ideal) (aX A) (aG A) (aWg A) (aWu A) (aWd A) i
    = ((-(1 / 2) * (rs (A.x2 (i 0)) / (ms (A.x2 (i 0)) + eps)) : ℝ) : EReal) := by
  rw [val_main_v32_apply, val_main_v31_apply, val_main_v30_apply, v29_eq, v28_eq, val_main_cst_6_apply, Ideal.ofBits_def,
    word_neg_half, Ideal.hostDivf_def, div_real _ (ms_eps_pos _).ne', Ideal.mulf_def, EReal.coe_mul]

theorem v34_eq (i : S8192x1024.Idx) : val_main_v34 (F := Ideal) (aX A) (aG A) (aWg A) (aWu A) (aWd A) i
    = ((nrm (A.x2 (i 0)) (i 1) : ℝ) : EReal) := by
  rw [val_main_v34_apply, val_main_v33_apply, v29_eq, v21_eq, Ideal.mulf_def, ← EReal.coe_mul]
  rfl

theorem v38_eq (i : S8192x1024.Idx) :
    val_main_v38 (F := Ideal) (aX A) (aG A) (aWg A) (aWu A) (aWd A) (aGf A) (aTg A) i = ((A.err (i 0) (i 1) : ℝ) : EReal) := by
  rw [val_main_v38_apply, val_main_v37_apply, v34_eq, val_main_v36_apply, val_main_v35_apply, Ideal.mulf_def,
    Ideal.subf_def, aGf, aTg, ← EReal.coe_mul, ← EReal.coe_sub]
  rfl

theorem v52_eq (i : S8192x1024.Idx) :
    val_main_v52 (F := Ideal) (aX A) (aG A) (aWg A) (aWu A) (aWd A) (aGf A) (aTg A) i = ((A.dy (i 0) (i 1) : ℝ) : EReal) := by
  rw [val_main_v52_apply, val_main_v51_apply, val_main_v50_apply, val_main_v48_apply, val_main_v47_apply,
    val_main_v49_apply, val_main_v41_apply, val_main_v40_apply, v38_eq, val_main_cst_7_apply, val_main_cst_12_apply,
    val_main_cst_13_apply, val_main_cst_14_apply]
  simp only [Ideal.ofBits_def, Ideal.mulf_def, Ideal.hostDivf_def, word_half, word_one, word_two, word_width,
    ← EReal.coe_mul]
  rw [div_real _ (by norm_num), ← EReal.coe_mul]
  refine congrArg Real.toEReal (?_ : _ = A.err (i 0) (i 1) / 1024)
  ring

theorem v58_eq (i : S8192x1024.Idx) :
    val_main_v58 (F := Ideal) (aX A) (aG A) (aWg A) (aWu A) (aWd A) (aGf A) (aTg A) i
      = ((A.dy (i 0) (i 1) * A.gf (i 1) : ℝ) : EReal) := by
  rw [val_main_v58_apply, v52_eq, val_main_v57_apply, val_main_v35_apply, Ideal.mulf_def, aGf, ← EReal.coe_mul]
  rfl

theorem idx_row62 (j : S8192x1.Idx) : idx_main_v62 j = fun a => match a with | ⟨0, _⟩ => ⟨(j 0).val, (j 0).isLt⟩ := by
  have h1 : (j 1).val < 1 := (j 1).isLt
  funext a
  match a with
  | ⟨0, _⟩ => exact Fin.ext (show (j 0).val * 1 + (j 1).val = (j 0).val by omega)

theorem v69_eq (i : S8192x1024.Idx) :
    val_main_v69 (F := Ideal) (aX A) (aG A) (aWg A) (aWu A) (aWd A) (aGf A) (aTg A) i
      = (((∑ j, A.x2 (i 0) j * (A.dy (i 0) j * A.gf j)) * (-(1 / 2) * (rs (A.x2 (i 0)) / (ms (A.x2 (i 0)) + eps))) / 1024
          : ℝ) : EReal) := by
  rw [val_main_v69_apply, val_main_v68_apply, val_main_cst_19_apply]
  simp only [Fin.sum_univ_one, val_main_v67_apply, val_main_v65_apply, val_main_v66_apply, val_main_cst_18_apply,
    val_main_v62_apply, idx_row62, val_main_v61_apply, val_main_cst_17_apply, v32_eq, val_main_v60_apply, v21_eq, v58_eq,
    Ideal.ofBits_def, word_zero, word_width, Ideal.mulf_def, Ideal.hostDivf_def, ← EReal.coe_mul, ← coe_sum,
    ← EReal.coe_add, zero_add]
  rw [div_real _ (by norm_num), ← EReal.coe_add, zero_add]
  rfl

theorem v73_eq (i : S8192x1024.Idx) :
    val_main_v73 (F := Ideal) (aX A) (aG A) (aWg A) (aWu A) (aWd A) (aGf A) (aTg A) i = ((A.dx2 (i 0) (i 1) : ℝ) : EReal) := by
  rw [val_main_v73_apply, val_main_v71_apply, val_main_v64_apply, val_main_v63_apply, val_main_v70_apply,
    val_main_v72_apply, v69_eq, v58_eq, v21_eq, v29_eq]
  simp only [Ideal.mulf_def, Ideal.addf_def, ← EReal.coe_mul, ← EReal.coe_add]
  exact congrArg _ (back_chain (fun k => A.dy (i 0) k * A.gf k) (A.x2 (i 0)) (i 1))

theorem v76_eq (i : S8192x2816.Idx) :
    val_main_v76 (F := Ideal) (aX A) (aG A) (aWg A) (aWu A) (aWd A) (aGf A) (aTg A) i = ((A.dact (i 0) (i 1) : ℝ) : EReal) := by
  rw [val_main_v76_apply]
  simp only [v73_eq, aWd, ← EReal.coe_mul, ← coe_sum]
  rfl

theorem v77_eq (i : S8192x2816.Idx) :
    val_main_v77 (F := Ideal) (aX A) (aG A) (aWg A) (aWu A) (aWd A) (aGf A) (aTg A) i = ((A.dup (i 0) (i 1) : ℝ) : EReal) := by
  rw [val_main_v77_apply, silu_eq, v76_eq, Ideal.mulf_def, ← EReal.coe_mul, mul_comm]
  rfl

theorem v79_eq (i : S8192x2816.Idx) :
    val_main_v79 (F := Ideal) (aX A) (aG A) (aWg A) (aWu A) (aWd A) (aGf A) (aTg A) i = ((A.dgate (i 0) (i 1) : ℝ) : EReal) := by
  rw [val_main_v79_apply, val_main_call1_v1_apply, val_main_call1_v2_apply, val_main_call1_v0_apply, val_main_v78_apply,
    v16_eq, v17_eq, v76_eq, sg_eq, dsg_eq]
  simp only [Ideal.mulf_def, Ideal.addf_def, ← EReal.coe_mul, ← EReal.coe_add]
  refine congrArg Real.toEReal (?_ : _ = A.dact (i 0) (i 1) * A.up (i 0) (i 1) * (sg (A.gate (i 0) (i 1))
    * (1 + A.gate (i 0) (i 1) * (1 - sg (A.gate (i 0) (i 1))))))
  ring

theorem v86_eq (i : S8192x1024.Idx) :
    val_main_v86 (F := Ideal) (aX A) (aG A) (aWg A) (aWu A) (aWd A) (aGf A) (aTg A) i = ((A.dh (i 0) (i 1) : ℝ) : EReal) := by
  rw [val_main_v86_apply, val_main_v82_apply, val_main_v85_apply]
  simp only [v77_eq, v79_eq, aWg, aWu, Ideal.addf_def, ← EReal.coe_mul, ← coe_sum, ← EReal.coe_add]
  rw [add_comm]
  rfl

theorem v91_eq (i : S8192x1024.Idx) :
    val_main_v91 (F := Ideal) (aX A) (aG A) (aWg A) (aWu A) (aWd A) (aGf A) (aTg A) i
      = ((A.dh (i 0) (i 1) * A.g (i 1) : ℝ) : EReal) := by
  rw [val_main_v91_apply, v86_eq, val_main_v90_apply, val_main_v13_apply, Ideal.mulf_def, aG, ← EReal.coe_mul]
  rfl

theorem idx_row95 (j : S8192x1.Idx) : idx_main_v95 j = fun a => match a with | ⟨0, _⟩ => ⟨(j 0).val, (j 0).isLt⟩ := by
  have h1 : (j 1).val < 1 := (j 1).isLt
  funext a
  match a with
  | ⟨0, _⟩ => exact Fin.ext (show (j 0).val * 1 + (j 1).val = (j 0).val by omega)

theorem v102_eq (i : S8192x1024.Idx) :
    val_main_v102 (F := Ideal) (aX A) (aG A) (aWg A) (aWu A) (aWd A) (aGf A) (aTg A) i
      = (((∑ j, A.x (i 0) j * (A.dh (i 0) j * A.g j)) * (-(1 / 2) * (rs (A.x (i 0)) / (ms (A.x (i 0)) + eps))) / 1024
          : ℝ) : EReal) := by
  rw [val_main_v102_apply, val_main_v101_apply, val_main_cst_24_apply]
  simp only [Fin.sum_univ_one, val_main_v100_apply, val_main_v98_apply, val_main_v99_apply, val_main_cst_23_apply,
    val_main_v95_apply, idx_row95, val_main_v94_apply, val_main_cst_22_apply, v10_eq, val_main_v93_apply, v91_eq,
    Ideal.ofBits_def, word_zero, word_width, Ideal.mulf_def, Ideal.hostDivf_def, zero_add]
  simp only [aX, ← EReal.coe_mul, ← coe_sum, ← EReal.coe_add, zero_add]
  rw [div_real _ (by norm_num), ← EReal.coe_add, zero_add]
  rfl

theorem v116_eq (i : S8192x1024.Idx) :
    val_main_v116 (F := Ideal) (aX A) (aG A) (aWg A) (aWu A) (aWd A) (aGf A) (aTg A) i = ((A.dx1 (i 0) (i 1) : ℝ) : EReal) := by
  rw [val_main_v116_apply, v73_eq, val_main_v106_apply, val_main_v104_apply, val_main_v97_apply, val_main_v96_apply,
    val_main_v103_apply, val_main_v105_apply, v102_eq, v91_eq, v7_eq]
  simp only [aX, Ideal.mulf_def, Ideal.addf_def, ← EReal.coe_mul, ← EReal.coe_add]
  exact congrArg (fun r : ℝ => ((A.dx2 (i 0) (i 1) + r : ℝ) : EReal))
    (back_chain (fun k => A.dh (i 0) k * A.g k) (A.x (i 0)) (i 1))

/-! ## The eight results -/

theorem idx_cut (i : S4x8192x704.Idx) :
    idx_main_v107 (idx_main_v108 i) = fun a => match a with
      | ⟨0, _⟩ => ⟨(i 1).val, (i 1).isLt⟩
      | ⟨1, _⟩ => col (i 0) (i 2) := by
  have h0 : (i 0).val < 4 := (i 0).isLt
  have h2 : (i 2).val < 704 := (i 2).isLt
  funext a
  match a with
  | ⟨0, _⟩ => exact Fin.ext (show (((i 1).val * 4 + (i 0).val) * 704 + (i 2).val) / 2816 = (i 1).val by omega)
  | ⟨1, _⟩ => exact Fin.ext (show (((i 1).val * 4 + (i 0).val) * 704 + (i 2).val) % 2816 = 704 * (i 0).val + (i 2).val by omega)

/-- The activations, cut into the four shards. -/
theorem act_eq (i : S4x8192x704.Idx) : val_main_v109 (F := Ideal) (aX A) (aG A) (aWg A) (aWu A) i
    = ((A.act (i 1) (col (i 0) (i 2)) : ℝ) : EReal) := by
  rw [val_main_v109_apply, val_main_v108_apply, val_main_v107_apply, idx_cut, v19_eq, Ideal.truncf_def]
  rfl

/-- The gradient of the gate's input, cut into the four shards. -/
theorem dgate_eq (i : S4x8192x704.Idx) :
    val_main_v112 (F := Ideal) (aX A) (aG A) (aWg A) (aWu A) (aWd A) (aGf A) (aTg A) i
      = ((A.dgate (i 1) (col (i 0) (i 2)) : ℝ) : EReal) := by
  rw [val_main_v112_apply, val_main_v111_apply, val_main_v110_apply, Ideal.truncf_def]
  exact (congrArg _ (idx_cut i)).trans (v79_eq A _)

/-- The gradient of the up projection, cut into the four shards. -/
theorem dup_eq (i : S4x8192x704.Idx) :
    val_main_v115 (F := Ideal) (aX A) (aG A) (aWg A) (aWu A) (aWd A) (aGf A) (aTg A) i
      = ((A.dup (i 1) (col (i 0) (i 2)) : ℝ) : EReal) := by
  rw [val_main_v115_apply, val_main_v114_apply, val_main_v113_apply, Ideal.truncf_def]
  exact (congrArg _ (idx_cut i)).trans (v77_eq A _)

/-- The gradient of the block's output. -/
theorem dx2_eq (i : S8192x1024.Idx) :
    val_main_v117 (F := Ideal) (aX A) (aG A) (aWg A) (aWu A) (aWd A) (aGf A) (aTg A) i
      = ((A.dx2 (i 0) (i 1) : ℝ) : EReal) := by
  rw [val_main_v117_apply, v73_eq, Ideal.truncf_def]

/-- The loss, in every lane of its row. -/
theorem loss_eq (i : S1x128.Idx) :
    val_main_v118 (F := Ideal) (aX A) (aG A) (aWg A) (aWu A) (aWd A) (aGf A) (aTg A) i = ((A.loss : ℝ) : EReal) := by
  rw [val_main_v118_apply, val_main_v46_apply, val_main_v45_apply, val_main_cst_10_apply, val_main_cst_11_apply]
  have h : ∀ j : S8192.Idx, val_main_v44 (F := Ideal) (aX A) (aG A) (aWg A) (aWu A) (aWd A) (aGf A) (aTg A) j
      = (((∑ k, A.err (j 0) k * A.err (j 0) k) / 1024 : ℝ) : EReal) := fun j => by
    rw [val_main_v44_apply, val_main_v42_apply, val_main_v43_apply, val_main_cst_8_apply, val_main_cst_9_apply]
    simp only [val_main_v39_apply, v38_eq, Ideal.ofBits_def, word_zero, word_width, Ideal.mulf_def, Ideal.hostDivf_def,
      ← EReal.coe_mul, ← coe_sum, ← EReal.coe_add, zero_add]
    rw [div_real _ (by norm_num)]
    rfl
  simp only [h, Ideal.ofBits_def, word_zero, word_half, Ideal.mulf_def, ← coe_sum, ← EReal.coe_add, ← EReal.coe_mul, zero_add]
  refine congrArg Real.toEReal (?_ : _ = A.loss)
  rw [Args.loss, Finset.mul_sum]
  rw [← Equiv.sum_comp (ValueIdx.idxEquiv1 (n := 8192)).symm]
  exact Finset.sum_congr rfl fun t _ => rfl

/-- The gradient of the last norm's weights. -/
theorem dgf_eq (i : S1x1024.Idx) :
    val_main_v119 (F := Ideal) (aX A) (aG A) (aWg A) (aWu A) (aWd A) (aGf A) (aTg A) i = ((A.dgf (i 1) : ℝ) : EReal) := by
  rw [val_main_v119_apply, val_main_v59_apply, Fin.sum_univ_one, val_main_v56_apply, val_main_v55_apply,
    val_main_cst_15_apply, val_main_cst_16_apply]
  simp only [val_main_v54_apply, v34_eq, v52_eq, Ideal.ofBits_def, word_zero, Ideal.mulf_def, ← EReal.coe_mul,
    ← coe_sum, ← EReal.coe_add, zero_add]
  refine congrArg Real.toEReal (?_ : _ = ∑ t, A.dy t (i 1) * nrm (A.x2 t) (i 1))
  refine Finset.sum_congr rfl fun t _ => ?_
  rw [mul_comm]
  have e : idx_main_v55 (idx_main_v56 (idx_main_v59 (idx_main_v119 i) 0)) t 1 = i 1 :=
    Fin.ext (show 0 * 1024 + (i 1).val = (i 1).val by omega)
  rw [e]
  rfl

/-- The gradient of the first norm's weights. -/
theorem dg_eq (i : S1x1024.Idx) :
    val_main_v120 (F := Ideal) (aX A) (aG A) (aWg A) (aWu A) (aWd A) (aGf A) (aTg A) i = ((A.dg (i 1) : ℝ) : EReal) := by
  rw [val_main_v120_apply, val_main_v92_apply, Fin.sum_univ_one, val_main_v89_apply, val_main_v88_apply,
    val_main_cst_20_apply, val_main_cst_21_apply]
  simp only [val_main_v87_apply, v12_eq, v86_eq, Ideal.ofBits_def, word_zero, Ideal.mulf_def, ← EReal.coe_mul,
    ← coe_sum, ← EReal.coe_add, zero_add]
  refine congrArg Real.toEReal (?_ : _ = ∑ t, A.dh t (i 1) * nrm (A.x t) (i 1))
  refine Finset.sum_congr rfl fun t _ => ?_
  rw [mul_comm]
  have e : idx_main_v88 (idx_main_v89 (idx_main_v92 (idx_main_v120 i) 0)) t 1 = i 1 :=
    Fin.ext (show 0 * 1024 + (i 1).val = (i 1).val by omega)
  rw [e]
  rfl

end Cert.ReferenceIdeal.Ref
-- ==== Proof.Finite.lean ====
/- The precondition read back: where it holds, every argument is an array of real numbers. -/
module

public import proofs.«01_k».proof.Proof.Blocks
public import proofs.«01_k».proof.Defs
public import proofs.«01_k».proof.Proof.Gen.Pre_finite
public import Idealize.ShloMosaic.Lib.ReduceAll
public import Idealize.ShloMosaic.PureOps.Ideal.Laws

@[expose] public section

noncomputable section

namespace Cert.Finite

open Idealize.ShloMosaic Idealize.ShloMosaic.TcCoe Ffn Cert.Pre_finite

/-- An extended real whose absolute value is below infinity is a real number. -/
theorem real_of_abs_lt {x : EReal} (h : max x (-x) < ⊤) : ((x.toReal : ℝ) : EReal) = x := by
  rw [max_lt_iff] at h
  refine EReal.coe_toReal h.1.ne fun e => ?_
  rw [e] at h
  exact absurd h.2 (by simp)

theorem and_one : ∀ a b : BitVec 1, IntOp.andi a b = 1#1 → a = 1#1 ∧ b = 1#1 := by decide

/-- A conjunction of two one-bit scalars that reads one: both do. -/
theorem both {a b : IVec S_ 1} (j : S_.Idx) (h : andi a b j = 1#1) : a j = 1#1 ∧ b j = 1#1 := and_one _ _ h

/-- The test of one argument: where `|x| < ∞` holds of all elements, each is a real number. -/
theorem reals {s : Shape} {axes : List (Fin s.rank)} (x : s.Idx → EReal) (init : S_.Idx → BitVec 1)
    (bc : S_.BroadcastsInDim s (![] : Fin 0 → Fin s.rank)) (h : s.ReducesTo axes S_) (hu : 0 < S_.numel) (j : S_.Idx)
    (e : Host.reduce IntOp.andi (cmpf (F := Ideal) (φ := .f32) .olt (Host.absf (F := Ideal) (φ := .f32) x)
      (broadcastInDim s ![] bc (constant (F := Ideal) S_ .f32 0x7F800000#32))) init h hu j = 1#1) (i : s.Idx) :
    x i = (((x i).toReal : ℝ) : EReal) := by
  have : Subsingleton S_.Idx := ⟨fun a b => funext fun k => k.elim0⟩
  have e' := Host.reduce_andi_all _ _ _ _ j e i
  have htop : Ideal.ofBits .f32 0x7F800000#32 = ⊤ := by simp [Ideal.ofBits, Ideal.ieee]
  have e2 : Ideal.cmp .olt (max (x i) (-(x i))) (Ideal.ofBits .f32 0x7F800000#32) = 1#1 := e'
  rw [htop] at e2
  refine (real_of_abs_lt ?_).symm
  by_contra hn
  simp [Ideal.cmp, hn] at e2

/-- Arguments of which the precondition holds are the real arrays of their own elements. -/
theorem args (x : S8192x1024.Idx → EReal) (g : S1024.Idx → EReal) (wg wu : S1024x2816.Idx → EReal)
    (wd : S2816x1024.Idx → EReal) (gf : S1024.Idx → EReal) (tg : S8192x1024.Idx → EReal)
    (h : fn (F := Ideal) x g wg wu wd gf tg = fun _ => 1#1) :
    (∀ i, x i = (((x i).toReal : ℝ) : EReal)) ∧ (∀ i, g i = (((g i).toReal : ℝ) : EReal))
      ∧ (∀ i, wg i = (((wg i).toReal : ℝ) : EReal)) ∧ (∀ i, wu i = (((wu i).toReal : ℝ) : EReal))
      ∧ (∀ i, wd i = (((wd i).toReal : ℝ) : EReal)) ∧ (∀ i, gf i = (((gf i).toReal : ℝ) : EReal))
      ∧ (∀ i, tg i = (((tg i).toReal : ℝ) : EReal)) := by
  have e := congrFun h ValueIdx.ix0
  dsimp only [fn, fn_part1, fn_part2] at e
  obtain ⟨e, e7⟩ := both _ e
  obtain ⟨e, e6⟩ := both _ e
  obtain ⟨e, e5⟩ := both _ e
  obtain ⟨e, e4⟩ := both _ e
  obtain ⟨e, e3⟩ := both _ e
  obtain ⟨e, e2⟩ := both _ e
  obtain ⟨-, e1⟩ := both _ e
  exact ⟨reals x _ _ _ _ _ e1, reals g _ _ _ _ _ e2, reals wg _ _ _ _ _ e3, reals wu _ _ _ _ _ e4,
    reals wd _ _ _ _ _ e5, reals gf _ _ _ _ _ e6, reals tg _ _ _ _ _ e7⟩

/-- From a launch memory of which the precondition holds: the seven real arrays it holds. -/
theorem holds (m : (ℓ : Loc KernelIdeal.nD KernelIdeal.τ KernelIdeal.sig) → Buf (Elt Ideal) ℓ)
    (hpre : Cert.Pre_KernelIdeal_finite m) (c : Dev KernelIdeal.nD) : ∃ A : Args, KernelIdeal.Body.Holds m c A := by
  obtain ⟨hx, hg, hwg, hwu, hwd, hgf, htg⟩ := args _ _ _ _ _ _ _ (hpre c)
  have e2 : ∀ {a b : ℕ} (u : (⟨2, ![a, b]⟩ : Shape).Idx → EReal), (∀ i, u i = (((u i).toReal : ℝ) : EReal)) →
      u = fun i => (((u (ValueIdx.ix2 (i 0) (i 1))).toReal : ℝ) : EReal) := fun u h => funext fun i =>
    (h i).trans (congrArg (fun j => (((u j).toReal : ℝ) : EReal)) (ValueIdx.eq_ix2 i))
  have e1 : ∀ {a : ℕ} (u : (⟨1, ![a]⟩ : Shape).Idx → EReal), (∀ i, u i = (((u i).toReal : ℝ) : EReal)) →
      u = fun i => (((u (ValueIdx.ix1 (i 0))).toReal : ℝ) : EReal) := fun u h => funext fun i =>
    (h i).trans (congrArg (fun j => (((u j).toReal : ℝ) : EReal)) (ValueIdx.eq_ix1 i))
  have a2 : ∀ {a b : ℕ} (u : (⟨2, ![a, b]⟩ : Shape).Idx → EReal), (∀ i, u i = (((u i).toReal : ℝ) : EReal)) →
      ∃ f : Fin a → Fin b → ℝ, u = fun i => ((f (i 0) (i 1) : ℝ) : EReal) := fun u h => ⟨fun a b => (u (ValueIdx.ix2 a b)).toReal, e2 u h⟩
  have a1 : ∀ {a : ℕ} (u : (⟨1, ![a]⟩ : Shape).Idx → EReal), (∀ i, u i = (((u i).toReal : ℝ) : EReal)) →
      ∃ f : Fin a → ℝ, u = fun i => ((f (i 0) : ℝ) : EReal) := fun u h => ⟨fun a => (u (ValueIdx.ix1 a)).toReal, e1 u h⟩
  obtain ⟨x, hx⟩ := a2 _ hx
  obtain ⟨g, hg⟩ := a1 _ hg
  obtain ⟨wg, hwg⟩ := a2 _ hwg
  obtain ⟨wu, hwu⟩ := a2 _ hwu
  obtain ⟨wd, hwd⟩ := a2 _ hwd
  obtain ⟨gf, hgf⟩ := a1 _ hgf
  obtain ⟨tg, htg⟩ := a2 _ htg
  exact ⟨⟨x, g, wg, wu, wd, gf, tg⟩, hx, hg, hwg, hwu, hwd, hgf, htg⟩

end Cert.Finite

end
-- ==== Proof.Weights.lean ====
/- The weight gradients of the feed-forward block: what the tiled kernel leaves in its three result arrays. -/
module

public import proofs.«01_k».proof.Proof.Gen.Kernel2Ideal.Frame
public import proofs.«01_k».proof.Proof.Gen.Kernel2Ideal.Value
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Body

open Cert.Kernel2Ideal Cert.Kernel2Ideal.Gen Idealize.ShloMosaic Idealize.ShloMosaic.TcCoe

/-- The sum over a point's rows of a column of one block times a column of the other. -/
def part (a : S1x2048x704.Idx → EReal) (b : S2048x1024.Idx → EReal) (f : Fin 704) (k : Fin 1024) : EReal :=
  ∑ r : Fin 2048, a (ix3 0 r f) * b (ix2 r k)

theorem pay5_at (b : S2048x1024.Idx → EReal) (acc : S1x704x1024.Idx → EReal) (a : S1x2048x704.Idx → EReal) (f : Fin 704)
    (k : Fin 1024) : (k0_pay5 (F := Ideal) b acc a : S1x704x1024.Idx → EReal) (ix3 0 f k) = acc (ix3 0 f k) + part a b f k := by
  pointwise [k0_pay5]
  rfl

theorem pay6_at (b : S2048x1024.Idx → EReal) (acc : S1x704x1024.Idx → EReal) (a : S1x2048x704.Idx → EReal) (f : Fin 704)
    (k : Fin 1024) : (k0_pay6 (F := Ideal) b acc a : S1x704x1024.Idx → EReal) (ix3 0 f k) = acc (ix3 0 f k) + part a b f k := by
  pointwise [k0_pay6]
  rfl

theorem pay1_at (b : S2048x1024.Idx → EReal) (acc : S1x704x1024.Idx → EReal) (a : S1x2048x704.Idx → EReal) (f : Fin 704)
    (k : Fin 1024) : (k0_pay1 (F := Ideal) (k0_pay7 acc) a b : S1x704x1024.Idx → EReal) (ix3 0 f k) = acc (ix3 0 f k) + part a b f k := by
  pointwise [k0_pay1, k0_pay7]
  rfl

theorem zero_at (f : Fin 704) (k : Fin 1024) : (k0_pay2 (F := Ideal) : S1x704x1024.Idx → EReal) (ix3 0 f k) = 0
    ∧ (k0_pay3 (F := Ideal) : S1x704x1024.Idx → EReal) (ix3 0 f k) = 0
    ∧ (k0_pay4 (F := Ideal) : S1x704x1024.Idx → EReal) (ix3 0 f k) = 0 := by
  refine ⟨?_, ?_, ?_⟩
  · pointwise [k0_pay2]
  · pointwise [k0_pay3]
  · pointwise [k0_pay4]

variable (m : (ℓ : Loc nD τ sig) → Buf (Elt Ideal) ℓ) (c : Dev nD)

/-- What a shard's first point leaves. -/
theorem outs_A (t : Fin cfg0.N) (h0 : t.val % 4 = 0) :
    (outsAt0 m c t.val t.isLt).1 = k0_pay5 (iblk m c 0 t) (k0_pay2 (F := Ideal)) (iblk m c 1 t)
    ∧ (outsAt0 m c t.val t.isLt).2.1 = k0_pay6 (iblk m c 0 t) (k0_pay3 (F := Ideal)) (iblk m c 2 t)
    ∧ (outsAt0 m c t.val t.isLt).2.2 = k0_pay1 (k0_pay7 (k0_pay4 (F := Ideal))) (iblk m c 3 t) (iblk m c 4 t) := by
  refine ⟨?_, ?_, ?_⟩
  all_goals
    rw [outsAt0_A m c t h0]
    frame_open
    simp (disch := decide) only [↓ View.readCov_skip, ↓ View.readCov_cons_toLoadRect, ↓ View.readCov_fill]
    frame_out

/-- What a shard's later point leaves. -/
theorem outs_B (t : Fin cfg0.N) (h0 : ¬t.val % 4 = 0) :
    (outsAt0 m c t.val t.isLt).1 = k0_pay5 (iblk m c 0 t) (outsAt0 m c (t.val - 1) (by have := t.isLt; omega)).1 (iblk m c 1 t)
    ∧ (outsAt0 m c t.val t.isLt).2.1
      = k0_pay6 (iblk m c 0 t) (outsAt0 m c (t.val - 1) (by have := t.isLt; omega)).2.1 (iblk m c 2 t)
    ∧ (outsAt0 m c t.val t.isLt).2.2
      = k0_pay1 (k0_pay7 (outsAt0 m c (t.val - 1) (by have := t.isLt; omega)).2.2) (iblk m c 3 t) (iblk m c 4 t) := by
  refine ⟨?_, ?_, ?_⟩
  all_goals
    rw [outsAt0_B m c t h0]
    frame_open
    simp (disch := decide) only [↓ View.readCov_skip, ↓ View.readCov_cons_toLoadRect, ↓ View.readCov_fill]
    frame_out

/-- Row `r` of point `t`'s blocks, as a row of the arrays. -/
def row (t : Fin cfg0.N) (r : Fin 2048) : Fin 8192 := ⟨2048 * (t.val % 4) + r.val, by omega⟩

/-- The shard point `t` works on. -/
def shard (t : Fin cfg0.N) : Fin 4 := ⟨t.val / 4, by have := t.isLt; have : cfg0.N = 16 := N_0; omega⟩

/-- Where a block lies. -/
theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
@[inherit_doc idx0] theorem idx4 : ∀ t : Fin cfg0.N, win0_4.index t 0 = t.val % 4 ∧ win0_4.index t 1 = 0 :=
  (by decide +kernel : ∀ t : Fin grid0.N, win0_4.index t 0 = t.val % 4 ∧ win0_4.index t 1 = 0)
@[inherit_doc idx0] theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
@[inherit_doc idx0] theorem idx2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
@[inherit_doc idx0] theorem idx3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)
@[inherit_doc idx0] theorem idx5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)
@[inherit_doc idx0] theorem idx6 : ∀ t : Fin cfg0.N, win0_6.index t 0 = t.val / 4 ∧ win0_6.index t 1 = 0 ∧ win0_6.index t 2 = 0 :=
  (by decide +kernel : ∀ t : Fin grid0.N, win0_6.index t 0 = t.val / 4 ∧ win0_6.index t 1 = 0 ∧ win0_6.index t 2 = 0)
@[inherit_doc idx0] theorem idx7 : ∀ t : Fin cfg0.N, win0_7.index t 0 = t.val / 4 ∧ win0_7.index t 1 = 0 ∧ win0_7.index t 2 = 0 :=
  (by decide +kernel : ∀ t : Fin grid0.N, win0_7.index t 0 = t.val / 4 ∧ win0_7.index t 1 = 0 ∧ win0_7.index t 2 = 0)

/-- What an input block holds of its array. -/
theorem blk0 (t : Fin cfg0.N) (r : Fin 2048) (k : Fin 1024) :
    (iblk m c 0 t : S2048x1024.Idx → EReal) (ix2 r k) = (V m c main_arg0 : S8192x1024.Idx → EReal) (ix2 (row t r) k) := by
  blk_simp [iblk]
  refine congrArg (V m c main_arg0) ?_
  funext a
  apply Fin.ext
  have h := idx0 t
  fin_cases a
  · blk_simp []
    show win0_0.index t 0 * 2048 + r.val = 2048 * (t.val % 4) + r.val
    omega
  · blk_simp []
    show win0_0.index t 1 * 1024 + k.val = k.val
    omega

@[inherit_doc blk0] theorem blk4 (t : Fin cfg0.N) (r : Fin 2048) (k : Fin 1024) :
    (iblk m c 4 t : S2048x1024.Idx → EReal) (ix2 r k) = (V m c main_arg4 : S8192x1024.Idx → EReal) (ix2 (row t r) k) := by
  blk_simp [iblk]
  refine congrArg (V m c main_arg4) ?_
  funext a
  apply Fin.ext
  have h := idx4 t
  fin_cases a
  · blk_simp []
    show win0_4.index t 0 * 2048 + r.val = 2048 * (t.val % 4) + r.val
    omega
  · blk_simp []
    show win0_4.index t 1 * 1024 + k.val = k.val
    omega

@[inherit_doc blk0] theorem blk1 (t : Fin cfg0.N) (r : Fin 2048) (f : Fin 704) :
    (iblk m c 1 t : S1x2048x704.Idx → EReal) (ix3 0 r f) = (V m c main_arg1 : S4x8192x704.Idx → EReal) (ix3 (shard t) (row t r) f) := by
  blk_simp [iblk]
  refine congrArg (V m c main_arg1) ?_
  funext a
  apply Fin.ext
  have h := idx1 t
  fin_cases a
  · blk_simp []
    show win0_1.index t 0 = t.val / 4
    omega
  · blk_simp []
    show win0_1.index t 1 * 2048 + r.val = 2048 * (t.val % 4) + r.val
    omega
  · blk_simp []
    show win0_1.index t 2 * 704 + f.val = f.val
    omega

@[inherit_doc blk0] theorem blk2 (t : Fin cfg0.N) (r : Fin 2048) (f : Fin 704) :
    (iblk m c 2 t : S1x2048x704.Idx → EReal) (ix3 0 r f) = (V m c main_arg2 : S4x8192x704.Idx → EReal) (ix3 (shard t) (row t r) f) := by
  blk_simp [iblk]
  refine congrArg (V m c main_arg2) ?_
  funext a
  apply Fin.ext
  have h := idx2 t
  fin_cases a
  · blk_simp []
    show win0_2.index t 0 = t.val / 4
    omega
  · blk_simp []
    show win0_2.index t 1 * 2048 + r.val = 2048 * (t.val % 4) + r.val
    omega
  · blk_simp []
    show win0_2.index t 2 * 704 + f.val = f.val
    omega

@[inherit_doc blk0] theorem blk3 (t : Fin cfg0.N) (r : Fin 2048) (f : Fin 704) :
    (iblk m c 3 t : S1x2048x704.Idx → EReal) (ix3 0 r f) = (V m c main_arg3 : S4x8192x704.Idx → EReal) (ix3 (shard t) (row t r) f) := by
  blk_simp [iblk]
  refine congrArg (V m c main_arg3) ?_
  funext a
  apply Fin.ext
  have h := idx3 t
  fin_cases a
  · blk_simp []
    show win0_3.index t 0 = t.val / 4
    omega
  · blk_simp []
    show win0_3.index t 1 * 2048 + r.val = 2048 * (t.val % 4) + r.val
    omega
  · blk_simp []
    show win0_3.index t 2 * 704 + f.val = f.val
    omega

/-- A weight gradient: over all tokens, the sum of a unit's gradient times the token's input. -/
def grad (a : S4x8192x704.Idx → EReal) (b : S8192x1024.Idx → EReal) : S4x704x1024.Idx → EReal :=
  fun i => ∑ t : Fin 8192, a (ix3 (i 0) t (i 1)) * b (ix2 t (i 2))

/-- One point's share of a weight gradient. -/
def share (a : S4x8192x704.Idx → EReal) (b : S8192x1024.Idx → EReal) (t : Fin cfg0.N) (f : Fin 704) (k : Fin 1024) : EReal :=
  ∑ r : Fin 2048, a (ix3 (shard t) (row t r) f) * b (ix2 (row t r) k)

/-- A running sum that starts afresh at every fourth point holds, at a shard's last point, the whole gradient. -/
theorem acc_grad (a : S4x8192x704.Idx → EReal) (b : S8192x1024.Idx → EReal) (f : Fin 704) (k : Fin 1024)
    (o : (n : ℕ) → n < cfg0.N → EReal)
    (hA : ∀ t : Fin cfg0.N, t.val % 4 = 0 → o t.val t.isLt = 0 + share a b t f k)
    (hB : ∀ t : Fin cfg0.N, ¬t.val % 4 = 0 →
      o t.val t.isLt = o (t.val - 1) (by have := t.isLt; omega) + share a b t f k)
    (t : Fin cfg0.N) (ht : t.val % 4 = 3) : o t.val t.isLt = grad a b (ix3 (shard t) f k) := by
  obtain ⟨n, hn⟩ := t
  obtain ⟨s, rfl⟩ : ∃ s, n = 4 * s + 3 := ⟨n / 4, by have : n % 4 = 3 := ht; omega⟩
  have l0 : 4 * s < cfg0.N := by omega
  have l1 : 4 * s + 1 < cfg0.N := by omega
  have l2 : 4 * s + 2 < cfg0.N := by omega
  have e0 := hA ⟨4 * s, l0⟩ (by show 4 * s % 4 = 0; omega)
  have e1 := hB ⟨4 * s + 1, l1⟩ (by show ¬(4 * s + 1) % 4 = 0; omega)
  have e2 := hB ⟨4 * s + 2, l2⟩ (by show ¬(4 * s + 2) % 4 = 0; omega)
  have e3 := hB ⟨4 * s + 3, hn⟩ (by show ¬(4 * s + 3) % 4 = 0; omega)
  have e : o (4 * s + 3) hn = ∑ p : Fin 4, share a b ⟨4 * s + p.val, by omega⟩ f k := by
    rw [Fin.sum_univ_four, ← zero_add (share a b ⟨4 * s + (0 : Fin 4).val, _⟩ f k)]
    refine e3.trans (congrArg (· + _) (e2.trans (congrArg (· + _) (e1.trans (congrArg (· + _) e0)))))
  refine e.trans ?_
  unfold share grad
  refine Fin.sum_mul_add_congr fun p r hl => ?_
  have hs : shard ⟨4 * s + p.val, by omega⟩ = shard ⟨4 * s + 3, hn⟩ :=
    Fin.ext (by show (4 * s + p.val) / 4 = (4 * s + 3) / 4; omega)
  have hr : row ⟨4 * s + p.val, by omega⟩ r = ⟨p.val * 2048 + r.val, hl⟩ :=
    Fin.ext (by show 2048 * ((4 * s + p.val) % 4) + r.val = p.val * 2048 + r.val; omega)
  rw [hs, hr]
  rfl

theorem part0 (w : Fin cfg0.N → S1x2048x704.Idx → EReal) (a : S4x8192x704.Idx → EReal)
    (hw : ∀ t r f, w t (ix3 0 r f) = a (ix3 (shard t) (row t r) f))
    (v : Fin cfg0.N → S2048x1024.Idx → EReal) (b : S8192x1024.Idx → EReal) (hv : ∀ t r k, v t (ix2 r k) = b (ix2 (row t r) k))
    (t : Fin cfg0.N) (f : Fin 704) (k : Fin 1024) : part (w t) (v t) f k = share a b t f k :=
  Finset.sum_congr rfl fun r _ => by rw [hw, hv]

theorem one_block (y : S1x704x1024.Idx) : y = ix3 0 (y 1) (y 2) := by
  funext a
  fin_cases a
  · exact Subsingleton.elim (α := Fin 1) _ _
  · rfl
  · rfl

/-- The first result: the gradient of the gate's weights. -/
theorem arr5 : (dats m 0 c).arrAt 5 cfg0.N = grad (V m c main_arg1) (V m c main_arg0) := by
  refine (dats m 0 c).arrAt_eq_of_covers 5 _ (by decide +kernel) fun t hf y => ?_
  have ht : t.val % 4 = 3 := (by decide +kernel : ∀ t : Fin grid0.N, win0_5.flush t = true → t.val % 4 = 3) t hf
  blk_simp
  rw [after0_5]
  have key : ∀ (f : Fin 704) (k : Fin 1024), _ = _ := fun f k => acc_grad (V m c main_arg1) (V m c main_arg0) f k
    (fun n h => (outsAt0 m c n h).1 (ix3 0 f k))
    (fun t h0 => by
      show (outsAt0 m c t.val t.isLt).1 (ix3 0 f k) = _
      rw [(outs_A m c t h0).1, pay5_at, (zero_at _ _).1, part0 _ _ (blk1 m c) _ _ (blk0 m c)])
    (fun t h0 => by
      show (outsAt0 m c t.val t.isLt).1 (ix3 0 f k) = _
      rw [(outs_B m c t h0).1, pay5_at, part0 _ _ (blk1 m c) _ _ (blk0 m c)]) t ht
  have h := idx5 t
  refine Eq.trans (congrArg (outsAt0 m c t.val t.isLt).1 (one_block y)) ((key (y 1) (y 2)).trans (congrArg _ ?_))
  funext a
  apply Fin.ext
  fin_cases a
  · blk_simp []
    show t.val / 4 = win0_5.index t 0
    omega
  · blk_simp []
    show (y 1).val = win0_5.index t 1 * 704 + (y 1).val
    omega
  · blk_simp []
    show (y 2).val = win0_5.index t 2 * 1024 + (y 2).val
    omega

/-- The second result: the gradient of the other input weights. -/
theorem arr6 : (dats m 0 c).arrAt 6 cfg0.N = grad (V m c main_arg2) (V m c main_arg0) := by
  refine (dats m 0 c).arrAt_eq_of_covers 6 _ (by decide +kernel) fun t hf y => ?_
  have ht : t.val % 4 = 3 := (by decide +kernel : ∀ t : Fin grid0.N, win0_6.flush t = true → t.val % 4 = 3) t hf
  blk_simp
  rw [after0_6]
  have key : ∀ (f : Fin 704) (k : Fin 1024), _ = _ := fun f k => acc_grad (V m c main_arg2) (V m c main_arg0) f k
    (fun n h => (outsAt0 m c n h).2.1 (ix3 0 f k))
    (fun t h0 => by
      show (outsAt0 m c t.val t.isLt).2.1 (ix3 0 f k) = _
      rw [(outs_A m c t h0).2.1, pay6_at, (zero_at _ _).2.1, part0 _ _ (blk2 m c) _ _ (blk0 m c)])
    (fun t h0 => by
      show (outsAt0 m c t.val t.isLt).2.1 (ix3 0 f k) = _
      rw [(outs_B m c t h0).2.1, pay6_at, part0 _ _ (blk2 m c) _ _ (blk0 m c)]) t ht
  have h := idx6 t
  refine Eq.trans (congrArg (outsAt0 m c t.val t.isLt).2.1 (one_block y)) ((key (y 1) (y 2)).trans (congrArg _ ?_))
  funext a
  apply Fin.ext
  fin_cases a
  · blk_simp []
    show t.val / 4 = win0_6.index t 0
    omega
  · blk_simp []
    show (y 1).val = win0_6.index t 1 * 704 + (y 1).val
    omega
  · blk_simp []
    show (y 2).val = win0_6.index t 2 * 1024 + (y 2).val
    omega

/-- The third result: the gradient of the output weights. -/
theorem arr7 : (dats m 0 c).arrAt 7 cfg0.N = grad (V m c main_arg3) (V m c main_arg4) := by
  refine (dats m 0 c).arrAt_eq_of_covers 7 _ (by decide +kernel) fun t hf y => ?_
  have ht : t.val % 4 = 3 := (by decide +kernel : ∀ t : Fin grid0.N, win0_7.flush t = true → t.val % 4 = 3) t hf
  blk_simp
  rw [after0_7]
  have key : ∀ (f : Fin 704) (k : Fin 1024), _ = _ := fun f k => acc_grad (V m c main_arg3) (V m c main_arg4) f k
    (fun n h => (outsAt0 m c n h).2.2 (ix3 0 f k))
    (fun t h0 => by
      show (outsAt0 m c t.val t.isLt).2.2 (ix3 0 f k) = _
      rw [(outs_A m c t h0).2.2, pay1_at, (zero_at _ _).2.2, part0 _ _ (blk3 m c) _ _ (blk4 m c)])
    (fun t h0 => by
      show (outsAt0 m c t.val t.isLt).2.2 (ix3 0 f k) = _
      rw [(outs_B m c t h0).2.2, pay1_at, part0 _ _ (blk3 m c) _ _ (blk4 m c)]) t ht
  have h := idx7 t
  refine Eq.trans (congrArg (outsAt0 m c t.val t.isLt).2.2 (one_block y)) ((key (y 1) (y 2)).trans (congrArg _ ?_))
  funext a
  apply Fin.ext
  fin_cases a
  · blk_simp []
    show t.val / 4 = win0_7.index t 0
    omega
  · blk_simp []
    show (y 1).val = win0_7.index t 1 * 704 + (y 1).val
    omega
  · blk_simp []
    show (y 2).val = win0_7.index t 2 * 1024 + (y 2).val
    omega

end Cert.Kernel2Ideal.Body

end
-- ==== Proof.WeightsRef.lean ====
/- The weight gradients of the feed-forward block: the reference's terms. -/
module

public import proofs.«01_k».proof.Proof.Weights
public import proofs.«01_k».proof.Proof.Gen.Reference2Ideal.Read

@[expose] public section

set_option maxRecDepth 16384

noncomputable section

namespace Cert.Reference2Ideal.Ref

open Cert.Reference2Ideal Cert.Reference2Ideal.Read Idealize.ShloMosaic
open Cert.Kernel2Ideal.Body (grad)

/-- The reference's gradient of the gate's weights, and of the other input weights. -/
theorem in_grad (x0 : S8192x1024.Idx → EReal) (x1 : S4x8192x704.Idx → EReal) :
    val_main_v24 (F := Ideal) x0 x1 = grad x1 x0 := by
  funext i
  rw [val_main_v24_apply, val_main_v23_apply, val_main_v8_apply, val_main_v7_apply]
  unfold grad
  refine Finset.sum_congr rfl fun k _ => ?_
  rw [val_main_v4_apply, val_main_v3_apply, val_main_v2_apply, val_main_v0_apply]
  have h0 : (i 0).val < 4 := (i 0).isLt
  have h1 : (i 1).val < 704 := (i 1).isLt
  have h2 : (i 2).val < 1024 := (i 2).isLt
  have hk := k.isLt
  refine congrArg₂ (· * ·) (congrArg x1 ?_) (congrArg x0 ?_)
  · funext a; apply Fin.ext; fin_cases a
    · show (k.val * 2816 + (((i 0).val * 704 + (i 1).val) * 1024 + (i 2).val) / 1024) / 704 % 4 = (i 0).val; omega
    · show (k.val * 2816 + (((i 0).val * 704 + (i 1).val) * 1024 + (i 2).val) / 1024) / 2816 = k.val; omega
    · show (k.val * 2816 + (((i 0).val * 704 + (i 1).val) * 1024 + (i 2).val) / 1024) % 704 = (i 1).val; omega
  · funext a; apply Fin.ext; fin_cases a
    · rfl
    · show (((i 0).val * 704 + (i 1).val) * 1024 + (i 2).val) % 1024 = (i 2).val; omega

theorem in_grad' (x0 : S8192x1024.Idx → EReal) (x2 : S4x8192x704.Idx → EReal) :
    val_main_v26 (F := Ideal) x0 x2 = grad x2 x0 :=
  (show val_main_v26 (F := Ideal) x0 x2 = val_main_v24 (F := Ideal) x0 x2 from rfl).trans (in_grad x0 x2)

/-- The reference's gradient of the output weights. -/
theorem out_grad (x3 : S4x8192x704.Idx → EReal) (x4 : S8192x1024.Idx → EReal) :
    val_main_v27 (F := Ideal) x3 x4 = grad x3 x4 := by
  funext i
  rw [val_main_v27_apply, val_main_v22_apply, val_main_v21_apply]
  unfold grad
  refine Finset.sum_congr rfl fun k _ => ?_
  rw [val_main_v18_apply, val_main_v17_apply, val_main_v16_apply, val_main_v1_apply, mul_comm]
  have h0 : (i 0).val < 4 := (i 0).isLt
  have h1 : (i 1).val < 704 := (i 1).isLt
  have h2 : (i 2).val < 1024 := (i 2).isLt
  have hk := k.isLt
  refine congrArg₂ (· * ·) (congrArg x3 ?_) (congrArg x4 ?_)
  · funext a; apply Fin.ext; fin_cases a
    · show (k.val * 2816 + (((i 0).val * 704 + (i 1).val) * 1024 + (i 2).val) / 1024) / 704 % 4 = (i 0).val; omega
    · show (k.val * 2816 + (((i 0).val * 704 + (i 1).val) * 1024 + (i 2).val) / 1024) / 2816 = k.val; omega
    · show (k.val * 2816 + (((i 0).val * 704 + (i 1).val) * 1024 + (i 2).val) / 1024) % 704 = (i 1).val; omega
  · funext a; apply Fin.ext; fin_cases a
    · rfl
    · show (((i 0).val * 704 + (i 1).val) * 1024 + (i 2).val) % 1024 = (i 2).val; omega

end Cert.Reference2Ideal.Ref

end
-- ==== Proof.WeightsClaim.lean ====
/- The weight gradients of the feed-forward block: the kernel's results are the reference's. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.WeightsRef

@[expose] public section

noncomputable section

namespace Cert.Proof.Weights

open Idealize.ShloMosaic Idealize.ShloMosaic.TcCoe Idealize.SL.Sem
open Cert.Reference2Ideal Cert.Reference2Ideal.Read Cert.Reference2Ideal.Ref Cert.Kernel2Ideal.Body Idealize.ShloMosaic.StableHlo

/-- The reference ends with its arguments unchanged; it declares no semaphore. -/
theorem frame_reference : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- The kernel's three results and the reference's are the same functions of the arguments. -/
theorem values : Cert.algebraic_Kernel2Ideal_Reference2Ideal := by
  intro m ρ m' ρ' _ hagree
  refine ⟨_, _, _, Cert.Kernel2Ideal.Value.run_blocks (F := Ideal) m ρ, ?_⟩
  refine (θ_run Cert.Reference2Ideal.defs _ _).mono (fun r h c => ?_) (Cert.Reference2Ideal.Value.run (F := Ideal) m' ρ')
  obtain ⟨g0, g1, g2, g3, g4⟩ := hagree c
  obtain ⟨r0, r1, r2, k⟩ := h c
  refine ⟨(r0.trans (val_main_v24_eq _ _)).trans ?_, (r1.trans (val_main_v26_eq _ _)).trans ?_,
    (r2.trans (val_main_v27_eq _ _)).trans ?_, k⟩
  · exact ((in_grad _ _).trans (congrArg₂ grad g1 g0)).trans (arr5 m c).symm
  · exact ((in_grad' _ _).trans (congrArg₂ grad g2 g0)).trans (arr6 m c).symm
  · exact ((out_grad _ _).trans (congrArg₂ grad g3 g4)).trans (arr7 m c).symm

end Cert.Proof.Weights

end
-- ==== Proof.Spec3.lean ====
/- The backward pass of the output projection and the pooling branch: the functions of whole arrays it computes. -/
module

public import Idealize.ShloMosaic.Lib.Pipeline.ValueKit
public import Idealize.ShloMosaic.PureOps.Ideal.Laws

@[expose] public section

noncomputable section

namespace Outproj

open Idealize.ShloMosaic

/-- An array of two axes, and of three. -/
abbrev A2 (a b : Nat) := Shape.Idx ⟨2, ![a, b]⟩ → EReal
@[inherit_doc A2] abbrev A3 (a b c : Nat) := Shape.Idx ⟨3, ![a, b, c]⟩ → EReal

/-- Row `n` of the tokens with sixteen rows of zeros before them. -/
def padded (u : A2 8192 512) (n : ℕ) (l : Fin 512) : EReal :=
  if h : 16 ≤ n ∧ n < 8208 then u (ix2 ⟨n - 16, by omega⟩ l) else 0

/-- The sum of a token and the `j` tokens before it, the nearest first. -/
def trail (u : A2 8192 512) (t : ℕ) (l : Fin 512) : ℕ → EReal
  | 0 => padded u (t + 16) l
  | j + 1 => trail u t l j + padded u (t + 15 - j) l

/-- How many tokens a mean over `size` tokens has at token `t`: fewer at the start. -/
def count (size : BitVec 32) (t : ℕ) : EReal :=
  FloatOps.sitofp (F := Ideal) .f32 (IntOp.minsi (IntOp.addi (BitVec.ofNat 32 t) 1#32) size)

/-- The mean over the last `j + 1` tokens, minus the token. -/
def mean (size : BitVec 32) (j : ℕ) (u : A2 8192 512) (t : ℕ) (l : Fin 512) : EReal :=
  Ideal.div (trail u t l j) (count size t) - padded u (t + 16) l

/-- The four groups' means, over two, four, eight and sixteen tokens. -/
def means (u : A2 8192 512) (g : Fin 4) (t : ℕ) (l : Fin 512) : EReal :=
  (![mean 2#32 1 u t l, mean 4#32 3 u t l, mean 8#32 7 u t l, mean 16#32 15 u t l] : Fin 4 → EReal) g

/-- Channel `d` of group `g`. -/
def ch (g : Fin 4) (d : Fin 128) : Fin 512 := ⟨128 * g.val + d.val, by omega⟩

/-- The group of a channel, and its place in the group. -/
def grp (l : Fin 512) : Fin 4 := ⟨l.val / 128, by omega⟩
@[inherit_doc grp] def plc (l : Fin 512) : Fin 128 := ⟨l.val % 128, by omega⟩

theorem ch_grp (l : Fin 512) : ch (grp l) (plc l) = l := Fin.ext (by show 128 * (l.val / 128) + l.val % 128 = l.val; omega)

/-- The mixed tokens: each channel by its group's mean. -/
def mixed (u : A2 8192 512) (g : Fin 4) (t : ℕ) (d : Fin 128) : EReal := means u g t (ch g d)

/-- The pooling branch before its scale, for any mixed tokens of a group. -/
def linOf (mix : Fin 128 → EReal) (w : A3 4 128 128) (b : A2 1 512) (g : Fin 4) (d : Fin 128) : EReal :=
  (∑ k : Fin 128, mix k * w (ix3 g k d)) + b (ix2 0 (ch g d))

variable (dx : A2 8192 1024) (attn : A2 8192 512) (u : A2 8192 512) (w : A3 4 128 128) (b s : A2 1 512) (wo : A2 1024 1024)

/-- The pooling branch before its scale. -/
def lin (t : Fin 8192) (g : Fin 4) (d : Fin 128) : EReal := linOf (mixed u g t.val) w b g d

/-- The gradient of the two branches side by side. -/
def dcat (t : Fin 8192) (k : Fin 1024) : EReal := ∑ j : Fin 1024, dx (ix2 t j) * wo (ix2 k j)

/-- A pooling channel among the two branches' channels. -/
def pch (g : Fin 4) (d : Fin 128) : Fin 1024 := ⟨512 + 128 * g.val + d.val, by omega⟩

/-- The gradient of the pooling branch, and of what its scale multiplies. -/
def dpool (t : Fin 8192) (g : Fin 4) (d : Fin 128) : EReal := dcat dx wo t (pch g d)
@[inherit_doc dpool] def dlin (t : Fin 8192) (g : Fin 4) (d : Fin 128) : EReal := dpool dx wo t g d * s (ix2 0 (ch g d))

/-- The two branches side by side. -/
def cat (t : Fin 8192) (k : Fin 1024) : EReal :=
  if h : k.val < 512 then attn (ix2 t ⟨k.val, h⟩)
  else lin u w b t ⟨(k.val - 512) / 128, by omega⟩ ⟨(k.val - 512) % 128, by omega⟩ * s (ix2 0 ⟨k.val - 512, by omega⟩)

/-- The gradient of the attention branch. -/
def dAttn : A2 8192 512 := fun i => dcat dx wo (i 0) ⟨(i 1).val, Nat.lt_of_lt_of_le (i 1).isLt (by decide)⟩

/-- The gradient of the mixed tokens. -/
def dMixed : A2 8192 512 := fun i => ∑ d : Fin 128, dlin dx s wo (i 0) (grp (i 1)) d * w (ix3 (grp (i 1)) (plc (i 1)) d)

/-- The gradient of the output weights, and of the output bias. -/
def gOut : A2 1024 1024 := fun i => ∑ t : Fin 8192, cat attn u w b s t (i 0) * dx (ix2 t (i 1))
@[inherit_doc gOut] def gOutBias : A2 1 1024 := fun i => ∑ t : Fin 8192, dx (ix2 t (i 1))

/-- The gradients of the pooling weights, of their bias and of the scale. -/
def gPool : A3 4 128 128 := fun i => ∑ t : Fin 8192, mixed u (i 0) t.val (i 1) * dlin dx s wo t (i 0) (i 2)
@[inherit_doc gPool] def gPoolBias : A2 1 512 := fun i => ∑ t : Fin 8192, dlin dx s wo t (grp (i 1)) (plc (i 1))
@[inherit_doc gPool] def gScale : A2 1 512 := fun i => ∑ t : Fin 8192, dpool dx wo t (grp (i 1)) (plc (i 1)) * lin u w b t (grp (i 1)) (plc (i 1))

end Outproj

end
-- ==== Proof.OutprojRef.lean ====
/- The backward pass of the output projection and the pooling branch: the reference's terms. -/
module

public import proofs.«01_k».proof.Proof.Spec3
public import proofs.«01_k».proof.Proof.Gen.Reference3Ideal.Read

@[expose] public section

set_option maxRecDepth 16384

noncomputable section

namespace Cert.Reference3Ideal.Ref

open Cert.Reference3Ideal Cert.Reference3Ideal.Read Idealize.ShloMosaic
open Outproj

variable (x0 : S8192x1024.Idx → EReal) (x1 x2 : S8192x512.Idx → EReal) (x3 : S4x128x128.Idx → EReal) (x4 x5 : S1x512.Idx → EReal) (x6 : S1024x1024.Idx → EReal)

theorem zero_bits : FloatOps.ofBits (F := Ideal) .f32 0x00000000#32 = (0 : EReal) := Ideal.ofBits_zero_f32

/-- A token is a row of the tokens with zeros before them. -/
theorem padded_token (t : Fin 8192) (l : Fin 512) : x2 (ix2 t l) = padded x2 (t.val + 16) l := by
  unfold padded
  rw [dif_pos (by omega)]
  rfl

theorem padded_at (i : S8208x512.Idx) : val_main_v2 (F := Ideal) x2 i = padded x2 (i 0).val (i 1) := by
  unfold val_main_v2 padded
  have h0 : (i 0).val < 8208 := (i 0).isLt
  by_cases h : (i 0).val < 16
  · rw [dif_neg (by omega)]
    refine (concatenate_pair_apply_left (s₁ := S16x512) (s₂ := S8192x512) 0 _ _ _ i rfl (ix2 ⟨(i 0).val, h⟩ (i 1)) (fun b => by fin_cases b <;> rfl)).trans ?_
    rw [val_main_v1_apply]
    exact zero_bits
  · rw [dif_pos (by omega)]
    exact concatenate_pair_apply_right (s₁ := S16x512) (s₂ := S8192x512) 0 _ _ _ i rfl rfl (ix2 ⟨(i 0).val - 16, by omega⟩ (i 1))
      (fun b hb => by fin_cases b <;> first | exact absurd rfl hb | rfl) (by show (i 0).val - 16 + 16 = (i 0).val; omega)

/-- One more token of the running sum. -/
theorem step (t : ℕ) (l : Fin 512) (j n : ℕ) (h : n + j = 15) (a : EReal) (ha : a = trail x2 t l j) :
    a + padded x2 (n + t) l = trail x2 t l (j + 1) := by
  subst ha
  show _ = trail x2 t l j + padded x2 (t + 15 - j) l
  rw [show n + t = t + 15 - j by omega]

/-- The running sums after two, four, eight and sixteen tokens. -/
theorem sum2 (t : Fin 8192) (l : Fin 512) : val_main_v8 (F := Ideal) x2 (ix2 t l) = trail x2 t.val l 1 := by
  rw [val_main_v8_apply, val_main_v7_apply, padded_at]
  exact step x2 t.val l 0 15 rfl _ (padded_token x2 t l)

@[inherit_doc sum2] theorem sum4 (t : Fin 8192) (l : Fin 512) : val_main_v20 (F := Ideal) x2 (ix2 t l) = trail x2 t.val l 3 := by
  rw [val_main_v20_apply, val_main_v18_apply, val_main_v17_apply, val_main_v19_apply, padded_at, padded_at]
  exact step x2 t.val l 2 13 rfl _ (step x2 t.val l 1 14 rfl _ (sum2 x2 t l))

@[inherit_doc sum2] theorem sum8 (t : Fin 8192) (l : Fin 512) : val_main_v36 (F := Ideal) x2 (ix2 t l) = trail x2 t.val l 7 := by
  rw [val_main_v36_apply, val_main_v34_apply, val_main_v32_apply, val_main_v30_apply, val_main_v29_apply, val_main_v31_apply, val_main_v33_apply,
    val_main_v35_apply, padded_at, padded_at, padded_at, padded_at]
  exact step x2 t.val l 6 9 rfl _ (step x2 t.val l 5 10 rfl _ (step x2 t.val l 4 11 rfl _ (step x2 t.val l 3 12 rfl _ (sum4 x2 t l))))

@[inherit_doc sum2] theorem sum16 (t : Fin 8192) (l : Fin 512) : val_main_v60 (F := Ideal) x2 (ix2 t l) = trail x2 t.val l 15 := by
  rw [val_main_v60_apply, val_main_v58_apply, val_main_v56_apply, val_main_v54_apply, val_main_v52_apply, val_main_v50_apply, val_main_v48_apply,
    val_main_v46_apply, val_main_v45_apply, val_main_v47_apply, val_main_v49_apply, val_main_v51_apply, val_main_v53_apply, val_main_v55_apply,
    val_main_v57_apply, val_main_v59_apply, padded_at, padded_at, padded_at, padded_at, padded_at, padded_at, padded_at, padded_at]
  exact step x2 t.val l 14 1 rfl _ (step x2 t.val l 13 2 rfl _ (step x2 t.val l 12 3 rfl _ (step x2 t.val l 11 4 rfl _ (step x2 t.val l 10 5 rfl _
    (step x2 t.val l 9 6 rfl _ (step x2 t.val l 8 7 rfl _ (step x2 t.val l 7 8 rfl _ (sum8 x2 t l))))))))

/-- The number of tokens up to a token, that one included. -/
theorem position (i : S8192x1.Idx) : val_main_v6 (F := Ideal) i = IntOp.addi (BitVec.ofNat 32 (i 0).val) 1#32 := by
  rw [val_main_v6_apply, val_main_v5_apply, val_main_v4_apply, val_main_v3_apply]
  exact BitVec.add_comm _ _

theorem mean_of (size : BitVec 32) (j : ℕ) (t : Fin 8192) (l : Fin 512) (a k : EReal) (p : BitVec 32) (ha : a = trail x2 t.val l j)
    (hp : p = IntOp.addi (BitVec.ofNat 32 t.val) 1#32) (hk : k = x2 (ix2 t l)) :
    Ideal.div a (FloatOps.sitofp (F := Ideal) .f32 (IntOp.minsi p size)) - k = mean size j x2 t.val l := by
  subst ha hp
  rw [hk, padded_token x2 t l]
  rfl

/-- The four groups' means. -/
theorem mean2 (t : Fin 8192) (d : Fin 128) : val_main_v16 (F := Ideal) x2 (ix2 t d) = mixed x2 0 t.val d := by
  rw [val_main_v16_apply, val_main_v14_apply, val_main_v9_apply, val_main_v13_apply, val_main_v12_apply, val_main_v11_apply, val_main_v10_apply, val_main_v15_apply]
  refine mean_of x2 2#32 1 t (ch 0 d) _ _ _ ((congrArg (val_main_v8 (F := Ideal) x2) ?_).trans (sum2 x2 t (ch 0 d))) (position _) (congrArg x2 ?_)
  all_goals funext a; apply Fin.ext; fin_cases a
  · rfl
  · show d.val = 128 * 0 + d.val; omega
  · rfl
  · show d.val = 128 * 0 + d.val; omega

@[inherit_doc mean2] theorem mean4 (t : Fin 8192) (d : Fin 128) : val_main_v28 (F := Ideal) x2 (ix2 t d) = mixed x2 1 t.val d := by
  rw [val_main_v28_apply, val_main_v26_apply, val_main_v21_apply, val_main_v25_apply, val_main_v24_apply, val_main_v23_apply, val_main_v22_apply, val_main_v27_apply]
  refine mean_of x2 4#32 3 t (ch 1 d) _ _ _ ((congrArg (val_main_v20 (F := Ideal) x2) ?_).trans (sum4 x2 t (ch 1 d))) (position _) (congrArg x2 ?_)
  all_goals funext a; fin_cases a <;> rfl

@[inherit_doc mean2] theorem mean8 (t : Fin 8192) (d : Fin 128) : val_main_v44 (F := Ideal) x2 (ix2 t d) = mixed x2 2 t.val d := by
  rw [val_main_v44_apply, val_main_v42_apply, val_main_v37_apply, val_main_v41_apply, val_main_v40_apply, val_main_v39_apply, val_main_v38_apply, val_main_v43_apply]
  refine mean_of x2 8#32 7 t (ch 2 d) _ _ _ ((congrArg (val_main_v36 (F := Ideal) x2) ?_).trans (sum8 x2 t (ch 2 d))) (position _) (congrArg x2 ?_)
  all_goals funext a; fin_cases a <;> rfl

@[inherit_doc mean2] theorem mean16 (t : Fin 8192) (d : Fin 128) : val_main_v68 (F := Ideal) x2 (ix2 t d) = mixed x2 3 t.val d := by
  rw [val_main_v68_apply, val_main_v66_apply, val_main_v61_apply, val_main_v65_apply, val_main_v64_apply, val_main_v63_apply, val_main_v62_apply, val_main_v67_apply]
  refine mean_of x2 16#32 15 t (ch 3 d) _ _ _ ((congrArg (val_main_v60 (F := Ideal) x2) ?_).trans (sum16 x2 t (ch 3 d))) (position _) (congrArg x2 ?_)
  all_goals funext a; fin_cases a <;> rfl

/-- A group's part of the four groups side by side. -/
theorem piece (t : Fin 8192) (k : ℕ) (c : Fin 512) (d : Fin 128) (x : S8192x128.Idx → EReal)
    (hk : k < [(⟨S8192x128, val_main_v16 (F := Ideal) x2⟩ : (s : Shape) × (s.Idx → EReal)), ⟨S8192x128, val_main_v28 (F := Ideal) x2⟩,
      ⟨S8192x128, val_main_v44 (F := Ideal) x2⟩, ⟨S8192x128, val_main_v68 (F := Ideal) x2⟩].length)
    (hx : [(⟨S8192x128, val_main_v16 (F := Ideal) x2⟩ : (s : Shape) × (s.Idx → EReal)), ⟨S8192x128, val_main_v28 (F := Ideal) x2⟩,
      ⟨S8192x128, val_main_v44 (F := Ideal) x2⟩, ⟨S8192x128, val_main_v68 (F := Ideal) x2⟩][k] = ⟨S8192x128, x⟩)
    (hp : ((([(⟨S8192x128, val_main_v16 (F := Ideal) x2⟩ : (s : Shape) × (s.Idx → EReal)), ⟨S8192x128, val_main_v28 (F := Ideal) x2⟩,
      ⟨S8192x128, val_main_v44 (F := Ideal) x2⟩, ⟨S8192x128, val_main_v68 (F := Ideal) x2⟩].take k).map (·.1)).map
        fun s => if h : s.rank = S8192x512.rank then s.size ((1 : Fin S8192x512.rank).cast h.symm) else 0).sum = 128 * k)
    (h : 128 * k + d.val = c.val) : val_main_v69 (F := Ideal) x2 (ix2 t c) = x (ix2 t d) := by
  unfold val_main_v69
  exact concatenate_apply_piece (t := S8192x512) 1 _ _ (ix2 t c) k hk S8192x128 x hx rfl (128 * k) hp (ix2 t d)
    (fun b hb => by fin_cases b <;> first | exact absurd rfl hb | rfl) h

/-- The four groups side by side. -/
theorem mixed_at (t : Fin 8192) (g : Fin 4) (d : Fin 128) : val_main_v69 (F := Ideal) x2 (ix2 t (ch g d)) = mixed x2 g t.val d := by
  fin_cases g
  · exact (piece x2 t 0 (ch 0 d) d _ (by decide : 0 < 4) rfl rfl rfl).trans (mean2 x2 t d)
  · exact (piece x2 t 1 (ch 1 d) d _ (by decide : 1 < 4) rfl rfl rfl).trans (mean4 x2 t d)
  · exact (piece x2 t 2 (ch 2 d) d _ (by decide : 2 < 4) rfl rfl rfl).trans (mean8 x2 t d)
  · exact (piece x2 t 3 (ch 3 d) d _ (by decide : 3 < 4) rfl rfl rfl).trans (mean16 x2 t d)

@[inherit_doc mixed_at] theorem mixed_at' (i : S8192x4x128.Idx) : val_main_v73 (F := Ideal) x2 i = mixed x2 (i 1) (i 0).val (i 2) := by
  rw [val_main_v73_apply]
  have h0 : (i 0).val < 8192 := (i 0).isLt
  have h1 : (i 1).val < 4 := (i 1).isLt
  have h2 : (i 2).val < 128 := (i 2).isLt
  refine (congrArg (val_main_v69 (F := Ideal) x2) (funext fun a => Fin.ext ?_)).trans (mixed_at x2 (i 0) (i 1) (i 2))
  fin_cases a
  · show (((i 0).val * 4 + (i 1).val) * 128 + (i 2).val) / 512 = (i 0).val; omega
  · show (((i 0).val * 4 + (i 1).val) * 128 + (i 2).val) % 512 = 128 * (i 1).val + (i 2).val; omega

/-- The pooling branch before its scale. -/
theorem lin_at (i : S8192x512.Idx) : val_main_v78 (F := Ideal) x2 x3 x4 i = lin x2 x3 x4 (i 0) (grp (i 1)) (plc (i 1)) := by
  rw [val_main_v78_apply, val_main_v76_apply, val_main_v75_apply, val_main_v74_apply, val_main_v77_apply]
  have h0 : (i 0).val < 8192 := (i 0).isLt
  have h1 : (i 1).val < 512 := (i 1).isLt
  unfold lin linOf
  refine congrArg₂ (· + ·) (Finset.sum_congr rfl fun k _ => ?_) (congrArg x4 ?_)
  · rw [mixed_at', val_main_v70_apply]
    refine (mul_comm _ _).trans (congrArg₂ (· * ·) ?_ (congrArg x3 ?_))
    · have e0 : ((i 0).val * 512 + (i 1).val) / 512 = (i 0).val := by omega
      have e1 : (⟨((i 0).val * 512 + (i 1).val) / 128 % 4, by omega⟩ : Fin 4) = grp (i 1) := Fin.ext (by show _ = (i 1).val / 128; dsimp only; omega)
      show mixed x2 ⟨((i 0).val * 512 + (i 1).val) / 128 % 4, _⟩ (((i 0).val * 512 + (i 1).val) / 512) k = _
      rw [e0, e1]
    · funext a; apply Fin.ext; fin_cases a
      · show ((i 0).val * 512 + (i 1).val) / 128 % 4 = (i 1).val / 128; omega
      · rfl
      · show ((i 0).val * 512 + (i 1).val) % 128 = (i 1).val % 128; omega
  · funext a; apply Fin.ext; fin_cases a
    · rfl
    · show (i 1).val = 128 * ((i 1).val / 128) + (i 1).val % 128; omega

/-- The two branches side by side. -/
theorem cat_at (t : Fin 8192) (k : Fin 1024) : val_main_v81 (F := Ideal) x1 x2 x3 x4 x5 (ix2 t k) = cat x1 x2 x3 x4 x5 t k := by
  unfold val_main_v81 cat
  by_cases h : k.val < 512
  · rw [dif_pos h]
    exact concatenate_pair_apply_left (s₁ := S8192x512) (s₂ := S8192x512) 1 _ _ _ (ix2 t k) rfl (ix2 t ⟨k.val, h⟩) (fun b => by fin_cases b <;> rfl)
  · rw [dif_neg h]
    refine (concatenate_pair_apply_right (s₁ := S8192x512) (s₂ := S8192x512) 1 _ _ _ (ix2 t k) rfl rfl (ix2 t ⟨k.val - 512, by omega⟩)
      (fun b hb => by fin_cases b <;> first | exact absurd rfl hb | rfl) (by show k.val - 512 + 512 = k.val; omega)).trans ?_
    rw [val_main_v80_apply, val_main_v79_apply, lin_at]
    refine congrArg₂ (· * ·) rfl (congrArg x5 ?_)
    funext a; apply Fin.ext; fin_cases a <;> rfl

/-- The gradient of the two branches. -/
theorem dcat_at (i : S8192x1024.Idx) : val_main_v90 (F := Ideal) x0 x6 i = dcat x0 x6 (i 0) (i 1) := by
  rw [val_main_v90_apply]
  unfold dcat
  refine Finset.sum_congr rfl fun k _ => ?_
  rw [val_main_v85_apply, val_main_v71_apply]
  have h0 : (i 0).val < 8192 := (i 0).isLt
  refine congrArg₂ (· * ·) (congrArg x0 ?_) (congrArg x6 ?_)
  · funext a; apply Fin.ext; fin_cases a
    · show ((i 0).val * 1024 + k.val) / 1024 = (i 0).val; omega
    · show ((i 0).val * 1024 + k.val) % 1024 = k.val; omega
  · funext a; apply Fin.ext; fin_cases a <;> rfl

theorem dpool_at (i : S8192x512.Idx) : val_main_v92 (F := Ideal) x0 x6 i = dpool x0 x6 (i 0) (grp (i 1)) (plc (i 1)) := by
  rw [val_main_v92_apply, dcat_at]
  refine congrArg (dcat x0 x6 (i 0)) (Fin.ext ?_)
  show 512 + (i 1).val = 512 + 128 * ((i 1).val / 128) + (i 1).val % 128
  omega

theorem dlin_at (i : S8192x512.Idx) : val_main_v97 (F := Ideal) x0 x5 x6 i = dlin x0 x5 x6 (i 0) (grp (i 1)) (plc (i 1)) := by
  rw [val_main_v97_apply, val_main_v96_apply, dpool_at]
  unfold dlin
  refine congrArg₂ (· * ·) rfl (congrArg x5 ?_)
  funext a; apply Fin.ext; fin_cases a
  · rfl
  · show (i 1).val = 128 * ((i 1).val / 128) + (i 1).val % 128; omega

theorem dlin_at' (i : S4x128x8192.Idx) : val_main_v101 (F := Ideal) x0 x5 x6 i = dlin x0 x5 x6 (i 2) (i 0) (i 1) := by
  rw [val_main_v101_apply, val_main_v100_apply, dlin_at]
  have h0 : (i 0).val < 4 := (i 0).isLt
  have h1 : (i 1).val < 128 := (i 1).isLt
  have h2 : (i 2).val < 8192 := (i 2).isLt
  have e0 : (⟨(((i 2).val * 4 + (i 0).val) * 128 + (i 1).val) / 512, by omega⟩ : Fin 8192) = i 2 := Fin.ext (by dsimp only; omega)
  have e1 : grp ⟨(((i 2).val * 4 + (i 0).val) * 128 + (i 1).val) % 512, by omega⟩ = i 0 :=
    Fin.ext (by show (((i 2).val * 4 + (i 0).val) * 128 + (i 1).val) % 512 / 128 = (i 0).val; omega)
  have e2 : plc ⟨(((i 2).val * 4 + (i 0).val) * 128 + (i 1).val) % 512, by omega⟩ = i 1 :=
    Fin.ext (by show (((i 2).val * 4 + (i 0).val) * 128 + (i 1).val) % 512 % 128 = (i 1).val; omega)
  exact (congrFun (congrFun (congrArg (dlin x0 x5 x6) e0) _) _).trans (congrArg₂ (dlin x0 x5 x6 (i 2)) e1 e2)

/-- The reference's gradient of the attention branch. -/
theorem d_attn : val_main_v107 (F := Ideal) x0 x6 = dAttn x0 x6 := by
  funext i
  rw [val_main_v107_apply, val_main_v91_apply, dcat_at]
  rfl

/-- The reference's gradient of the mixed tokens. -/
theorem d_mixed : val_main_v106 (F := Ideal) x0 x3 x5 x6 = dMixed x0 x3 x5 x6 := by
  funext i
  rw [val_main_v106_apply, val_main_v103_apply, val_main_v102_apply]
  unfold dMixed
  have h0 : (i 0).val < 8192 := (i 0).isLt
  have h1 : (i 1).val < 512 := (i 1).isLt
  have e0 : (⟨((i 0).val * 512 + (i 1).val) / 512, by omega⟩ : Fin 8192) = i 0 := Fin.ext (by dsimp only; omega)
  have e1 : (⟨((i 0).val * 512 + (i 1).val) / 128 % 4, by omega⟩ : Fin 4) = grp (i 1) := Fin.ext (by show _ = (i 1).val / 128; dsimp only; omega)
  refine Finset.sum_congr rfl fun k _ => ?_
  rw [dlin_at', val_main_v70_apply]
  refine congrArg₂ (· * ·) ((congrFun (congrFun (congrArg (dlin x0 x5 x6) e0) _) _).trans (congrFun (congrArg (dlin x0 x5 x6 (i 0)) e1) k)) (congrArg x3 ?_)
  funext a; apply Fin.ext; fin_cases a
  · show ((i 0).val * 512 + (i 1).val) / 128 % 4 = (i 1).val / 128; omega
  · show ((i 0).val * 512 + (i 1).val) % 128 = (i 1).val % 128; omega
  · rfl

/-- The reference's gradient of the output weights. -/
theorem g_out : val_main_v89 (F := Ideal) x0 x1 x2 x3 x4 x5 = gOut x0 x1 x2 x3 x4 x5 := by
  funext i
  rw [val_main_v89_apply, val_main_v88_apply]
  unfold gOut
  refine Finset.sum_congr rfl fun k _ => ?_
  have h1 : (i 1).val < 1024 := (i 1).isLt
  have hk := k.isLt
  refine (mul_comm _ _).trans (congrArg₂ (· * ·) ((congrArg (val_main_v81 (F := Ideal) x1 x2 x3 x4 x5) ?_).trans (cat_at x1 x2 x3 x4 x5 k (i 0))) ?_)
  · funext a; apply Fin.ext; fin_cases a <;> rfl
  · rw [val_main_v85_apply]
    refine congrArg x0 ?_
    funext a; apply Fin.ext; fin_cases a
    · show (k.val * 1024 + (i 1).val) / 1024 = k.val; omega
    · show (k.val * 1024 + (i 1).val) % 1024 = (i 1).val; omega

/-- The reference's gradient of the output bias. -/
theorem g_out_bias : val_main_v87 (F := Ideal) x0 = gOutBias x0 := by
  funext i
  rw [val_main_v87_apply, val_main_v86_apply, val_main_cst_5_apply, zero_bits, zero_add]
  unfold gOutBias
  refine Finset.sum_congr rfl fun k _ => congrArg x0 ?_
  have h0 : (i 0).val < 1 := (i 0).isLt
  funext a; apply Fin.ext; fin_cases a
  · rfl
  · show (i 0).val * 1024 + (i 1).val = (i 1).val; omega

/-- The reference's gradient of the pooling weights. -/
theorem g_pool : val_main_v105 (F := Ideal) x0 x2 x5 x6 = gPool x0 x2 x5 x6 := by
  funext i
  rw [val_main_v105_apply, val_main_v104_apply]
  unfold gPool
  refine Finset.sum_congr rfl fun k _ => ?_
  rw [dlin_at', mixed_at']
  exact mul_comm _ _

/-- A row's channel, from its place in a one-row array. -/
theorem channel (i : S1x512.Idx) (h : (i 0).val * 512 + (i 1).val < 512) : (⟨(i 0).val * 512 + (i 1).val, h⟩ : Fin 512) = i 1 := by
  have h0 : (i 0).val < 1 := (i 0).isLt
  exact Fin.ext (by show (i 0).val * 512 + (i 1).val = (i 1).val; omega)

/-- The reference's gradient of the pooling bias. -/
theorem g_pool_bias : val_main_v99 (F := Ideal) x0 x5 x6 = gPoolBias x0 x5 x6 := by
  funext i
  rw [val_main_v99_apply, val_main_v98_apply, val_main_cst_7_apply, zero_bits, zero_add]
  unfold gPoolBias
  refine Finset.sum_congr rfl fun k _ => ?_
  rw [dlin_at]
  exact congrArg (fun l => dlin x0 x5 x6 k (grp l) (plc l)) (channel i _)

/-- The reference's gradient of the pooling branch's scale. -/
theorem g_scale : val_main_v95 (F := Ideal) x0 x2 x3 x4 x6 = gScale x0 x2 x3 x4 x6 := by
  funext i
  rw [val_main_v95_apply, val_main_v94_apply, val_main_cst_6_apply, zero_bits, zero_add]
  unfold gScale
  refine Finset.sum_congr rfl fun k _ => ?_
  rw [val_main_v93_apply, lin_at, dpool_at]
  exact (congrArg (fun l => lin x2 x3 x4 k (grp l) (plc l) * dpool x0 x6 k (grp l) (plc l)) (channel i _)).trans (mul_comm _ _)

end Cert.Reference3Ideal.Ref

end
-- ==== Proof.Pool.lean ====
/- The pooling branch at one point of the tiled kernel: what its scratch holds, and the mixed tokens computed from it. -/
module

public import proofs.«01_k».proof.Proof.Gen.Kernel3Ideal.Frame
public import proofs.«01_k».proof.Proof.Spec3
public import Idealize.ShloMosaic.Lib.Pipeline.ValueKit
public import Idealize.ShloMosaic.Lib.Pipeline.ReadBack

@[expose] public section

set_option maxRecDepth 16384

noncomputable section

namespace Cert.Kernel3Ideal.Body

open Cert.Kernel3Ideal Cert.Kernel3Ideal.Gen Idealize.ShloMosaic Idealize.ShloMosaic.TcCoe
open Outproj

/-- A unit rectangle's element lies at its offset plus the index. -/
theorem emb_unit {S : Shape} (off size : Fin S.rank → ℕ) (inb) (x : (Rect.unit off size inb).shape.Idx) (a : Fin S.rank) :
    ((Rect.unit off size inb).emb x a).val = off a + (x a).val := congrArg (off a + ·) (Nat.one_mul _)

/-- A load of part of an array reads the array there. -/
theorem ld_part {R R' : ℕ} {e : EltTy} (X : Vec Ideal ⟨2, ![R, 512]⟩ e) (n o : ℕ) (inb : ∀ a, (![n, o] : Fin 2 → ℕ) a + (![R', 128] : Fin 2 → ℕ) a ≤ (⟨2, ![R, 512]⟩ : Shape).size a)
    (r : Fin R') (l : Fin 128) (hn : n + r.val < R) (ho : o + l.val < 512) :
    (View.ld X (Rect.unit (s := ⟨2, ![R, 512]⟩) ![n, o] ![R', 128] inb) : Shape.Idx ⟨2, ![R', 128]⟩ → Elt Ideal e) (ix2 r l)
      = X (ix2 ⟨n + r.val, hn⟩ ⟨o + l.val, ho⟩) := by
  rw [View.ld_unit]
  refine congrArg X (funext fun a => ?_)
  fin_cases a <;> rfl

theorem ld_group {e : EltTy} (X : Vec Ideal S4x128x128 e) (g : ℕ) (inb : ∀ a, (![g, 0, 0] : Fin 3 → ℕ) a + (![1, 128, 128] : Fin 3 → ℕ) a ≤ S4x128x128.size a)
    (a d : Fin 128) (hg : g < 4) :
    (View.ld X (Rect.unit (s := S4x128x128) ![g, 0, 0] ![1, 128, 128] inb) : S1x128x128.Idx → Elt Ideal e) (ix3 0 a d)
      = X (ix3 ⟨g, hg⟩ a d) := by
  rw [View.ld_unit]
  refine congrArg X (funext fun a => ?_)
  fin_cases a
  · rfl
  · exact Fin.ext (Nat.zero_add _)
  · exact Fin.ext (Nat.zero_add _)

variable (m : (ℓ : Loc nD τ sig) → Buf (Elt Ideal) ℓ) (c : Dev nD)

/-- What the scratch holds at a point: the sixteen rows before the point's block, then the block. -/
def scr (t : Fin cfg0.N) : Vec Ideal S1040x512 .f32 := fun i =>
  if h : (i 0).val < 16 then (k0_pay12 (F := Ideal) (grid0.coords t) (iblk m c 3 t) : S16x512.Idx → EReal) (ix2 ⟨(i 0).val, h⟩ (i 1))
  else (iblk m c 2 t : S1024x512.Idx → EReal) (ix2 ⟨(i 0).val - 16, by have : (i 0).val < 1040 := (i 0).isLt; omega⟩ (i 1))

theorem scr_pieces (t : Fin cfg0.N) : View.PiecesOf (scr m c t)
    [⟨Rect.unit ![16, 0] ![1024, 512] inb_S1040x512_S1024x512_16_0, k0_pay13 (iblk m c 2 t)⟩,
     ⟨Rect.unit ![0, 0] ![16, 512] inb_S1040x512_S16x512_0_0, k0_pay12 (grid0.coords t) (iblk m c 3 t)⟩] := by
  refine ⟨fun x => ?_, fun x => ?_, trivial⟩
  · have h0 := emb_unit (S := S1040x512) ![16, 0] ![1024, 512] inb_S1040x512_S1024x512_16_0 x 0
    have h1 := emb_unit (S := S1040x512) ![16, 0] ![1024, 512] inb_S1040x512_S1024x512_16_0 x 1
    unfold scr
    rw [dif_neg (fun h => by rw [h0] at h; exact absurd h (by show ¬16 + (x 0).val < 16; omega))]
    refine (congrFun (shapeCast_self _ _) x).trans (congrArg (iblk m c 2 t) (funext fun a => Fin.ext ?_))
    fin_cases a
    · show (x 0).val = _ - 16
      rw [h0]
      exact (Nat.add_sub_cancel_left _ _).symm
    · exact (Nat.zero_add _).symm.trans h1.symm
  · have h0 := emb_unit (S := S1040x512) ![0, 0] ![16, 512] inb_S1040x512_S16x512_0_0 x 0
    have h1 := emb_unit (S := S1040x512) ![0, 0] ![16, 512] inb_S1040x512_S16x512_0_0 x 1
    have hx : (x 0).val < 16 := (x 0).isLt
    unfold scr
    rw [dif_pos (by rw [h0]; show 0 + (x 0).val < 16; omega)]
    refine congrArg (k0_pay12 (grid0.coords t) (iblk m c 3 t)) (funext fun a => Fin.ext ?_)
    fin_cases a
    · exact (Nat.zero_add _).symm.trans h0.symm
    · exact (Nat.zero_add _).symm.trans h1.symm

theorem scr_canon (t : Fin cfg0.N) : View.canon
      [⟨Rect.unit ![16, 0] ![1024, 512] inb_S1040x512_S1024x512_16_0, k0_pay13 (iblk m c 2 t)⟩,
       ⟨Rect.unit ![0, 0] ![16, 512] inb_S1040x512_S16x512_0_0, k0_pay12 (grid0.coords t) (iblk m c 3 t)⟩] = scr m c t := by
  funext y
  refine View.canon_append_of_piecesOf (scr m c t) [] _ (scr_pieces m c t) y ?_
  by_cases hy : (y 0).val < 16
  · refine ⟨_, List.mem_cons_of_mem _ (List.mem_singleton_self _), ?_⟩
    refine (Rect.mem_set_unit (inb := inb_S1040x512_S16x512_0_0)).mpr fun a => ?_
    fin_cases a
    · exact ⟨Nat.zero_le _, by show (y 0).val < 0 + 16; omega⟩
    · exact ⟨Nat.zero_le _, by have : (y 1).val < 512 := (y 1).isLt; show (y 1).val < 0 + 512; omega⟩
  · refine ⟨_, List.mem_cons_self, ?_⟩
    refine (Rect.mem_set_unit (inb := inb_S1040x512_S1024x512_16_0)).mpr fun a => ?_
    fin_cases a
    · exact ⟨Nat.le_of_not_lt hy, by have : (y 0).val < 1040 := (y 0).isLt; show (y 0).val < 16 + 1024; omega⟩
    · exact ⟨Nat.zero_le _, by have : (y 1).val < 512 := (y 1).isLt; show (y 1).val < 0 + 512; omega⟩

/-- Where the blocks of the tokens lie. -/
theorem idx2 : ∀ t : Fin cfg0.N, win0_2.index t 0 = t.val ∧ win0_2.index t 1 = 0 :=
  (by decide +kernel : ∀ t : Fin grid0.N, win0_2.index t 0 = t.val ∧ win0_2.index t 1 = 0)
@[inherit_doc idx2] theorem idx3 : ∀ t : Fin cfg0.N, win0_3.index t 0 = 64 * t.val - 1 ∧ win0_3.index t 1 = 0 :=
  (by decide +kernel : ∀ t : Fin grid0.N, win0_3.index t 0 = 64 * t.val - 1 ∧ win0_3.index t 1 = 0)

theorem lt8 (t : Fin cfg0.N) : t.val < 8 := by have := t.isLt; have : cfg0.N = 8 := N_0; omega

/-- The tokens of a point's block, and the sixteen before it. -/
theorem blk2 (t : Fin cfg0.N) (r : Fin 1024) (l : Fin 512) :
    (iblk m c 2 t : S1024x512.Idx → EReal) (ix2 r l)
      = (V m c main_arg2 : S8192x512.Idx → EReal) (ix2 ⟨1024 * t.val + r.val, by have := lt8 t; omega⟩ l) := by
  blk_simp [iblk]
  refine congrArg (V m c main_arg2) ?_
  funext a
  apply Fin.ext
  have h := idx2 t
  fin_cases a
  · blk_simp []
    show win0_2.index t 0 * 1024 + r.val = 1024 * t.val + r.val
    omega
  · blk_simp []
    show win0_2.index t 1 * 512 + l.val = l.val
    omega

@[inherit_doc blk2] theorem blk3 (t : Fin cfg0.N) (h1 : 1 ≤ t.val) (r : Fin 16) (l : Fin 512) :
    (iblk m c 3 t : S16x512.Idx → EReal) (ix2 r l)
      = (V m c main_arg2 : S8192x512.Idx → EReal) (ix2 ⟨1024 * t.val + r.val - 16, by have := lt8 t; omega⟩ l) := by
  blk_simp [iblk]
  refine congrArg (V m c main_arg2) ?_
  funext a
  apply Fin.ext
  have h := idx3 t
  fin_cases a
  · blk_simp []
    show win0_3.index t 0 * 16 + r.val = 1024 * t.val + r.val - 16
    omega
  · blk_simp []
    show win0_3.index t 1 * 512 + l.val = l.val
    omega

theorem coord : ∀ t : Fin cfg0.N, ((grid0.coords t) 0).val = t.val :=
  (by decide +kernel : ∀ t : Fin grid0.N, ((grid0.coords t) 0).val = t.val)

theorem halo_first (i : grid0.Coords) (h : (i 0).val = 0) (x : S16x512.Idx → EReal) (r : Fin 16) (l : Fin 512) :
    (k0_pay12 (F := Ideal) i x : S16x512.Idx → EReal) (ix2 r l) = 0 := by
  unfold k0_pay12
  rw [h]
  pointwise []

theorem halo_later (i : grid0.Coords) (h : (i 0).val ≠ 0) (x : S16x512.Idx → EReal) (r : Fin 16) (l : Fin 512) :
    (k0_pay12 (F := Ideal) i x : S16x512.Idx → EReal) (ix2 r l) = x (ix2 r l) := by
  have hn : (i 0).val < 8 := (i 0).isLt
  have e : Scalar.cmpi .eq (BitVec.ofNat 32 (i 0).val) 0#32 = 0#1 := by
    generalize (i 0).val = n at h hn
    interval_cases n <;> first | exact absurd rfl h | rfl
  unfold k0_pay12
  pointwise [e]

/-- The scratch holds the tokens from sixteen before the block, with zeros before the first. -/
theorem scr_at (t : Fin cfg0.N) (n : Fin 1040) (l : Fin 512) :
    (scr m c t : S1040x512.Idx → EReal) (ix2 n l) = padded (V m c main_arg2) (1024 * t.val + n.val) l := by
  unfold padded
  have ht := lt8 t
  by_cases hn : n.val < 16
  · refine (dif_pos hn).trans ?_
    by_cases h0 : t.val = 0
    · rw [dif_neg (by omega)]
      exact halo_first _ ((coord t).trans h0) _ ⟨n.val, hn⟩ l
    · refine (halo_later _ (fun h => h0 ((coord t).symm.trans h)) _ ⟨n.val, hn⟩ l).trans ?_
      rw [dif_pos (by omega)]
      exact blk3 m c t (by omega) ⟨n.val, hn⟩ l
  · refine (dif_neg hn).trans ?_
    refine (blk2 m c t ⟨n.val - 16, by omega⟩ l).trans ?_
    rw [dif_pos (by omega)]
    refine congrArg (V m c main_arg2) (funext fun a => Fin.ext ?_)
    fin_cases a
    · show 1024 * t.val + (n.val - 16) = 1024 * t.val + n.val - 16
      omega
    · rfl

/-- A group's channels of the 1024 rows of the scratch from row `n` on. -/
def lane (t : Fin cfg0.N) (n o : ℕ) (inb : ∀ a, (![n, o] : Fin 2 → ℕ) a + (![1024, 128] : Fin 2 → ℕ) a ≤ S1040x512.size a) : Vec Ideal S1024x128 .f32 :=
  View.ld (scr m c t) (Rect.unit (s := S1040x512) ![n, o] ![1024, 128] inb)

/-- The mixed tokens of the four groups at a point. -/
def mx (t : Fin cfg0.N) : Fin 4 → FVec Ideal S1024x128 .f32 :=
  ![k0_pay17 (lane m c t 16 0 inb_S1040x512_S1024x128_16_0) (k0_pay15 (lane m c t 16 0 inb_S1040x512_S1024x128_16_0) (lane m c t 15 0 inb_S1040x512_S1024x128_15_0)) (k0_pay16 (grid0.coords t)),
    k0_pay18 (k0_pay14 (grid0.coords t)) (lane m c t 16 128 inb_S1040x512_S1024x128_16_128) (lane m c t 15 128 inb_S1040x512_S1024x128_15_128) (lane m c t 14 128 inb_S1040x512_S1024x128_14_128) (lane m c t 13 128 inb_S1040x512_S1024x128_13_128),
    k0_pay20 (k0_pay14 (grid0.coords t)) (lane m c t 16 256 inb_S1040x512_S1024x128_16_256) (k0_pay19 (lane m c t 16 256 inb_S1040x512_S1024x128_16_256) (lane m c t 15 256 inb_S1040x512_S1024x128_15_256) (lane m c t 14 256 inb_S1040x512_S1024x128_14_256) (lane m c t 13 256 inb_S1040x512_S1024x128_13_256) (lane m c t 12 256 inb_S1040x512_S1024x128_12_256) (lane m c t 11 256 inb_S1040x512_S1024x128_11_256) (lane m c t 10 256 inb_S1040x512_S1024x128_10_256)) (lane m c t 9 256 inb_S1040x512_S1024x128_9_256),
    k0_pay22 (k0_pay14 (grid0.coords t)) (lane m c t 16 384 inb_S1040x512_S1024x128_16_384) (k0_pay21 (lane m c t 16 384 inb_S1040x512_S1024x128_16_384) (lane m c t 15 384 inb_S1040x512_S1024x128_15_384) (lane m c t 14 384 inb_S1040x512_S1024x128_14_384) (lane m c t 13 384 inb_S1040x512_S1024x128_13_384) (lane m c t 12 384 inb_S1040x512_S1024x128_12_384) (lane m c t 11 384 inb_S1040x512_S1024x128_11_384) (lane m c t 10 384 inb_S1040x512_S1024x128_10_384) (lane m c t 9 384 inb_S1040x512_S1024x128_9_384)
      (lane m c t 8 384 inb_S1040x512_S1024x128_8_384) (lane m c t 7 384 inb_S1040x512_S1024x128_7_384) (lane m c t 6 384 inb_S1040x512_S1024x128_6_384) (lane m c t 5 384 inb_S1040x512_S1024x128_5_384)) (lane m c t 4 384 inb_S1040x512_S1024x128_4_384) (lane m c t 3 384 inb_S1040x512_S1024x128_3_384) (lane m c t 2 384 inb_S1040x512_S1024x128_2_384) (lane m c t 1 384 inb_S1040x512_S1024x128_1_384)]

theorem lane_at (g : Fin 4) (t : Fin cfg0.N) (n o : ℕ) (inb) (r : Fin 1024) (d : Fin 128) (hn : n ≤ 16) (ho : o = 128 * g.val) :
    (lane m c t n o inb : S1024x128.Idx → EReal) (ix2 r d) = padded (V m c main_arg2) (1024 * t.val + r.val + n) (ch g d) := by
  subst ho
  refine (ld_part (R := 1040) (R' := 1024) (scr m c t) n _ inb r d (by omega) (by omega)).trans ?_
  refine (scr_at m c t _ _).trans ?_
  refine congrArg₂ (padded _) ?_ rfl
  show 1024 * t.val + (n + r.val) = _
  omega

/-- The number of a row's token. -/
theorem token (i : ℕ) (r : ℕ) :
    IntOp.addi (Scalar.muli (BitVec.ofNat 32 i) 1024#32) (BitVec.ofNat 32 r) = BitVec.ofNat 32 (1024 * i + r) := by
  show BitVec.ofNat 32 i * BitVec.ofNat 32 1024 + BitVec.ofNat 32 r = _
  rw [← BitVec.ofNat_mul, ← BitVec.ofNat_add, Nat.mul_comm]

/-- They are the means over the trailing tokens, minus the token. -/
theorem mx_at (t : Fin cfg0.N) (g : Fin 4) (r : Fin 1024) (d : Fin 128) :
    (mx m c t g : S1024x128.Idx → EReal) (ix2 r d) = mixed (V m c main_arg2) g (1024 * t.val + r.val) d := by
  fin_cases g
  case' «0» => show (k0_pay17 (F := Ideal) _ _ _ : S1024x128.Idx → EReal) (ix2 r d) = mixed _ 0 _ d
  case' «1» => show (k0_pay18 (F := Ideal) _ _ _ _ _ : S1024x128.Idx → EReal) (ix2 r d) = mixed _ 1 _ d
  case' «2» => show (k0_pay20 (F := Ideal) _ _ _ _ : S1024x128.Idx → EReal) (ix2 r d) = mixed _ 2 _ d
  case' «3» => show (k0_pay22 (F := Ideal) _ _ _ _ _ _ _ : S1024x128.Idx → EReal) (ix2 r d) = mixed _ 3 _ d
  all_goals
    pointwise [k0_pay14, k0_pay15, k0_pay16, k0_pay17, k0_pay18, k0_pay19, k0_pay20, k0_pay21, k0_pay22]
    simp (disch := decide) only [lane_at m c 0, lane_at m c 1, lane_at m c 2, lane_at m c 3, token, coord]
    generalize 1024 * t.val + r.val = n
    rfl

end Cert.Kernel3Ideal.Body

end
-- ==== Proof.Outproj.lean ====
/- The backward pass of the output projection and the pooling branch: what one point of the tiled kernel leaves in its result blocks. -/
module

public import proofs.«01_k».proof.Proof.Pool

@[expose] public section

set_option maxRecDepth 16384

noncomputable section

namespace Cert.Kernel3Ideal.Body

open Cert.Kernel3Ideal Cert.Kernel3Ideal.Gen Idealize.ShloMosaic Idealize.ShloMosaic.TcCoe
open Outproj

/-- The four groups of a row of channels, and of an array with one matrix a group. -/
def grpV {e : EltTy} (x : Vec Ideal S1x512 e) : Fin 4 → Vec Ideal S1x128 e :=
  ![View.ld x (Rect.unit ![0, 0] ![1, 128] inb_S1x512_S1x128_0_0), View.ld x (Rect.unit ![0, 128] ![1, 128] inb_S1x512_S1x128_0_128),
    View.ld x (Rect.unit ![0, 256] ![1, 128] inb_S1x512_S1x128_0_256), View.ld x (Rect.unit ![0, 384] ![1, 128] inb_S1x512_S1x128_0_384)]
@[inherit_doc grpV] def grpM {e : EltTy} (x : Vec Ideal S4x128x128 e) : Fin 4 → Vec Ideal S1x128x128 e :=
  ![View.ld x (Rect.unit ![0, 0, 0] ![1, 128, 128] inb_S4x128x128_S1x128x128_0_0_0),
    View.ld x (Rect.unit ![1, 0, 0] ![1, 128, 128] inb_S4x128x128_S1x128x128_1_0_0),
    View.ld x (Rect.unit ![2, 0, 0] ![1, 128, 128] inb_S4x128x128_S1x128x128_2_0_0),
    View.ld x (Rect.unit ![3, 0, 0] ![1, 128, 128] inb_S4x128x128_S1x128x128_3_0_0)]

/-- The groups' parts of the gradient of the two branches. -/
def grpD (d : FVec Ideal S1024x1024 .f32) : Fin 4 → FVec Ideal S1024x128 .f32 := ![k0_pay26 d, k0_pay39 d, k0_pay49 d, k0_pay60 d]

/-- The running sum of the scale's gradient, for one group. -/
def scaleV (d : FVec Ideal S1024x128 .f32) (x : FVec Ideal S1024x128 .f32) (w : Vec Ideal S1x128x128 .bf16) (b : Vec Ideal S1x128 .f32) (acc : Vec Ideal S1x128 .f32) : FVec Ideal S1x128 .f32 :=
  addf (k0_pay27 acc) (shapeCast S1x128 (multiReduction .add [0] S128 (mulf d (k0_pay24 x w b)) 0x00000000#32 reduces_S1024x128_S128 (.inl rfl) rfl) shapeCasts_S128_S1x128)

section Names
variable (dc : FVec Ideal S1024x1024 .f32) (x : FVec Ideal S1024x128 .f32) (w : Vec Ideal S1x128x128 .bf16) (b s a : Vec Ideal S1x128 .f32) (aw : Vec Ideal S1x128x128 .f32)

theorem y1 : k0_pay38 (k0_pay36 x w) b s = k0_pay25 x w b s := rfl
theorem y2 : k0_pay48 x w b s = k0_pay25 x w b s := rfl
theorem y3 : k0_pay59 x w b s = k0_pay25 x w b s := rfl
theorem s0 : k0_pay29 (k0_pay27 a) (k0_pay28 dc x w b) = scaleV (k0_pay26 dc) x w b a := rfl
theorem s1 : k0_pay40 dc (k0_pay36 x w) b a = scaleV (k0_pay39 dc) x w b a := rfl
theorem s2 : k0_pay50 dc x w b a = scaleV (k0_pay49 dc) x w b a := rfl
theorem s3 : k0_pay61 dc (k0_pay58 x w b) a = scaleV (k0_pay60 dc) x w b a := rfl
theorem b1 : k0_pay42 dc s a = k0_pay31 (k0_pay39 dc) s a := rfl
theorem b2 : k0_pay53 (k0_pay51 dc s) (k0_pay52 a) = k0_pay31 (k0_pay49 dc) s a := rfl
theorem b3 : k0_pay63 dc s a = k0_pay31 (k0_pay60 dc) s a := rfl
theorem w1 : k0_pay44 dc (k0_pay35 x) s aw = k0_pay33 (k0_pay23 x) (k0_pay39 dc) s aw := rfl
theorem w2 : k0_pay55 (k0_pay46 x) (k0_pay51 dc s) aw = k0_pay33 (k0_pay23 x) (k0_pay49 dc) s aw := rfl
theorem w3 : k0_pay65 dc (k0_pay57 x) s aw = k0_pay33 (k0_pay23 x) (k0_pay60 dc) s aw := rfl
theorem m1 : k0_pay45 (k0_pay43 dc s) w = k0_pay34 (k0_pay39 dc) s w := rfl
theorem m2 : k0_pay56 (k0_pay51 dc s) w = k0_pay34 (k0_pay49 dc) s w := rfl
theorem m3 : k0_pay66 dc s w = k0_pay34 (k0_pay60 dc) s w := rfl
end Names

/-- Four groups of channels side by side, and four matrices stacked. -/
def side {R : ℕ} {e : EltTy} (p : Fin 4 → Vec Ideal ⟨2, ![R, 128]⟩ e) : Vec Ideal ⟨2, ![R, 512]⟩ e := fun i => p (grp (i 1)) (ix2 (i 0) (plc (i 1)))
@[inherit_doc side] def stacked {e : EltTy} (p : Fin 4 → Vec Ideal S1x128x128 e) : Vec Ideal S4x128x128 e := fun i => p (i 0) (ix3 0 (i 1) (i 2))

/-- A block stored group by group is the groups side by side, whatever was there before. -/
theorem canon_side {R : ℕ} {e : EltTy} (p : Fin 4 → Vec Ideal ⟨2, ![R, 128]⟩ e) (rest : List (View.Piece (Elt Ideal) ⟨2, ![R, 512]⟩ e)) (i0 i1 i2 i3) :
    View.canon (⟨Rect.unit (s := ⟨2, ![R, 512]⟩) ![0, 384] ![R, 128] i3, p 3⟩ :: ⟨Rect.unit (s := ⟨2, ![R, 512]⟩) ![0, 256] ![R, 128] i2, p 2⟩
      :: ⟨Rect.unit (s := ⟨2, ![R, 512]⟩) ![0, 128] ![R, 128] i1, p 1⟩ :: ⟨Rect.unit (s := ⟨2, ![R, 512]⟩) ![0, 0] ![R, 128] i0, p 0⟩ :: rest) = side p := by
  have piece : ∀ (g : Fin 4) (o : ℕ) (inb) (ho : o = 128 * g.val) (x : Shape.Idx ⟨2, ![R, 128]⟩),
      p g x = side p ((Rect.unit (s := ⟨2, ![R, 512]⟩) ![0, o] ![R, 128] inb).emb x) := by
    intro g o inb ho x
    have h0 := emb_unit (S := ⟨2, ![R, 512]⟩) ![0, o] ![R, 128] inb x 0
    have h1 := emb_unit (S := ⟨2, ![R, 512]⟩) ![0, o] ![R, 128] inb x 1
    have hx : (x 1).val < 128 := (x 1).isLt
    have h1' : ((Rect.unit (s := ⟨2, ![R, 512]⟩) ![0, o] ![R, 128] inb).emb x 1).val = 128 * g.val + (x 1).val := by rw [h1, ← ho]; rfl
    have hg : grp ((Rect.unit (s := ⟨2, ![R, 512]⟩) ![0, o] ![R, 128] inb).emb x 1) = g := Fin.ext (by show _ / 128 = _; rw [h1']; omega)
    have hp : plc ((Rect.unit (s := ⟨2, ![R, 512]⟩) ![0, o] ![R, 128] inb).emb x 1) = x 1 := Fin.ext (by show _ % 128 = _; rw [h1']; omega)
    unfold side
    rw [hg]
    refine congrArg (p g) (funext fun a => ?_)
    fin_cases a
    · exact Fin.ext ((Nat.zero_add _).symm.trans h0.symm)
    · exact hp.symm
  funext y
  refine View.canon_append_of_piecesOf (side p) rest
    [⟨Rect.unit (s := ⟨2, ![R, 512]⟩) ![0, 384] ![R, 128] i3, p 3⟩, ⟨Rect.unit (s := ⟨2, ![R, 512]⟩) ![0, 256] ![R, 128] i2, p 2⟩,
      ⟨Rect.unit (s := ⟨2, ![R, 512]⟩) ![0, 128] ![R, 128] i1, p 1⟩, ⟨Rect.unit (s := ⟨2, ![R, 512]⟩) ![0, 0] ![R, 128] i0, p 0⟩]
    ⟨piece 3 384 i3 rfl, piece 2 256 i2 rfl, piece 1 128 i1 rfl, piece 0 0 i0 rfl, trivial⟩ y ?_
  have h0 : (y 0).val < R := (y 0).isLt
  have h1 : (y 1).val < 512 := (y 1).isLt
  have mem : ∀ (o : ℕ) (inb), o ≤ (y 1).val → (y 1).val < o + 128 → y ∈ (Rect.unit (s := ⟨2, ![R, 512]⟩) ![0, o] ![R, 128] inb).set := by
    intro o inb a b
    refine (Rect.mem_set_unit (inb := inb)).mpr fun a => ?_
    fin_cases a
    · exact ⟨Nat.zero_le _, by show (y 0).val < 0 + R; omega⟩
    · exact ⟨by assumption, by assumption⟩
  rcases (by omega : 384 ≤ (y 1).val ∨ (256 ≤ (y 1).val ∧ (y 1).val < 256 + 128) ∨ (128 ≤ (y 1).val ∧ (y 1).val < 128 + 128) ∨ (y 1).val < 0 + 128)
    with h | h | h | h
  · refine ⟨_, List.mem_cons_self, ?_⟩
    exact mem 384 i3 h (by omega)
  · refine ⟨_, List.mem_cons_of_mem _ List.mem_cons_self, ?_⟩
    exact mem 256 i2 h.1 h.2
  · refine ⟨_, List.mem_cons_of_mem _ (List.mem_cons_of_mem _ List.mem_cons_self), ?_⟩
    exact mem 128 i1 h.1 h.2
  · refine ⟨_, List.mem_cons_of_mem _ (List.mem_cons_of_mem _ (List.mem_cons_of_mem _ List.mem_cons_self)), ?_⟩
    exact mem 0 i0 (Nat.zero_le _) h

@[inherit_doc canon_side] theorem canon_stacked {e : EltTy} (p : Fin 4 → Vec Ideal S1x128x128 e) (rest : List (View.Piece (Elt Ideal) S4x128x128 e)) :
    View.canon (⟨Rect.unit ![3, 0, 0] ![1, 128, 128] inb_S4x128x128_S1x128x128_3_0_0, p 3⟩ :: ⟨Rect.unit ![2, 0, 0] ![1, 128, 128] inb_S4x128x128_S1x128x128_2_0_0, p 2⟩
      :: ⟨Rect.unit ![1, 0, 0] ![1, 128, 128] inb_S4x128x128_S1x128x128_1_0_0, p 1⟩ :: ⟨Rect.unit ![0, 0, 0] ![1, 128, 128] inb_S4x128x128_S1x128x128_0_0_0, p 0⟩ :: rest) = stacked p := by
  have piece : ∀ (g : Fin 4) (o : ℕ) (inb) (ho : o = g.val) (x : S1x128x128.Idx),
      p g x = stacked p ((Rect.unit (s := S4x128x128) ![o, 0, 0] ![1, 128, 128] inb).emb x) := by
    intro g o inb ho x
    have h0 := emb_unit (S := S4x128x128) ![o, 0, 0] ![1, 128, 128] inb x 0
    have h1 := emb_unit (S := S4x128x128) ![o, 0, 0] ![1, 128, 128] inb x 1
    have h2 := emb_unit (S := S4x128x128) ![o, 0, 0] ![1, 128, 128] inb x 2
    have hx : (x 0).val < 1 := (x 0).isLt
    have hg : (Rect.unit (s := S4x128x128) ![o, 0, 0] ![1, 128, 128] inb).emb x 0 = g := Fin.ext (h0.trans (by show o + (x 0).val = _; omega))
    unfold stacked
    rw [hg]
    refine congrArg (p g) (funext fun a => ?_)
    fin_cases a
    · exact Fin.ext (by show (x 0).val = 0; omega)
    · exact Fin.ext ((Nat.zero_add _).symm.trans h1.symm)
    · exact Fin.ext ((Nat.zero_add _).symm.trans h2.symm)
  funext y
  refine View.canon_append_of_piecesOf (stacked p) rest [_, _, _, _] ⟨piece 3 3 inb_S4x128x128_S1x128x128_3_0_0 rfl, piece 2 2 inb_S4x128x128_S1x128x128_2_0_0 rfl, piece 1 1 inb_S4x128x128_S1x128x128_1_0_0 rfl, piece 0 0 inb_S4x128x128_S1x128x128_0_0_0 rfl, trivial⟩ y ?_
  have h0 : (y 0).val < 4 := (y 0).isLt
  have h1 : (y 1).val < 128 := (y 1).isLt
  have h2 : (y 2).val < 128 := (y 2).isLt
  have mem : ∀ (o : ℕ) (inb), (y 0).val = o → y ∈ (Rect.unit (s := S4x128x128) ![o, 0, 0] ![1, 128, 128] inb).set := by
    intro o inb h
    refine (Rect.mem_set_unit (inb := inb)).mpr fun a => ?_
    fin_cases a
    · exact ⟨h.ge, by show (y 0).val < o + 1; omega⟩
    · exact ⟨Nat.zero_le _, by show (y 1).val < 0 + 128; omega⟩
    · exact ⟨Nat.zero_le _, by show (y 2).val < 0 + 128; omega⟩
  rcases (by omega : (y 0).val = 3 ∨ (y 0).val = 2 ∨ (y 0).val = 1 ∨ (y 0).val = 0) with h | h | h | h
  · refine ⟨_, List.mem_cons_self, ?_⟩
    exact mem 3 inb_S4x128x128_S1x128x128_3_0_0 h
  · refine ⟨_, List.mem_cons_of_mem _ List.mem_cons_self, ?_⟩
    exact mem 2 inb_S4x128x128_S1x128x128_2_0_0 h
  · refine ⟨_, List.mem_cons_of_mem _ (List.mem_cons_of_mem _ List.mem_cons_self), ?_⟩
    exact mem 1 inb_S4x128x128_S1x128x128_1_0_0 h
  · refine ⟨_, List.mem_cons_of_mem _ (List.mem_cons_of_mem _ (List.mem_cons_of_mem _ List.mem_cons_self)), ?_⟩
    exact mem 0 inb_S4x128x128_S1x128x128_0_0_0 h

end Cert.Kernel3Ideal.Body

end
-- ==== Proof.OutprojPoint.lean ====
/- The backward pass of the output projection and the pooling branch: each result block at a point, by what the point before left. -/
module

public import proofs.«01_k».proof.Proof.Outproj

@[expose] public section

set_option maxRecDepth 16384

noncomputable section

namespace Cert.Kernel3Ideal.Body

open Cert.Kernel3Ideal Cert.Kernel3Ideal.Gen Idealize.ShloMosaic Idealize.ShloMosaic.TcCoe
open Outproj

variable (m : (ℓ : Loc nD τ sig) → Buf (Elt Ideal) ℓ) (c : Dev nD) (t : Fin cfg0.N)

/-- The gradient of the two branches at a point. -/
def dc : FVec Ideal S1024x1024 .f32 := k0_pay10 (iblk m c 0 t) (iblk m c 7 t)

/-- The scaled pooling branch at a point. -/
def yb : Vec Ideal S1024x512 .bf16 :=
  side fun g => k0_pay25 (mx m c t g) (grpM (iblk m c 4 t) g) (grpV (iblk m c 5 t) g) (grpV (iblk m c 6 t) g)

/-- The gradient of the mixed tokens at a point. -/
def mixedB : Vec Ideal S1024x512 .f32 := side fun g => k0_pay34 (grpD (dc m c t) g) (grpV (iblk m c 6 t) g) (grpM (iblk m c 4 t) g)

/-- One half of a block's rows above the other. -/
def halves (p q : Vec Ideal S512x1024 .f32) : Vec Ideal S1024x1024 .f32 := fun i =>
  if h : (i 0).val < 512 then (q : S512x1024.Idx → EReal) (ix2 ⟨(i 0).val, h⟩ (i 1))
  else (p : S512x1024.Idx → EReal) (ix2 ⟨(i 0).val - 512, by have : (i 0).val < 1024 := (i 0).isLt; omega⟩ (i 1))

/-- One point's step of each running sum. -/
def outB (acc : Vec Ideal S1024x1024 .f32) : Vec Ideal S1024x1024 .f32 :=
  halves (k0_pay2 (k0_pay9 (iblk m c 0 t)) (View.ld acc (Rect.unit ![512, 0] ![512, 1024] inb_S1024x1024_S512x1024_512_0)) (yb m c t))
    (k0_pay1 (k0_pay9 (iblk m c 0 t)) (View.ld acc (Rect.unit ![0, 0] ![512, 1024] inb_S1024x1024_S512x1024_0_0)) (iblk m c 1 t))
@[inherit_doc outB] def poolB (acc : Vec Ideal S4x128x128 .f32) : Vec Ideal S4x128x128 .f32 :=
  stacked fun g => k0_pay33 (k0_pay23 (mx m c t g)) (grpD (dc m c t) g) (grpV (iblk m c 6 t) g) (grpM acc g)
@[inherit_doc outB] def biasB (acc : Vec Ideal S1x512 .f32) : Vec Ideal S1x512 .f32 :=
  side fun g => k0_pay31 (grpD (dc m c t) g) (grpV (iblk m c 6 t) g) (grpV acc g)
@[inherit_doc outB] def scaleB (acc : Vec Ideal S1x512 .f32) : Vec Ideal S1x512 .f32 :=
  side fun g => scaleV (grpD (dc m c t) g) (mx m c t g) (grpM (iblk m c 4 t) g) (grpV (iblk m c 5 t) g) (grpV acc g)

/-- What the sweep's first point leaves. -/
theorem outs_A (h0 : t.val % 8 = 0) :
    (outsAt0 m c t.val t.isLt).1 = k0_pay11 (iblk m c 0 t) (iblk m c 7 t)
    ∧ (outsAt0 m c t.val t.isLt).2.1 = mixedB m c t
    ∧ (outsAt0 m c t.val t.isLt).2.2.2.1 = k0_pay3 (iblk m c 0 t) (k0_pay5 (F := Ideal))
    ∧ (outsAt0 m c t.val t.isLt).2.2.2.2.1 = poolB m c t (k0_pay6 (F := Ideal))
    ∧ (outsAt0 m c t.val t.isLt).2.2.2.2.2.1 = biasB m c t (k0_pay7 (F := Ideal))
    ∧ (outsAt0 m c t.val t.isLt).2.2.2.2.2.2 = scaleB m c t (k0_pay8 (F := Ideal)) := by
  refine ⟨?_, ?_, ?_, ?_, ?_, ?_⟩
  all_goals
    rw [outsAt0_A m c t h0]
    frame_open
    simp (disch := decide) only [↓ View.readCov_skip, ↓ View.readCov_cons_toLoadRect, ↓ View.readCov_fill]
    frame_out
    try simp only [View.readCov_eq_canon', scr_canon, s0, s1, s2, s3, b1, b2, b3, w1, w2, w3, m1, m2, m3]
  case' refine_2 => exact canon_side (R := 1024) (e := .f32) (fun g => k0_pay34 (grpD (dc m c t) g) (grpV (iblk m c 6 t) g) (grpM (iblk m c 4 t) g)) [] _ _ _ _
  case' refine_4 => exact canon_stacked (e := .f32) (fun g => k0_pay33 (k0_pay23 (mx m c t g)) (grpD (dc m c t) g) (grpV (iblk m c 6 t) g) (grpM (k0_pay6 (F := Ideal)) g)) _
  case' refine_5 => exact canon_side (R := 1) (e := .f32) (fun g => k0_pay31 (grpD (dc m c t) g) (grpV (iblk m c 6 t) g) (grpV (k0_pay7 (F := Ideal)) g)) _ _ _ _ _
  case' refine_6 => exact canon_side (R := 1) (e := .f32) (fun g => scaleV (grpD (dc m c t) g) (mx m c t g) (grpM (iblk m c 4 t) g) (grpV (iblk m c 5 t) g) (grpV (k0_pay8 (F := Ideal)) g)) _ _ _ _ _

theorem yb_eq : View.canon
      [⟨Rect.unit ![0, 384] ![1024, 128] inb_S1024x512_S1024x128_0_384, k0_pay25 (mx m c t 3) (grpM (iblk m c 4 t) 3) (grpV (iblk m c 5 t) 3) (grpV (iblk m c 6 t) 3)⟩,
        ⟨Rect.unit ![0, 256] ![1024, 128] inb_S1024x512_S1024x128_0_256, k0_pay25 (mx m c t 2) (grpM (iblk m c 4 t) 2) (grpV (iblk m c 5 t) 2) (grpV (iblk m c 6 t) 2)⟩,
        ⟨Rect.unit ![0, 128] ![1024, 128] inb_S1024x512_S1024x128_0_128, k0_pay25 (mx m c t 1) (grpM (iblk m c 4 t) 1) (grpV (iblk m c 5 t) 1) (grpV (iblk m c 6 t) 1)⟩,
        ⟨Rect.unit ![0, 0] ![1024, 128] inb_S1024x512_S1024x128_0_0, k0_pay25 (mx m c t 0) (grpM (iblk m c 4 t) 0) (grpV (iblk m c 5 t) 0) (grpV (iblk m c 6 t) 0)⟩]
      = yb m c t :=
  canon_side (R := 1024) (e := .bf16) (fun g => k0_pay25 (mx m c t g) (grpM (iblk m c 4 t) g) (grpV (iblk m c 5 t) g) (grpV (iblk m c 6 t) g)) [] _ _ _ _

theorem whole_idx (x : Vec Ideal S1024x512 .bf16) : (fun j => x ((Rect.unit ![0, 0] ![1024, 512] inb_S1024x512_S1024x512_0_0).toLoadRect.idx j)) = x :=
  View.ld_unit_zero (S := S1024x512) (Val := Elt Ideal) (e := .bf16) (by decide) inb_S1024x512_S1024x512_0_0 x

/-- A buffer stored in two halves does not show what was there before. -/
theorem canon_halves (p q : Vec Ideal S512x1024 .f32) (rest : List (View.Piece (Elt Ideal) S1024x1024 .f32)) :
    View.canon (⟨Rect.unit ![512, 0] ![512, 1024] inb_S1024x1024_S512x1024_512_0, p⟩ :: ⟨Rect.unit ![0, 0] ![512, 1024] inb_S1024x1024_S512x1024_0_0, q⟩ :: rest)
      = halves p q := by
  funext y
  refine View.canon_append_of_piecesOf (halves p q) rest
    [⟨Rect.unit ![512, 0] ![512, 1024] inb_S1024x1024_S512x1024_512_0, p⟩, ⟨Rect.unit ![0, 0] ![512, 1024] inb_S1024x1024_S512x1024_0_0, q⟩]
    ⟨fun x => ?_, fun x => ?_, trivial⟩ y ?_
  · have h0 := emb_unit (S := S1024x1024) ![512, 0] ![512, 1024] inb_S1024x1024_S512x1024_512_0 x 0
    have h1 := emb_unit (S := S1024x1024) ![512, 0] ![512, 1024] inb_S1024x1024_S512x1024_512_0 x 1
    unfold halves
    rw [dif_neg (fun h => by rw [h0] at h; exact absurd h (by show ¬512 + (x 0).val < 512; omega))]
    refine congrArg p (funext fun a => Fin.ext ?_)
    fin_cases a
    · show (x 0).val = _ - 512
      rw [h0]
      exact (Nat.add_sub_cancel_left _ _).symm
    · exact (Nat.zero_add _).symm.trans h1.symm
  · have h0 := emb_unit (S := S1024x1024) ![0, 0] ![512, 1024] inb_S1024x1024_S512x1024_0_0 x 0
    have h1 := emb_unit (S := S1024x1024) ![0, 0] ![512, 1024] inb_S1024x1024_S512x1024_0_0 x 1
    have hx : (x 0).val < 512 := (x 0).isLt
    unfold halves
    rw [dif_pos (by rw [h0]; show 0 + (x 0).val < 512; omega)]
    refine congrArg q (funext fun a => Fin.ext ?_)
    fin_cases a
    · exact (Nat.zero_add _).symm.trans h0.symm
    · exact (Nat.zero_add _).symm.trans h1.symm
  · have h0 : (y 0).val < 1024 := (y 0).isLt
    have h1 : (y 1).val < 1024 := (y 1).isLt
    by_cases hy : (y 0).val < 512
    · refine ⟨_, List.mem_cons_of_mem _ List.mem_cons_self, ?_⟩
      refine (Rect.mem_set_unit (inb := inb_S1024x1024_S512x1024_0_0)).mpr fun a => ?_
      fin_cases a
      · exact ⟨Nat.zero_le _, by show (y 0).val < 0 + 512; omega⟩
      · exact ⟨Nat.zero_le _, by show (y 1).val < 0 + 1024; omega⟩
    · refine ⟨_, List.mem_cons_self, ?_⟩
      refine (Rect.mem_set_unit (inb := inb_S1024x1024_S512x1024_512_0)).mpr fun a => ?_
      fin_cases a
      · exact ⟨Nat.le_of_not_lt hy, by show (y 0).val < 512 + 512; omega⟩
      · exact ⟨Nat.zero_le _, by show (y 1).val < 0 + 1024; omega⟩

theorem outs_A3 (h0 : t.val % 8 = 0) : (outsAt0 m c t.val t.isLt).2.2.1 = outB m c t (k0_pay4 (F := Ideal)) := by
  rw [outsAt0_A m c t h0]
  frame_open
  simp (disch := decide) only [↓ View.readCov_skip, ↓ View.readCov_cons_toLoadRect, ↓ View.readCov_fill]
  frame_out
  simp only [View.readCov_eq_canon', scr_canon, y1, y2, y3]
  refine (canon_halves _ _ _).trans ?_
  unfold outB
  rw [← whole_idx (yb m c t), ← yb_eq]
  rfl

theorem outs_B3 (h0 : ¬t.val % 8 = 0) :
    (outsAt0 m c t.val t.isLt).2.2.1 = outB m c t (outsAt0 m c (t.val - 1) (by have := t.isLt; omega)).2.2.1 := by
  rw [outsAt0_B m c t h0]
  frame_open
  simp (disch := decide) only [↓ View.readCov_skip, ↓ View.readCov_cons_toLoadRect, ↓ View.readCov_fill]
  frame_out
  simp only [View.readCov_eq_canon', scr_canon, y1, y2, y3]
  refine (canon_halves _ _ _).trans ?_
  unfold outB
  rw [← whole_idx (yb m c t), ← yb_eq]
  rfl

/-- What a later point leaves. -/
theorem outs_B (h0 : ¬t.val % 8 = 0) :
    (outsAt0 m c t.val t.isLt).1 = k0_pay11 (iblk m c 0 t) (iblk m c 7 t)
    ∧ (outsAt0 m c t.val t.isLt).2.1 = mixedB m c t
    ∧ (outsAt0 m c t.val t.isLt).2.2.2.1 = k0_pay3 (iblk m c 0 t) (outsAt0 m c (t.val - 1) (by have := t.isLt; omega)).2.2.2.1
    ∧ (outsAt0 m c t.val t.isLt).2.2.2.2.1 = poolB m c t (outsAt0 m c (t.val - 1) (by have := t.isLt; omega)).2.2.2.2.1
    ∧ (outsAt0 m c t.val t.isLt).2.2.2.2.2.1 = biasB m c t (outsAt0 m c (t.val - 1) (by have := t.isLt; omega)).2.2.2.2.2.1
    ∧ (outsAt0 m c t.val t.isLt).2.2.2.2.2.2 = scaleB m c t (outsAt0 m c (t.val - 1) (by have := t.isLt; omega)).2.2.2.2.2.2 := by
  refine ⟨?_, ?_, ?_, ?_, ?_, ?_⟩
  all_goals
    rw [outsAt0_B m c t h0]
    frame_open
    simp (disch := decide) only [↓ View.readCov_skip, ↓ View.readCov_cons_toLoadRect, ↓ View.readCov_fill]
    frame_out
    try simp only [View.readCov_eq_canon', scr_canon, s0, s1, s2, s3, b1, b2, b3, w1, w2, w3, m1, m2, m3]
  case' refine_2 => exact canon_side (R := 1024) (e := .f32) (fun g => k0_pay34 (grpD (dc m c t) g) (grpV (iblk m c 6 t) g) (grpM (iblk m c 4 t) g)) [] _ _ _ _
  case' refine_4 => exact canon_stacked (e := .f32) (fun g => k0_pay33 (k0_pay23 (mx m c t g)) (grpD (dc m c t) g) (grpV (iblk m c 6 t) g) (grpM (outsAt0 m c (t.val - 1) (by have := t.isLt; omega)).2.2.2.2.1 g)) []
  case' refine_5 => exact canon_side (R := 1) (e := .f32) (fun g => k0_pay31 (grpD (dc m c t) g) (grpV (iblk m c 6 t) g) (grpV (outsAt0 m c (t.val - 1) (by have := t.isLt; omega)).2.2.2.2.2.1 g)) [] _ _ _ _
  case' refine_6 => exact canon_side (R := 1) (e := .f32) (fun g => scaleV (grpD (dc m c t) g) (mx m c t g) (grpM (iblk m c 4 t) g) (grpV (iblk m c 5 t) g) (grpV (outsAt0 m c (t.val - 1) (by have := t.isLt; omega)).2.2.2.2.2.2 g)) [] _ _ _ _

end Cert.Kernel3Ideal.Body

end
-- ==== Proof.OutprojValue.lean ====
/- The backward pass of the output projection and the pooling branch: what the tiled kernel leaves in its seven result arrays. -/
module

public import proofs.«01_k».proof.Proof.OutprojPoint
public import proofs.«01_k».proof.Proof.Gen.Kernel3Ideal.Value

@[expose] public section

set_option maxRecDepth 16384

noncomputable section

namespace Cert.Kernel3Ideal.Body

open Cert.Kernel3Ideal Cert.Kernel3Ideal.Gen Idealize.ShloMosaic Idealize.ShloMosaic.TcCoe
open Outproj

/-- The parts of a group, read from the whole. -/
theorem grpD_at (d : S1024x1024.Idx → EReal) (g : Fin 4) (r : Fin 1024) (q : Fin 128) :
    (grpD d g : S1024x128.Idx → EReal) (ix2 r q) = d (ix2 r (pch g q)) := by
  fin_cases g
  case' «0» => show (k0_pay26 (F := Ideal) d : S1024x128.Idx → EReal) (ix2 r q) = _
  case' «1» => show (k0_pay39 (F := Ideal) d : S1024x128.Idx → EReal) (ix2 r q) = _
  case' «2» => show (k0_pay49 (F := Ideal) d : S1024x128.Idx → EReal) (ix2 r q) = _
  case' «3» => show (k0_pay60 (F := Ideal) d : S1024x128.Idx → EReal) (ix2 r q) = _
  all_goals
    pointwise [k0_pay26, k0_pay39, k0_pay49, k0_pay60]
    rfl

@[inherit_doc grpD_at] theorem grpV_at {e : EltTy} (x : Vec Ideal S1x512 e) (g : Fin 4) (q : Fin 128) :
    (grpV x g : S1x128.Idx → Elt Ideal e) (ix2 0 q) = x (ix2 0 (ch g q)) := by
  fin_cases g
  · exact ld_part (R := 1) (R' := 1) x 0 0 inb_S1x512_S1x128_0_0 0 q (by decide) (by omega)
  · exact ld_part (R := 1) (R' := 1) x 0 128 inb_S1x512_S1x128_0_128 0 q (by decide) (by omega)
  · exact ld_part (R := 1) (R' := 1) x 0 256 inb_S1x512_S1x128_0_256 0 q (by decide) (by omega)
  · exact ld_part (R := 1) (R' := 1) x 0 384 inb_S1x512_S1x128_0_384 0 q (by decide) (by omega)

@[inherit_doc grpD_at] theorem grpM_at {e : EltTy} (x : Vec Ideal S4x128x128 e) (g : Fin 4) (a d : Fin 128) :
    (grpM x g : S1x128x128.Idx → Elt Ideal e) (ix3 0 a d) = x (ix3 g a d) := by
  fin_cases g
  · exact ld_group x 0 inb_S4x128x128_S1x128x128_0_0_0 a d (by decide)
  · exact ld_group x 1 inb_S4x128x128_S1x128x128_1_0_0 a d (by decide)
  · exact ld_group x 2 inb_S4x128x128_S1x128x128_2_0_0 a d (by decide)
  · exact ld_group x 3 inb_S4x128x128_S1x128x128_3_0_0 a d (by decide)

section Payloads
variable (x : S1024x1024.Idx → EReal) (d y : S1024x128.Idx → EReal) (w aw : S1x128x128.Idx → EReal) (b s a : S1x128.Idx → EReal)

/-- A point's step of the output weights' gradient, and of the output bias's. -/
theorem pay1_at (acc : S512x1024.Idx → EReal) (h : S1024x512.Idx → EReal) (i : Fin 512) (j : Fin 1024) :
    (k0_pay1 (F := Ideal) (k0_pay9 x) acc h : S512x1024.Idx → EReal) (ix2 i j) = acc (ix2 i j) + ∑ r : Fin 1024, h (ix2 r i) * x (ix2 r j) := by
  pointwise [k0_pay1, k0_pay9]

@[inherit_doc pay1_at] theorem pay2_at (acc : S512x1024.Idx → EReal) (h : S1024x512.Idx → EReal) (i : Fin 512) (j : Fin 1024) :
    (k0_pay2 (F := Ideal) (k0_pay9 x) acc h : S512x1024.Idx → EReal) (ix2 i j) = acc (ix2 i j) + ∑ r : Fin 1024, h (ix2 r i) * x (ix2 r j) := by
  pointwise [k0_pay2, k0_pay9]

@[inherit_doc pay1_at] theorem pay3_at (acc : S1x1024.Idx → EReal) (j : Fin 1024) :
    (k0_pay3 (F := Ideal) x acc : S1x1024.Idx → EReal) (ix2 0 j) = acc (ix2 0 j) + ∑ r : Fin 1024, x (ix2 r j) := by
  pointwise [k0_pay3]

/-- The gradient of the two branches, and its attention half. -/
theorem pay10_at (wo : S1024x1024.Idx → EReal) (r k : Fin 1024) :
    (k0_pay10 (F := Ideal) x wo : S1024x1024.Idx → EReal) (ix2 r k) = ∑ j : Fin 1024, x (ix2 r j) * wo (ix2 k j) := by
  pointwise [k0_pay10, k0_pay9]

@[inherit_doc pay10_at] theorem pay11_at (wo : S1024x1024.Idx → EReal) (r : Fin 1024) (l : Fin 512) :
    (k0_pay11 (F := Ideal) x wo : S1024x512.Idx → EReal) (ix2 r l) = ∑ j : Fin 1024, x (ix2 r j) * wo (ix2 ⟨l.val, by omega⟩ j) := by
  pointwise [k0_pay11, k0_pay10, k0_pay9]

/-- The pooling branch of one group: before its scale, and after. -/
theorem pay24_at (r : Fin 1024) (q : Fin 128) :
    (k0_pay24 (F := Ideal) y w b : S1024x128.Idx → EReal) (ix2 r q) = (∑ k : Fin 128, y (ix2 r k) * w (ix3 0 k q)) + b (ix2 0 q) := by
  pointwise [k0_pay24, k0_pay23]

@[inherit_doc pay24_at] theorem pay25_at (r : Fin 1024) (q : Fin 128) :
    (k0_pay25 (F := Ideal) y w b s : S1024x128.Idx → EReal) (ix2 r q) = ((∑ k : Fin 128, y (ix2 r k) * w (ix3 0 k q)) + b (ix2 0 q)) * s (ix2 0 q) := by
  pointwise [k0_pay25, k0_pay24, k0_pay23]

/-- A point's step of the pooling gradients of one group. -/
theorem pay31_at (q : Fin 128) :
    (k0_pay31 (F := Ideal) d s a : S1x128.Idx → EReal) (ix2 0 q) = a (ix2 0 q) + ∑ r : Fin 1024, d (ix2 r q) * s (ix2 0 q) := by
  pointwise [k0_pay31, k0_pay30]

@[inherit_doc pay31_at] theorem scaleV_at (q : Fin 128) :
    (scaleV d y w b a : S1x128.Idx → EReal) (ix2 0 q)
      = a (ix2 0 q) + ∑ r : Fin 1024, d (ix2 r q) * ((∑ k : Fin 128, y (ix2 r k) * w (ix3 0 k q)) + b (ix2 0 q)) := by
  pointwise [scaleV, k0_pay27, k0_pay24, k0_pay23]

@[inherit_doc pay31_at] theorem pay33_at (i j : Fin 128) :
    (k0_pay33 (F := Ideal) (k0_pay23 y) d s aw : S1x128x128.Idx → EReal) (ix3 0 i j)
      = aw (ix3 0 i j) + ∑ r : Fin 1024, y (ix2 r i) * (d (ix2 r j) * s (ix2 0 j)) := by
  pointwise [k0_pay33, k0_pay32, k0_pay30, k0_pay23]

/-- The gradient of the mixed tokens of one group. -/
theorem pay34_at (r : Fin 1024) (q : Fin 128) :
    (k0_pay34 (F := Ideal) d s w : S1024x128.Idx → EReal) (ix2 r q) = ∑ k : Fin 128, (d (ix2 r k) * s (ix2 0 k)) * w (ix3 0 q k) := by
  pointwise [k0_pay34, k0_pay32, k0_pay30]
end Payloads

theorem zero4 (i j : Fin 1024) : (k0_pay4 (F := Ideal) : S1024x1024.Idx → EReal) (ix2 i j) = 0 := by pointwise [k0_pay4]
theorem zero5 (j : Fin 1024) : (k0_pay5 (F := Ideal) : S1x1024.Idx → EReal) (ix2 0 j) = 0 := by pointwise [k0_pay5]
theorem zero6 (g : Fin 4) (i j : Fin 128) : (k0_pay6 (F := Ideal) : S4x128x128.Idx → EReal) (ix3 g i j) = 0 := by pointwise [k0_pay6]
theorem zero7 (j : Fin 512) : (k0_pay7 (F := Ideal) : S1x512.Idx → EReal) (ix2 0 j) = 0 := by pointwise [k0_pay7]
theorem zero8 (j : Fin 512) : (k0_pay8 (F := Ideal) : S1x512.Idx → EReal) (ix2 0 j) = 0 := by pointwise [k0_pay8]

variable (m : (ℓ : Loc nD τ sig) → Buf (Elt Ideal) ℓ) (c : Dev nD)

/-- The token of a row of a point's blocks. -/
def tok (t : Fin cfg0.N) (r : Fin 1024) : Fin 8192 := ⟨1024 * t.val + r.val, by have := lt8 t; omega⟩

/-- Where the blocks lie. -/
theorem idx0 : ∀ t : Fin cfg0.N, win0_0.index t 0 = t.val ∧ win0_0.index t 1 = 0 :=
  (by decide +kernel : ∀ t : Fin grid0.N, win0_0.index t 0 = t.val ∧ win0_0.index t 1 = 0)
@[inherit_doc idx0] theorem idx1 : ∀ t : Fin cfg0.N, win0_1.index t 0 = t.val ∧ win0_1.index t 1 = 0 :=
  (by decide +kernel : ∀ t : Fin grid0.N, win0_1.index t 0 = t.val ∧ win0_1.index t 1 = 0)
@[inherit_doc idx0] theorem idx8 : ∀ t : Fin cfg0.N, win0_8.index t 0 = t.val ∧ win0_8.index t 1 = 0 :=
  (by decide +kernel : ∀ t : Fin grid0.N, win0_8.index t 0 = t.val ∧ win0_8.index t 1 = 0)
@[inherit_doc idx0] theorem idx9 : ∀ t : Fin cfg0.N, win0_9.index t 0 = t.val ∧ win0_9.index t 1 = 0 :=
  (by decide +kernel : ∀ t : Fin grid0.N, win0_9.index t 0 = t.val ∧ win0_9.index t 1 = 0)
@[inherit_doc idx0] theorem idxV : ∀ t : Fin cfg0.N, ∀ a : Fin 2, win0_5.index t a = 0 ∧ win0_6.index t a = 0 ∧ win0_7.index t a = 0
    ∧ win0_10.index t a = 0 ∧ win0_11.index t a = 0 ∧ win0_13.index t a = 0 ∧ win0_14.index t a = 0 :=
  (by decide +kernel : ∀ t : Fin grid0.N, ∀ a : Fin 2, win0_5.index t a = 0 ∧ win0_6.index t a = 0 ∧ win0_7.index t a = 0
    ∧ win0_10.index t a = 0 ∧ win0_11.index t a = 0 ∧ win0_13.index t a = 0 ∧ win0_14.index t a = 0)
@[inherit_doc idx0] theorem idxM : ∀ t : Fin cfg0.N, ∀ a : Fin 3, win0_4.index t a = 0 ∧ win0_12.index t a = 0 :=
  (by decide +kernel : ∀ t : Fin grid0.N, ∀ a : Fin 3, win0_4.index t a = 0 ∧ win0_12.index t a = 0)

/-- What an input block holds of its array. -/
theorem blk0 (t : Fin cfg0.N) (r k : Fin 1024) :
    (iblk m c 0 t : S1024x1024.Idx → EReal) (ix2 r k) = (V m c main_arg0 : S8192x1024.Idx → EReal) (ix2 (tok t r) k) := by
  blk_simp [iblk]
  refine congrArg (V m c main_arg0) ?_
  funext a
  apply Fin.ext
  have h := idx0 t
  fin_cases a
  · blk_simp []
    show win0_0.index t 0 * 1024 + r.val = 1024 * t.val + r.val
    omega
  · blk_simp []
    show win0_0.index t 1 * 1024 + k.val = k.val
    omega

@[inherit_doc blk0] theorem blk1 (t : Fin cfg0.N) (r : Fin 1024) (k : Fin 512) :
    (iblk m c 1 t : S1024x512.Idx → EReal) (ix2 r k) = (V m c main_arg1 : S8192x512.Idx → EReal) (ix2 (tok t r) k) := by
  blk_simp [iblk]
  refine congrArg (V m c main_arg1) ?_
  funext a
  apply Fin.ext
  have h := idx1 t
  fin_cases a
  · blk_simp []
    show win0_1.index t 0 * 1024 + r.val = 1024 * t.val + r.val
    omega
  · blk_simp []
    show win0_1.index t 1 * 512 + k.val = k.val
    omega

@[inherit_doc blk0] theorem blk4 (t : Fin cfg0.N) (g : Fin 4) (i j : Fin 128) :
    (iblk m c 4 t : S4x128x128.Idx → EReal) (ix3 g i j) = (V m c main_arg3 : S4x128x128.Idx → EReal) (ix3 g i j) := by
  blk_simp [iblk]
  refine congrArg (V m c main_arg3) ?_
  funext a
  apply Fin.ext
  have h0 := (idxM t 0).1
  have h1 := (idxM t 1).1
  have h2 := (idxM t 2).1
  fin_cases a
  · blk_simp []
    show win0_4.index t 0 * 4 + g.val = g.val
    omega
  · blk_simp []
    show win0_4.index t 1 * 128 + i.val = i.val
    omega
  · blk_simp []
    show win0_4.index t 2 * 128 + j.val = j.val
    omega

@[inherit_doc blk0] theorem blk5 (t : Fin cfg0.N) (k : Fin 512) :
    (iblk m c 5 t : S1x512.Idx → EReal) (ix2 0 k) = (V m c main_arg4 : S1x512.Idx → EReal) (ix2 0 k) := by
  blk_simp [iblk]
  refine congrArg (V m c main_arg4) ?_
  funext a
  apply Fin.ext
  have h0 := (idxV t 0).1
  have h1 := (idxV t 1).1
  fin_cases a
  · blk_simp []
    show win0_5.index t 0 * 1 + 0 = 0
    omega
  · blk_simp []
    show win0_5.index t 1 * 512 + k.val = k.val
    omega

@[inherit_doc blk0] theorem blk6 (t : Fin cfg0.N) (k : Fin 512) :
    (iblk m c 6 t : S1x512.Idx → EReal) (ix2 0 k) = (V m c main_arg5 : S1x512.Idx → EReal) (ix2 0 k) := by
  blk_simp [iblk]
  refine congrArg (V m c main_arg5) ?_
  funext a
  apply Fin.ext
  have h0 := (idxV t 0).2.1
  have h1 := (idxV t 1).2.1
  fin_cases a
  · blk_simp []
    show win0_6.index t 0 * 1 + 0 = 0
    omega
  · blk_simp []
    show win0_6.index t 1 * 512 + k.val = k.val
    omega

@[inherit_doc blk0] theorem blk7 (t : Fin cfg0.N) (i j : Fin 1024) :
    (iblk m c 7 t : S1024x1024.Idx → EReal) (ix2 i j) = (V m c main_arg6 : S1024x1024.Idx → EReal) (ix2 i j) := by
  blk_simp [iblk]
  refine congrArg (V m c main_arg6) ?_
  funext a
  apply Fin.ext
  have h0 := (idxV t 0).2.2.1
  have h1 := (idxV t 1).2.2.1
  fin_cases a
  · blk_simp []
    show win0_7.index t 0 * 1024 + i.val = i.val
    omega
  · blk_simp []
    show win0_7.index t 1 * 1024 + j.val = j.val
    omega

section Point
variable (t : Fin cfg0.N)

/-- The gradient of the pooling branch of a group at a point. -/
theorem dpool_at (g : Fin 4) (r : Fin 1024) (q : Fin 128) :
    (grpD (dc m c t) g : S1024x128.Idx → EReal) (ix2 r q) = dpool (V m c main_arg0) (V m c main_arg6) (tok t r) g q := by
  rw [grpD_at]
  unfold dpool dcat
  refine (pay10_at _ _ _ _).trans (Finset.sum_congr rfl fun j _ => ?_)
  rw [blk0, blk7]

/-- The operands of a group's steps. -/
theorem w_at (g : Fin 4) (a d : Fin 128) : (grpM (iblk m c 4 t) g : S1x128x128.Idx → EReal) (ix3 0 a d) = V m c main_arg3 (ix3 g a d) :=
  (grpM_at _ _ _ _).trans (blk4 m c t g a d)
@[inherit_doc w_at] theorem b_at (g : Fin 4) (q : Fin 128) : (grpV (iblk m c 5 t) g : S1x128.Idx → EReal) (ix2 0 q) = V m c main_arg4 (ix2 0 (ch g q)) :=
  (grpV_at _ _ _).trans (blk5 m c t _)
@[inherit_doc w_at] theorem s_at (g : Fin 4) (q : Fin 128) : (grpV (iblk m c 6 t) g : S1x128.Idx → EReal) (ix2 0 q) = V m c main_arg5 (ix2 0 (ch g q)) :=
  (grpV_at _ _ _).trans (blk6 m c t _)

/-- The pooling branch before its scale at a point. -/
theorem lin_at (g : Fin 4) (r : Fin 1024) (q : Fin 128) :
    (∑ k : Fin 128, (mx m c t g : S1024x128.Idx → EReal) (ix2 r k) * (grpM (iblk m c 4 t) g : S1x128x128.Idx → EReal) (ix3 0 k q))
        + (grpV (iblk m c 5 t) g : S1x128.Idx → EReal) (ix2 0 q)
      = lin (V m c main_arg2) (V m c main_arg3) (V m c main_arg4) (tok t r) g q := by
  rw [b_at]
  refine congrArg (· + _) (Finset.sum_congr rfl fun k _ => ?_)
  rw [w_at, mx_at]
  rfl

theorem side_at {R : ℕ} {e : EltTy} (p : Fin 4 → Vec Ideal ⟨2, ![R, 128]⟩ e) (r : Fin R) (l : Fin 512) :
    side p (ix2 r l) = p (grp l) (ix2 r (plc l)) := rfl

theorem yb_at (r : Fin 1024) (l : Fin 512) :
    (yb m c t : S1024x512.Idx → EReal) (ix2 r l)
      = lin (V m c main_arg2) (V m c main_arg3) (V m c main_arg4) (tok t r) (grp l) (plc l) * V m c main_arg5 (ix2 0 l) := by
  unfold yb
  refine (side_at _ r l).trans ((pay25_at _ _ _ _ r (plc l)).trans ?_)
  rw [lin_at, s_at, ch_grp]

theorem mixedB_at (r : Fin 1024) (l : Fin 512) :
    (mixedB m c t : S1024x512.Idx → EReal) (ix2 r l)
      = dMixed (V m c main_arg0) (V m c main_arg3) (V m c main_arg5) (V m c main_arg6) (ix2 (tok t r) l) := by
  unfold mixedB
  refine (side_at _ r l).trans ((pay34_at _ _ _ r (plc l)).trans (Finset.sum_congr rfl fun k _ => ?_))
  rw [dpool_at, s_at, w_at]
  rfl

theorem outB_at (acc : S1024x1024.Idx → EReal) (i j : Fin 1024) :
    (outB m c t acc : S1024x1024.Idx → EReal) (ix2 i j)
      = acc (ix2 i j) + ∑ r : Fin 1024, cat (V m c main_arg1) (V m c main_arg2) (V m c main_arg3) (V m c main_arg4) (V m c main_arg5) (tok t r) i
          * V m c main_arg0 (ix2 (tok t r) j) := by
  unfold outB halves
  by_cases h : i.val < 512
  · refine (dif_pos h).trans ((pay1_at _ _ _ ⟨i.val, h⟩ j).trans (congrArg₂ (· + ·) ?_ (Finset.sum_congr rfl fun r _ => ?_)))
    · rw [View.ld_unit]
      refine congrArg acc (funext fun a => ?_)
      fin_cases a <;> exact Fin.ext (Nat.zero_add _)
    · rw [blk0, blk1]
      unfold cat
      rw [dif_pos h]
  · refine (dif_neg h).trans ((pay2_at _ _ _ ⟨i.val - 512, by omega⟩ j).trans (congrArg₂ (· + ·) ?_ (Finset.sum_congr rfl fun r _ => ?_)))
    · rw [View.ld_unit]
      refine congrArg acc (funext fun a => ?_)
      fin_cases a
      · exact Fin.ext (by show 512 + (i.val - 512) = i.val; omega)
      · exact Fin.ext (Nat.zero_add _)
    · rw [blk0, yb_at]
      unfold cat
      rw [dif_neg h]
      rfl

theorem poolB_at (acc : S4x128x128.Idx → EReal) (g : Fin 4) (i j : Fin 128) :
    (poolB m c t acc : S4x128x128.Idx → EReal) (ix3 g i j)
      = acc (ix3 g i j) + ∑ r : Fin 1024, mixed (V m c main_arg2) g (tok t r).val i
          * dlin (V m c main_arg0) (V m c main_arg5) (V m c main_arg6) (tok t r) g j := by
  unfold poolB
  refine (show stacked _ (ix3 g i j) = (k0_pay33 (k0_pay23 (mx m c t g)) (grpD (dc m c t) g) (grpV (iblk m c 6 t) g) (grpM acc g) : S1x128x128.Idx → EReal) (ix3 0 i j) from rfl).trans ?_
  refine (pay33_at _ _ _ _ i j).trans (congrArg₂ (· + ·) (grpM_at (e := .f32) acc g i j) (Finset.sum_congr rfl fun r _ => ?_))
  refine congrArg₂ (· * ·) (mx_at m c t g r i) ?_
  show (grpD (dc m c t) g : S1024x128.Idx → EReal) (ix2 r j) * (grpV (iblk m c 6 t) g : S1x128.Idx → EReal) (ix2 0 j) = _
  rw [dpool_at, s_at]
  rfl

theorem biasB_at (acc : S1x512.Idx → EReal) (l : Fin 512) :
    (biasB m c t acc : S1x512.Idx → EReal) (ix2 0 l)
      = acc (ix2 0 l) + ∑ r : Fin 1024, dlin (V m c main_arg0) (V m c main_arg5) (V m c main_arg6) (tok t r) (grp l) (plc l) := by
  unfold biasB
  refine (side_at _ 0 l).trans ((pay31_at _ _ _ (plc l)).trans (congrArg₂ (· + ·) ((grpV_at (e := .f32) acc _ _).trans (congrArg acc (congrArg (ix2 0) (ch_grp l)))) (Finset.sum_congr rfl fun r _ => ?_)))
  rw [dpool_at, s_at]
  rfl

theorem scaleB_at (acc : S1x512.Idx → EReal) (l : Fin 512) :
    (scaleB m c t acc : S1x512.Idx → EReal) (ix2 0 l)
      = acc (ix2 0 l) + ∑ r : Fin 1024, dpool (V m c main_arg0) (V m c main_arg6) (tok t r) (grp l) (plc l)
          * lin (V m c main_arg2) (V m c main_arg3) (V m c main_arg4) (tok t r) (grp l) (plc l) := by
  unfold scaleB
  refine (side_at _ 0 l).trans ((scaleV_at _ _ _ _ _ (plc l)).trans (congrArg₂ (· + ·) ((grpV_at (e := .f32) acc _ _).trans (congrArg acc (congrArg (ix2 0) (ch_grp l)))) (Finset.sum_congr rfl fun r _ => ?_)))
  exact congrArg₂ (· * ·) (dpool_at m c t _ r _) (lin_at m c t _ r _)

end Point

/-- A running sum over the eight points' rows is, at the last point, the sum over all tokens. -/
theorem acc_sum (f : Fin 8192 → EReal) (o : (n : ℕ) → n < cfg0.N → EReal)
    (hA : ∀ t : Fin cfg0.N, t.val % 8 = 0 → o t.val t.isLt = 0 + ∑ r : Fin 1024, f (tok t r))
    (hB : ∀ t : Fin cfg0.N, ¬t.val % 8 = 0 → o t.val t.isLt = o (t.val - 1) (by have := t.isLt; omega) + ∑ r : Fin 1024, f (tok t r))
    (t : Fin cfg0.N) (ht : t.val = 7) : o t.val t.isLt = ∑ n : Fin 8192, f n := by
  obtain ⟨n, hn⟩ := t
  obtain rfl : n = 7 := ht
  have e : o 7 hn = ∑ p : Fin 8, ∑ r : Fin 1024, f (tok ⟨p.val, by have := p.isLt; have : cfg0.N = 8 := N_0; omega⟩ r) := by
    rw [Fin.sum_univ_eight, ← zero_add (∑ r : Fin 1024, f (tok ⟨(0 : Fin 8).val, _⟩ r))]
    exact (hB ⟨7, hn⟩ (by decide : ¬7 % 8 = 0)).trans (congrArg (· + _) ((hB ⟨6, by decide⟩ (by decide)).trans (congrArg (· + _)
      ((hB ⟨5, by decide⟩ (by decide)).trans (congrArg (· + _) ((hB ⟨4, by decide⟩ (by decide)).trans (congrArg (· + _)
      ((hB ⟨3, by decide⟩ (by decide)).trans (congrArg (· + _) ((hB ⟨2, by decide⟩ (by decide)).trans (congrArg (· + _)
      ((hB ⟨1, by decide⟩ (by decide)).trans (congrArg (· + _) (hA ⟨0, by decide⟩ (by decide)))))))))))))))
  refine e.trans (Fin.sum_mul_add_congr fun p r hl => congrArg f (Fin.ext ?_))
  show 1024 * p.val + r.val = p.val * 1024 + r.val
  omega

theorem one_row {n : ℕ} (y : Shape.Idx ⟨2, ![1, n]⟩) : y = ix2 0 (y 1) := by
  funext a
  fin_cases a
  · exact Subsingleton.elim (α := Fin 1) _ _
  · rfl

theorem two_axes {n n' : ℕ} (y : Shape.Idx ⟨2, ![n, n']⟩) : y = ix2 (y 0) (y 1) := by
  funext a
  fin_cases a <;> rfl

theorem three_axes {n n' n'' : ℕ} (y : Shape.Idx ⟨3, ![n, n', n'']⟩) : y = ix3 (y 0) (y 1) (y 2) := by
  funext a
  fin_cases a <;> rfl

/-- The first result: the gradient of the attention branch. -/
theorem arr8 : (dats m 0 c).arrAt 8 cfg0.N = dAttn (V m c main_arg0) (V m c main_arg6) := by
  refine (dats m 0 c).arrAt_eq_of_covers 8 _ (by decide +kernel) fun t hf y => ?_
  blk_simp
  rw [after0_8]
  have key : ∀ (r : Fin 1024) (l : Fin 512), (outsAt0 m c t.val t.isLt).1 (ix2 r l) = dAttn (V m c main_arg0) (V m c main_arg6) (ix2 (tok t r) l) := by
    intro r l
    have e : (outsAt0 m c t.val t.isLt).1 = k0_pay11 (iblk m c 0 t) (iblk m c 7 t) := by
      by_cases h0 : t.val % 8 = 0
      · exact (outs_A m c t h0).1
      · exact (outs_B m c t h0).1
    rw [e]
    unfold dAttn dcat
    refine (pay11_at _ _ r l).trans (Finset.sum_congr rfl fun j _ => ?_)
    rw [blk0, blk7]
    rfl
  have h := idx8 t
  refine Eq.trans (congrArg (outsAt0 m c t.val t.isLt).1 (two_axes y)) ((key (y 0) (y 1)).trans (congrArg _ ?_))
  funext a
  apply Fin.ext
  fin_cases a
  · blk_simp []
    show 1024 * t.val + (y 0).val = win0_8.index t 0 * 1024 + (y 0).val
    omega
  · blk_simp []
    show (y 1).val = win0_8.index t 1 * 512 + (y 1).val
    omega

/-- The second result: the gradient of the mixed tokens. -/
theorem arr9 : (dats m 0 c).arrAt 9 cfg0.N = dMixed (V m c main_arg0) (V m c main_arg3) (V m c main_arg5) (V m c main_arg6) := by
  refine (dats m 0 c).arrAt_eq_of_covers 9 _ (by decide +kernel) fun t hf y => ?_
  blk_simp
  rw [after0_9]
  have e : (outsAt0 m c t.val t.isLt).2.1 = mixedB m c t := by
    by_cases h0 : t.val % 8 = 0
    · exact (outs_A m c t h0).2.1
    · exact (outs_B m c t h0).2.1
  have h := idx9 t
  refine Eq.trans (congrArg (outsAt0 m c t.val t.isLt).2.1 (two_axes y)) (((congrFun e _).trans (mixedB_at m c t (y 0) (y 1))).trans (congrArg _ ?_))
  funext a
  apply Fin.ext
  fin_cases a
  · blk_simp []
    show 1024 * t.val + (y 0).val = win0_9.index t 0 * 1024 + (y 0).val
    omega
  · blk_simp []
    show (y 1).val = win0_9.index t 1 * 512 + (y 1).val
    omega

/-- The third result: the gradient of the output weights. -/
theorem arr10 : (dats m 0 c).arrAt 10 cfg0.N
    = gOut (V m c main_arg0) (V m c main_arg1) (V m c main_arg2) (V m c main_arg3) (V m c main_arg4) (V m c main_arg5) := by
  refine (dats m 0 c).arrAt_eq_of_covers 10 _ (by decide +kernel) fun t hf y => ?_
  have ht : t.val = 7 := (by decide +kernel : ∀ t : Fin grid0.N, win0_10.flush t = true → t.val = 7) t hf
  blk_simp
  rw [after0_10]
  have key : ∀ i j : Fin 1024, (outsAt0 m c t.val t.isLt).2.2.1 (ix2 i j) = gOut (V m c main_arg0) (V m c main_arg1) (V m c main_arg2) (V m c main_arg3) (V m c main_arg4) (V m c main_arg5) (ix2 i j) := fun i j => acc_sum
    (fun n => cat (V m c main_arg1) (V m c main_arg2) (V m c main_arg3) (V m c main_arg4) (V m c main_arg5) n i * V m c main_arg0 (ix2 n j))
    (fun n h => (outsAt0 m c n h).2.2.1 (ix2 i j))
    (fun t h0 => by
      show (outsAt0 m c t.val t.isLt).2.2.1 (ix2 i j) = _
      rw [outs_A3 m c t h0, outB_at, zero4])
    (fun t h0 => by
      show (outsAt0 m c t.val t.isLt).2.2.1 (ix2 i j) = _
      rw [outs_B3 m c t h0, outB_at]) t ht
  have h0 := (idxV t 0).2.2.2.1
  have h1 := (idxV t 1).2.2.2.1
  refine Eq.trans (congrArg (outsAt0 m c t.val t.isLt).2.2.1 (two_axes y)) ((key (y 0) (y 1)).trans (congrArg _ ?_))
  funext a
  apply Fin.ext
  fin_cases a
  · blk_simp []
    show (y 0).val = win0_10.index t 0 * 1024 + (y 0).val
    omega
  · blk_simp []
    show (y 1).val = win0_10.index t 1 * 1024 + (y 1).val
    omega

/-- The fourth result: the gradient of the output bias. -/
theorem arr11 : (dats m 0 c).arrAt 11 cfg0.N = gOutBias (V m c main_arg0) := by
  refine (dats m 0 c).arrAt_eq_of_covers 11 _ (by decide +kernel) fun t hf y => ?_
  have ht : t.val = 7 := (by decide +kernel : ∀ t : Fin grid0.N, win0_11.flush t = true → t.val = 7) t hf
  blk_simp
  rw [after0_11]
  have key : ∀ j : Fin 1024, (outsAt0 m c t.val t.isLt).2.2.2.1 (ix2 0 j) = gOutBias (V m c main_arg0) (ix2 0 j) := fun j => acc_sum (fun n => V m c main_arg0 (ix2 n j)) (fun n h => (outsAt0 m c n h).2.2.2.1 (ix2 0 j))
    (fun t h0 => by
      show (outsAt0 m c t.val t.isLt).2.2.2.1 (ix2 0 j) = _
      rw [(outs_A m c t h0).2.2.1, pay3_at, zero5]
      exact congrArg (_ + ·) (Finset.sum_congr rfl fun r _ => blk0 m c t r j))
    (fun t h0 => by
      show (outsAt0 m c t.val t.isLt).2.2.2.1 (ix2 0 j) = _
      rw [(outs_B m c t h0).2.2.1, pay3_at]
      exact congrArg (_ + ·) (Finset.sum_congr rfl fun r _ => blk0 m c t r j)) t ht
  have h0 := (idxV t 0).2.2.2.2.1
  have h1 := (idxV t 1).2.2.2.2.1
  refine Eq.trans (congrArg (outsAt0 m c t.val t.isLt).2.2.2.1 (one_row y)) ((key (y 1)).trans (congrArg _ ?_))
  funext a
  apply Fin.ext
  fin_cases a
  · blk_simp []
    exact h0.symm
  · blk_simp []
    show (y 1).val = win0_11.index t 1 * 1024 + (y 1).val
    omega

/-- The fifth result: the gradient of the pooling weights. -/
theorem arr12 : (dats m 0 c).arrAt 12 cfg0.N = gPool (V m c main_arg0) (V m c main_arg2) (V m c main_arg5) (V m c main_arg6) := by
  refine (dats m 0 c).arrAt_eq_of_covers 12 _ (by decide +kernel) fun t hf y => ?_
  have ht : t.val = 7 := (by decide +kernel : ∀ t : Fin grid0.N, win0_12.flush t = true → t.val = 7) t hf
  blk_simp
  rw [after0_12]
  have key : ∀ (g : Fin 4) (i j : Fin 128), (outsAt0 m c t.val t.isLt).2.2.2.2.1 (ix3 g i j) = gPool (V m c main_arg0) (V m c main_arg2) (V m c main_arg5) (V m c main_arg6) (ix3 g i j) := fun g i j => acc_sum
    (fun n => mixed (V m c main_arg2) g n.val i * dlin (V m c main_arg0) (V m c main_arg5) (V m c main_arg6) n g j)
    (fun n h => (outsAt0 m c n h).2.2.2.2.1 (ix3 g i j))
    (fun t h0 => by
      show (outsAt0 m c t.val t.isLt).2.2.2.2.1 (ix3 g i j) = _
      rw [(outs_A m c t h0).2.2.2.1, poolB_at, zero6])
    (fun t h0 => by
      show (outsAt0 m c t.val t.isLt).2.2.2.2.1 (ix3 g i j) = _
      rw [(outs_B m c t h0).2.2.2.1, poolB_at]) t ht
  have h0 := (idxM t 0).2
  have h1 := (idxM t 1).2
  have h2 := (idxM t 2).2
  refine Eq.trans (congrArg (outsAt0 m c t.val t.isLt).2.2.2.2.1 (three_axes y)) ((key (y 0) (y 1) (y 2)).trans (congrArg _ ?_))
  funext a
  apply Fin.ext
  fin_cases a
  · blk_simp []
    show (y 0).val = win0_12.index t 0 * 4 + (y 0).val
    omega
  · blk_simp []
    show (y 1).val = win0_12.index t 1 * 128 + (y 1).val
    omega
  · blk_simp []
    show (y 2).val = win0_12.index t 2 * 128 + (y 2).val
    omega

/-- The sixth result: the gradient of the pooling bias. -/
theorem arr13 : (dats m 0 c).arrAt 13 cfg0.N = gPoolBias (V m c main_arg0) (V m c main_arg5) (V m c main_arg6) := by
  refine (dats m 0 c).arrAt_eq_of_covers 13 _ (by decide +kernel) fun t hf y => ?_
  have ht : t.val = 7 := (by decide +kernel : ∀ t : Fin grid0.N, win0_13.flush t = true → t.val = 7) t hf
  blk_simp
  rw [after0_13]
  have key : ∀ l : Fin 512, (outsAt0 m c t.val t.isLt).2.2.2.2.2.1 (ix2 0 l) = gPoolBias (V m c main_arg0) (V m c main_arg5) (V m c main_arg6) (ix2 0 l) := fun l => acc_sum
    (fun n => dlin (V m c main_arg0) (V m c main_arg5) (V m c main_arg6) n (grp l) (plc l)) (fun n h => (outsAt0 m c n h).2.2.2.2.2.1 (ix2 0 l))
    (fun t h0 => by
      show (outsAt0 m c t.val t.isLt).2.2.2.2.2.1 (ix2 0 l) = _
      rw [(outs_A m c t h0).2.2.2.2.1, biasB_at, zero7])
    (fun t h0 => by
      show (outsAt0 m c t.val t.isLt).2.2.2.2.2.1 (ix2 0 l) = _
      rw [(outs_B m c t h0).2.2.2.2.1, biasB_at]) t ht
  have h0 := (idxV t 0).2.2.2.2.2.1
  have h1 := (idxV t 1).2.2.2.2.2.1
  refine Eq.trans (congrArg (outsAt0 m c t.val t.isLt).2.2.2.2.2.1 (one_row y)) ((key (y 1)).trans (congrArg _ ?_))
  funext a
  apply Fin.ext
  fin_cases a
  · blk_simp []
    exact h0.symm
  · blk_simp []
    show (y 1).val = win0_13.index t 1 * 512 + (y 1).val
    omega

/-- The seventh result: the gradient of the pooling branch's scale. -/
theorem arr14 : (dats m 0 c).arrAt 14 cfg0.N
    = gScale (V m c main_arg0) (V m c main_arg2) (V m c main_arg3) (V m c main_arg4) (V m c main_arg6) := by
  refine (dats m 0 c).arrAt_eq_of_covers 14 _ (by decide +kernel) fun t hf y => ?_
  have ht : t.val = 7 := (by decide +kernel : ∀ t : Fin grid0.N, win0_14.flush t = true → t.val = 7) t hf
  blk_simp
  rw [after0_14]
  have key : ∀ l : Fin 512, (outsAt0 m c t.val t.isLt).2.2.2.2.2.2 (ix2 0 l) = gScale (V m c main_arg0) (V m c main_arg2) (V m c main_arg3) (V m c main_arg4) (V m c main_arg6) (ix2 0 l) := fun l => acc_sum
    (fun n => dpool (V m c main_arg0) (V m c main_arg6) n (grp l) (plc l) * lin (V m c main_arg2) (V m c main_arg3) (V m c main_arg4) n (grp l) (plc l))
    (fun n h => (outsAt0 m c n h).2.2.2.2.2.2 (ix2 0 l))
    (fun t h0 => by
      show (outsAt0 m c t.val t.isLt).2.2.2.2.2.2 (ix2 0 l) = _
      rw [(outs_A m c t h0).2.2.2.2.2, scaleB_at, zero8])
    (fun t h0 => by
      show (outsAt0 m c t.val t.isLt).2.2.2.2.2.2 (ix2 0 l) = _
      rw [(outs_B m c t h0).2.2.2.2.2, scaleB_at]) t ht
  have h0 := (idxV t 0).2.2.2.2.2.2
  have h1 := (idxV t 1).2.2.2.2.2.2
  refine Eq.trans (congrArg (outsAt0 m c t.val t.isLt).2.2.2.2.2.2 (one_row y)) ((key (y 1)).trans (congrArg _ ?_))
  funext a
  apply Fin.ext
  fin_cases a
  · blk_simp []
    exact h0.symm
  · blk_simp []
    show (y 1).val = win0_14.index t 1 * 512 + (y 1).val
    omega

end Cert.Kernel3Ideal.Body

end
-- ==== Proof.OutprojClaim.lean ====
/- The backward pass of the output projection and the pooling branch: the kernel's results are the reference's. -/
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.OutprojRef
public import proofs.«01_k».proof.Proof.OutprojValue

@[expose] public section

set_option maxRecDepth 16384

noncomputable section

namespace Cert.Proof.Outproj

open Idealize.ShloMosaic Idealize.ShloMosaic.TcCoe Idealize.SL.Sem
open Cert.Reference3Ideal Cert.Reference3Ideal.Read Cert.Reference3Ideal.Ref Cert.Kernel3Ideal.Body Idealize.ShloMosaic.StableHlo

/-- The reference ends with its arguments unchanged; it declares no semaphore. -/
theorem frame_reference : Cert.quiescent_Reference3Ideal := fun m ρ _ =>
  (θ_run Cert.Reference3Ideal.defs _ _).mono (fun r h => ⟨fun c => (h c).2.2.2.2.2.2.2,
      Idealize.ShloMosaic.sem_eq_zero_of_no_sems (by decide) r.2⟩)
    (Cert.Reference3Ideal.Value.run (F := Ideal) m ρ)

set_option maxHeartbeats 2000000 in
/-- The kernel's seven results and the reference's are the same functions of the arguments. -/
theorem values : Cert.algebraic_Kernel3Ideal_Reference3Ideal := by
  intro m ρ m' ρ' _ hagree
  refine ⟨_, _, _, _, _, _, _, Cert.Kernel3Ideal.Value.run_blocks (F := Ideal) m ρ, ?_⟩
  refine (θ_run Cert.Reference3Ideal.defs _ _).mono (fun r h c => ?_) (Cert.Reference3Ideal.Value.run (F := Ideal) m' ρ')
  obtain ⟨g0, g1, g2, g3, g4, g5, g6⟩ := hagree c
  obtain ⟨r0, r1, r2, r3, r4, r5, r6, k⟩ := h c
  refine ⟨((r0.trans (val_main_v107_eq _ _)).trans (d_attn _ _)).trans ?_, ((r1.trans (val_main_v106_eq _ _ _ _)).trans (d_mixed _ _ _ _)).trans ?_,
    ((r2.trans (val_main_v89_eq _ _)).trans (g_out _ _ _ _ _ _)).trans ?_, ((r3.trans (val_main_v87_eq _)).trans (g_out_bias _)).trans ?_,
    ((r4.trans (val_main_v105_eq _ _)).trans (g_pool _ _ _ _)).trans ?_, ((r5.trans (val_main_v99_eq _ _ _)).trans (g_pool_bias _ _ _)).trans ?_,
    ((r6.trans (val_main_v95_eq _ _)).trans (g_scale _ _ _ _ _)).trans ?_, k⟩
  · exact (congrArg₂ Outproj.dAttn g0 g6).trans (arr8 m c).symm
  · refine Eq.trans ?_ (arr9 m c).symm
    rw [g0, g3, g5, g6]
  · refine Eq.trans ?_ (arr10 m c).symm
    rw [g0, g1, g2, g3, g4, g5]
  · exact (congrArg Outproj.gOutBias g0).trans (arr11 m c).symm
  · refine Eq.trans ?_ (arr12 m c).symm
    rw [g0, g2, g5, g6]
  · refine Eq.trans ?_ (arr13 m c).symm
    rw [g0, g5, g6]
  · refine Eq.trans ?_ (arr14 m c).symm
    rw [g0, g2, g3, g4, g6]

end Cert.Proof.Outproj

end
-- ==== Proof.Spec4.lean ====
/- The backward pass of the input projection, of the pooling branch's trailing means and of the norm before them: the functions of
   whole arrays it computes, at any extended reals, and the two identities between the kernel's form and the derivative's. -/
module

public import proofs.«01_k».proof.Proof.Reals
public import Idealize.ShloMosaic.Lib.Pipeline.ValueKit
public import Idealize.ShloMosaic.PureOps.Ideal.Laws

@[expose] public section

noncomputable section

namespace Inproj

open Idealize.ShloMosaic

/-- An array of two axes. -/
abbrev A2 (a b : Nat) := Shape.Idx ⟨2, ![a, b]⟩ → EReal

/-! ## The trailing means -/

/-- How many tokens a group's mean covers: two, four, eight, sixteen. -/
def size (g : Fin 4) : ℕ := 2 ^ (g.val + 1)

/-- How many tokens the mean at token `t` has: fewer at the start. -/
def count (g : Fin 4) (t : ℕ) : EReal := (((min (t + 1) (size g) : ℕ) : ℝ) : EReal)

/-- Channel `d` of group `g`, a channel's group, and its place in the group. -/
def ch (g : Fin 4) (d : Fin 128) : Fin 512 := ⟨128 * g.val + d.val, by omega⟩
@[inherit_doc ch] def grp (l : Fin 512) : Fin 4 := ⟨l.val / 128, by omega⟩
@[inherit_doc ch] def plc (l : Fin 512) : Fin 128 := ⟨l.val % 128, by omega⟩

theorem ch_grp (l : Fin 512) : ch (grp l) (plc l) = l := Fin.ext (by show 128 * (l.val / 128) + l.val % 128 = l.val; omega)

/-- Token `t`'s gradient divided by its mean's count, zero after the last token. -/
def term (dm : A2 8192 512) (g : Fin 4) (d : Fin 128) (t : ℕ) : EReal :=
  if h : t < 8192 then Ideal.div (dm (ix2 ⟨t, h⟩ (ch g d))) (count g t) else 0

/-- The gradient of the tokens: a token is in its own mean and in those of the tokens after it, and is subtracted once. -/
def du (dm : A2 8192 512) (t : Fin 8192) (g : Fin 4) (d : Fin 128) : EReal :=
  -dm (ix2 t (ch g d)) + ∑ j ∈ Finset.range (size g), term dm g d (t.val + j)

theorem size_pos (g : Fin 4) : 0 < size g := by unfold size; positivity

theorem count_ne (g : Fin 4) (t : ℕ) : (((min (t + 1) (size g) : ℕ) : ℝ)) ≠ 0 := by
  have h := size_pos g
  exact_mod_cast (by omega : min (t + 1) (size g) ≠ 0)

/-- A matrix whose row `t` averages the trailing tokens, applied backwards, adds the later tokens' terms. -/
theorem window_sum (dm : A2 8192 512) (s : Fin 8192) (g : Fin 4) (d : Fin 128) :
    ∑ t : Fin 8192, dm (ix2 t (ch g d)) * Ideal.div (if s.val ≤ t.val ∧ t.val < s.val + size g then 1 else 0) (count g t.val)
      = ∑ j ∈ Finset.range (size g), term dm g d (s.val + j) := by
  have e : ∀ t : Fin 8192, dm (ix2 t (ch g d)) * Ideal.div (if s.val ≤ t.val ∧ t.val < s.val + size g then 1 else 0) (count g t.val)
      = (fun n => if s.val ≤ n ∧ n < s.val + size g then term dm g d n else 0) t.val := by
    intro t
    unfold count
    dsimp only
    rw [Ideal.div_coe (count_ne g t.val)]
    split
    · unfold term count
      rw [dif_pos t.isLt, Ideal.div_coe (count_ne g t.val), one_mul]
    · rw [zero_mul, mul_zero]
  rw [Finset.sum_congr rfl fun t _ => e t, Fin.sum_univ_eq_sum_range (fun n => if s.val ≤ n ∧ n < s.val + size g then term dm g d n else 0) 8192,
    ← Finset.sum_filter]
  refine (Finset.sum_subset (s₂ := Finset.Ico s.val (s.val + size g)) (fun n h => ?_) (fun n h h' => ?_)).trans ?_
  · rw [Finset.mem_filter] at h
    exact Finset.mem_Ico.mpr h.2
  · unfold term
    refine dif_neg fun hn => h' (Finset.mem_filter.mpr ⟨Finset.mem_range.mpr hn, Finset.mem_Ico.mp h⟩)
  · rw [Finset.sum_Ico_eq_sum_range, Nat.add_sub_cancel_left]

/-! ## The projection and the norm -/

variable (dq : A2 8192 512) (dk dv : A2 8192 128) (dm : A2 8192 512) (x dx1 : A2 8192 1024) (w : A2 1280 1024) (gm : A2 1 1024)

/-- The gradients of the queries, the keys, the values and the pooled tokens side by side. -/
def dz (t : Fin 8192) (k : Fin 1280) : EReal :=
  if h : k.val < 512 then dq (ix2 t ⟨k.val, h⟩)
  else if h : k.val < 640 then dk (ix2 t ⟨k.val - 512, by omega⟩)
  else if h : k.val < 768 then dv (ix2 t ⟨k.val - 640, by omega⟩)
  else du dm t (grp ⟨k.val - 768, by omega⟩) (plc ⟨k.val - 768, by omega⟩)

/-- The width of a row, and the norm's epsilon. -/
def width : EReal := ((1024 : ℝ) : EReal)
@[inherit_doc width] def epsilon : EReal := ((Ffn.eps : ℝ) : EReal)

/-- The mean of the squares of a row, and its reciprocal root. -/
def sqs (y : Fin 1024 → EReal) : EReal := Ideal.div (∑ k, y k * y k) width
@[inherit_doc sqs] def rr (y : Fin 1024 → EReal) : EReal := Ideal.rsqrt (sqs y + epsilon)

/-- A row of the tokens. -/
def row (t : Fin 8192) : Fin 1024 → EReal := fun k => x (ix2 t k)

/-- A row divided by its root mean square. -/
def xh (t : Fin 8192) (k : Fin 1024) : EReal := x (ix2 t k) * rr (row x t)

/-- The gradient of the normalised tokens. -/
def dh (t : Fin 8192) (k : Fin 1024) : EReal := ∑ j : Fin 1280, dz dq dk dv dm t j * w (ix2 j k)

/-- The norm's gradient at a row `y`, for the gradient `e` of the row that the norm gives, as the kernel writes it. -/
def back (y e : Fin 1024 → EReal) (k : Fin 1024) : EReal :=
  rr y * (e k - y k * rr y * Ideal.div (∑ j, e j * (y j * rr y)) width)

/-- The same by the chain rule: what the mean square's derivative multiplies, and the sum of the three terms. -/
def chain (y e : Fin 1024 → EReal) : EReal :=
  Ideal.div ((∑ j, y j * e j) * (((-(1 / 2) : ℝ) : EReal) * Ideal.div (rr y) (sqs y + epsilon))) width

/-- The gradient of the tokens, with the residual's. -/
def dX : A2 8192 1024 := fun i => dx1 i + back (row x (i 0)) (fun k => dh dq dk dv dm w (i 0) k * gm (ix2 0 k)) (i 1)

/-- The gradients of the projection's weights and bias, and of the norm's weights. -/
def gW : A2 1280 1024 := fun i => ∑ t : Fin 8192, dz dq dk dv dm t (i 0) * (xh x t (i 1) * gm (ix2 0 (i 1)))
@[inherit_doc gW] def gB : A2 1 1280 := fun i => ∑ t : Fin 8192, dz dq dk dv dm t (i 1)
@[inherit_doc gW] def gG : A2 1 1024 := fun i => ∑ t : Fin 8192, dh dq dk dv dm w t (i 1) * xh x t (i 1)

/-! ## The two forms of the norm's gradient agree -/

/-- A factor that is a nonnegative real goes into a sum. -/
theorem mul_sum_real {n : ℕ} (a : ℝ) (ha : 0 ≤ a) (f : Fin n → EReal) : (a : EReal) * ∑ j, f j = ∑ j, (a : EReal) * f j := by
  have key : ∀ s : Finset (Fin n), (a : EReal) * ∑ j ∈ s, f j = ∑ j ∈ s, (a : EReal) * f j := by
    classical
    intro s
    induction s using Finset.induction_on with
    | empty => simp
    | insert b s hb ih =>
      rw [Finset.sum_insert hb, Finset.sum_insert hb, EReal.left_distrib_of_nonneg_of_ne_top (EReal.coe_nonneg.mpr ha) (EReal.coe_ne_top a), ih]
  exact key Finset.univ

/-- Minus half of a product, twice. -/
theorem twice (a : ℝ) (S : EReal) : ((-(1 / 2) * a : ℝ) : EReal) * S + ((-(1 / 2) * a : ℝ) : EReal) * S = -((a : EReal) * S) := by
  induction S with
  | coe b => rw [← EReal.coe_mul, ← EReal.coe_mul, ← EReal.coe_add, ← EReal.coe_neg]; exact congrArg _ (by ring)
  | top =>
    rcases lt_trichotomy a 0 with h | h | h
    · rw [EReal.coe_mul_top_of_neg h, EReal.coe_mul_top_of_pos (by linarith)]; rfl
    · subst h; simp
    · rw [EReal.coe_mul_top_of_pos h, EReal.coe_mul_top_of_neg (by linarith)]; rfl
  | bot =>
    rcases lt_trichotomy a 0 with h | h | h
    · rw [EReal.coe_mul_bot_of_neg h, EReal.coe_mul_bot_of_pos (by linarith)]; rfl
    · subst h; simp
    · rw [EReal.coe_mul_bot_of_pos h, EReal.coe_mul_bot_of_neg (by linarith)]; rfl

theorem sqs_real (y : Fin 1024 → ℝ) : sqs (fun k => (y k : EReal)) = ((Ffn.ms y : ℝ) : EReal) := by
  unfold sqs width
  rw [Finset.sum_congr rfl fun k _ => (EReal.coe_mul (y k) (y k)).symm, ← Ffn.coe_sum, Ffn.div_real _ (by norm_num)]
  rfl

theorem rr_real (y : Fin 1024 → ℝ) : rr (fun k => (y k : EReal)) = ((Ffn.rs y : ℝ) : EReal) := by
  unfold rr epsilon
  rw [sqs_real, ← EReal.coe_add, Ffn.rsqrt_ms]

theorem rs_nonneg (y : Fin 1024 → ℝ) : 0 ≤ Ffn.rs y := inv_nonneg.mpr (Real.sqrt_nonneg _)

/-- A row with an infinite entry has an infinite mean square. -/
theorem sqs_top (y : Fin 1024 → EReal) (k : Fin 1024) (h : y k = ⊤ ∨ y k = ⊥) : sqs y = ⊤ := by
  have h1 : y k * y k = ⊤ := by rcases h with h | h <;> rw [h] <;> rfl
  have h2 : ∑ j, y j * y j = ⊤ := by
    refine top_unique (h1.symm.le.trans (Finset.single_le_sum (f := fun j => y j * y j) (fun j _ => ?_) (Finset.mem_univ k)))
    show 0 ≤ y j * y j
    rcases le_total 0 (y j) with hj | hj
    · exact EReal.mul_nonneg hj hj
    · rw [← neg_mul_neg]; exact EReal.mul_nonneg (EReal.neg_nonneg.mpr hj) (EReal.neg_nonneg.mpr hj)
  unfold sqs width
  rw [h2, Ideal.div_coe (by norm_num), EReal.top_mul_coe_of_pos (by norm_num)]

/-- The kernel's form of the norm's gradient is the chain rule's, at every row and every gradient. -/
theorem back_eq (y e : Fin 1024 → EReal) (k : Fin 1024) : e k * rr y + y k * chain y e + chain y e * y k = back y e k := by
  by_cases h : ∀ j, y j ≠ ⊤ ∧ y j ≠ ⊥
  · obtain ⟨z, rfl⟩ : ∃ z : Fin 1024 → ℝ, y = fun j => (z j : EReal) :=
      ⟨fun j => (y j).toReal, funext fun j => (EReal.coe_toReal (h j).1 (h j).2).symm⟩
    have hp := Ffn.ms_eps_pos z
    have hs : ∑ j, e j * ((z j : EReal) * ((Ffn.rs z : ℝ) : EReal)) = ((Ffn.rs z : ℝ) : EReal) * ∑ j, (z j : EReal) * e j := by
      rw [mul_sum_real _ (rs_nonneg z)]
      exact Finset.sum_congr rfl fun j _ => by ac_rfl
    have h2 : Ffn.rs z / (Ffn.ms z + Ffn.eps) = Ffn.rs z * (Ffn.rs z * Ffn.rs z) := by rw [Ffn.rs_sq]; ring
    unfold chain back
    rw [sqs_real, rr_real]
    unfold epsilon width
    rw [hs, ← EReal.coe_add, Ffn.div_real _ hp.ne', h2, ← EReal.coe_mul, Ideal.div_coe (by norm_num), Ideal.div_coe (by norm_num)]
    generalize ∑ j, (z j : EReal) * e j = S
    have hr := rs_nonneg z
    generalize Ffn.rs z = r at hr ⊢
    have h3 : (z k : EReal) * (S * ((-(1 / 2) * (r * (r * r)) : ℝ) : EReal) * ((1 / 1024 : ℝ) : EReal))
        = ((-(1 / 2) * (z k * (r * (r * r)) * (1 / 1024)) : ℝ) : EReal) * S := by
      simp only [EReal.coe_mul]
      ac_rfl
    have h4 : (r : EReal) * ((z k : EReal) * (r : EReal) * ((r : EReal) * S * ((1 / 1024 : ℝ) : EReal)))
        = ((z k * (r * (r * r)) * (1 / 1024) : ℝ) : EReal) * S := by
      simp only [EReal.coe_mul]
      ac_rfl
    rw [EReal.mul_sub_of_nonneg_of_ne_top (EReal.coe_nonneg.mpr hr) (EReal.coe_ne_top r), mul_comm (S * _ * _) (z k : EReal), h3, h4, add_assoc, twice,
      mul_comm (e k), sub_eq_add_neg]
  · push Not at h
    obtain ⟨j, hj⟩ := h
    have hm : sqs y = ⊤ := sqs_top y j (by by_cases ht : y j = ⊤ <;> simp_all)
    have hr : rr y = 0 := by unfold rr epsilon; rw [hm, EReal.top_add_coe]; rfl
    have hc : chain y e = 0 := by
      unfold chain width
      rw [hr, hm, Ideal.div_coe (by norm_num)]
      unfold epsilon
      rw [EReal.top_add_coe, Ideal.div, if_neg (by decide), zero_mul, mul_zero, mul_zero, zero_mul]
    unfold back
    rw [hr, hc]
    simp

end Inproj

end
-- ==== Proof.InprojWords.lean ====
/- The counts of the trailing means as the two programs compute them: 32-bit token numbers, their comparisons, and the numbers they convert to. -/
module

public import proofs.«01_k».proof.Proof.Spec4

@[expose] public section

noncomputable section

namespace Inproj

open Idealize.ShloMosaic

/-- A small number's word, read signed. -/
theorem toInt_word (n : ℕ) (h : n < 2 ^ 31) : (BitVec.ofNat 32 n).toInt = (n : ℤ) := by
  have hn : (BitVec.ofNat 32 n).toNat = n := by rw [BitVec.toNat_ofNat]; omega
  rw [BitVec.toInt_eq_toNat_of_lt (by rw [hn]; omega), hn]

theorem size_le (g : Fin 4) : size g ≤ 16 := by revert g; decide

/-- The number of a row's token. -/
theorem token (i : ℕ) (r : ℕ) :
    IntOp.addi (Scalar.muli (BitVec.ofNat 32 i) 1024#32) (BitVec.ofNat 32 r) = BitVec.ofNat 32 (1024 * i + r) := by
  show BitVec.ofNat 32 i * BitVec.ofNat 32 1024 + BitVec.ofNat 32 r = _
  rw [← BitVec.ofNat_mul, ← BitVec.ofNat_add, Nat.mul_comm]

/-- The count as the kernel computes it: the smaller of the token's number plus one and the mean's size. -/
theorem count_min (g : Fin 4) (s : BitVec 32) (hs : s = BitVec.ofNat 32 (size g)) (n : ℕ) (h : n < 10000) :
    FloatOps.sitofp (F := Ideal) .f32 (IntOp.minsi (IntOp.addi (BitVec.ofNat 32 n) 1#32) s) = count g n := by
  subst hs
  have hg := size_le g
  have e : IntOp.addi (BitVec.ofNat 32 n) 1#32 = BitVec.ofNat 32 (n + 1) := (BitVec.ofNat_add n 1).symm
  rw [e]
  show (((IntOp.minsi (BitVec.ofNat 32 (n + 1)) (BitVec.ofNat 32 (size g))).toInt : ℝ) : EReal) = _
  have e2 : (IntOp.minsi (BitVec.ofNat 32 (n + 1)) (BitVec.ofNat 32 (size g))).toInt = ((min (n + 1) (size g) : ℕ) : ℤ) := by
    unfold IntOp.minsi
    rw [BitVec.slt, toInt_word _ (by omega), toInt_word _ (by omega)]
    by_cases hc : n + 1 < size g
    · rw [if_pos (decide_eq_true (by omega)), toInt_word _ (by omega)]; omega
    · rw [if_neg (by simp only [decide_eq_true_eq]; omega), toInt_word _ (by omega)]; omega
  rw [e2]
  unfold count
  norm_cast

/-- The first token of a trailing mean as the reference computes it. -/
theorem start_word (g : Fin 4) (t : ℕ) (h : t < 10000) :
    IntOp.maxsi (IntOp.subi (IntOp.addi (BitVec.ofNat 32 t) 1#32) (IntOp.shli .host 2#32 (BitVec.ofNat 32 g.val))) 0#32
      = BitVec.ofNat 32 (t + 1 - size g) := by
  have hg := size_le g
  have e : IntOp.addi (BitVec.ofNat 32 t) 1#32 = BitVec.ofNat 32 (t + 1) := (BitVec.ofNat_add t 1).symm
  have es : IntOp.shli .host 2#32 (BitVec.ofNat 32 g.val) = BitVec.ofNat 32 (size g) := by revert g; decide
  rw [e, es]
  have hd : (IntOp.subi (BitVec.ofNat 32 (t + 1)) (BitVec.ofNat 32 (size g))).toInt = (t : ℤ) + 1 - size g := by
    show (BitVec.ofNat 32 (t + 1) - BitVec.ofNat 32 (size g)).toInt = _
    rw [BitVec.toInt_sub, toInt_word _ (by omega), toInt_word _ (by omega), Int.bmod]
    omega
  apply BitVec.eq_of_toInt_eq
  rw [toInt_word _ (by omega)]
  unfold IntOp.maxsi
  rw [BitVec.slt, hd]
  by_cases hc : (size g : ℤ) < t + 1
  · rw [if_pos (by simpa using hc), hd]; omega
  · rw [if_neg (by simpa using hc)]; show (0 : ℤ) = _; omega

/-- Whether a token is in a trailing mean, as the number 1 or 0. -/
theorem inside_word (g : Fin 4) (t s : ℕ) (ht : t < 10000) (hs : s < 10000) :
    FloatOps.uitofp (F := Ideal) .f32 (IntOp.andi (IntOp.cmpi .sle (BitVec.ofNat 32 (t + 1 - size g)) (BitVec.ofNat 32 s))
        (IntOp.cmpi .sle (BitVec.ofNat 32 s) (BitVec.ofNat 32 t)))
      = (if s ≤ t ∧ t < s + size g then 1 else 0 : EReal) := by
  have h0 := size_pos g
  show (((IntOp.andi _ _).toNat : ℝ) : EReal) = _
  unfold IntOp.cmpi IntOp.andi
  dsimp only
  rw [BitVec.sle, BitVec.sle, toInt_word _ (by omega), toInt_word _ (by omega), toInt_word _ (by omega)]
  by_cases h1 : s ≤ t
  · by_cases h2 : t < s + size g
    · rw [if_pos ⟨h1, h2⟩, decide_eq_true (by omega), decide_eq_true (by omega)]
      simp
    · rw [if_neg (fun h => h2 h.2), decide_eq_false (by omega), decide_eq_true (by omega)]
      simp
  · rw [if_neg (fun h => h1 h.1), decide_eq_false (p := (s : ℤ) ≤ t) (by omega)]
    simp

/-- The count as the reference computes it: from the first token of the mean to the token. -/
theorem count_sub (g : Fin 4) (t : ℕ) (h : t < 10000) :
    FloatOps.sitofp (F := Ideal) .f32 (IntOp.subi (IntOp.addi (BitVec.ofNat 32 t) 1#32) (BitVec.ofNat 32 (t + 1 - size g))) = count g t := by
  have hg := size_le g
  have h0 := size_pos g
  have e : IntOp.addi (BitVec.ofNat 32 t) 1#32 = BitVec.ofNat 32 (t + 1) := (BitVec.ofNat_add t 1).symm
  rw [e]
  show (((BitVec.ofNat 32 (t + 1) - BitVec.ofNat 32 (t + 1 - size g)).toInt : ℝ) : EReal) = _
  have hd : (BitVec.ofNat 32 (t + 1) - BitVec.ofNat 32 (t + 1 - size g)).toInt = ((min (t + 1) (size g) : ℕ) : ℤ) := by
    rw [BitVec.toInt_sub, toInt_word _ (by omega), toInt_word _ (by omega), Int.bmod]
    omega
  rw [hd]
  unfold count
  norm_cast

end Inproj

end
-- ==== Proof.InprojRef.lean ====
/- The backward pass of the input projection, of the pooling branch's trailing means and of the norm before them: the reference's terms. -/
module

public import proofs.«01_k».proof.Proof.InprojWords
public import proofs.«01_k».proof.Proof.Gen.Reference4Ideal.Read

@[expose] public section

set_option maxRecDepth 16384

noncomputable section

namespace Cert.Reference4Ideal.Ref

open Cert.Reference4Ideal Cert.Reference4Ideal.Gen Cert.Reference4Ideal.Read Idealize.ShloMosaic
open Inproj

variable (x0 : S8192x512.Idx → EReal) (x1 x2 : S8192x128.Idx → EReal) (x3 : S8192x512.Idx → EReal) (x4 x5 : S8192x1024.Idx → EReal)
  (x6 : S1280x1024.Idx → EReal) (x7 : S1x1024.Idx → EReal)

theorem zero_bits : FloatOps.ofBits (F := Ideal) .f32 0x00000000#32 = (0 : EReal) := Ideal.ofBits_zero_f32

/-! ## The trailing means -/

/-- The first token of a token's mean. -/
theorem start_at (i : S4x8192x1.Idx) : val_main_v14 (F := Ideal) i = BitVec.ofNat 32 ((i 1).val + 1 - size (i 0)) := by
  rw [val_main_v14_apply, val_main_v12_apply, val_main_v10_apply, val_main_v9_apply, val_main_v5_apply, val_main_v4_apply, val_main_v8_apply,
    val_main_c_0_apply, val_main_v11_apply, val_main_v3_apply, val_main_v2_apply, val_main_c_apply, val_main_v1_apply, val_main_v0_apply,
    val_main_v13_apply, val_main_c_1_apply]
  have h1 : (i 1).val < 8192 := (i 1).isLt
  exact start_word (i 0) (i 1).val (by omega)

/-- The matrix of the means: a row averages the trailing tokens. -/
theorem mat_at (i : S4x8192x8192.Idx) : val_main_v30 (F := Ideal) i
    = Ideal.div (if (i 2).val ≤ (i 1).val ∧ (i 1).val < (i 2).val + size (i 0) then 1 else 0) (Inproj.count (i 0) (i 1).val) := by
  have h1 : (i 1).val < 8192 := (i 1).isLt
  have h2 : (i 2).val < 8192 := (i 2).isLt
  rw [val_main_v30_apply, val_main_v23_apply, val_main_v22_apply, val_main_v17_apply, val_main_v15_apply, val_main_v16_apply, val_main_v7_apply,
    val_main_v6_apply, val_main_v21_apply, val_main_v20_apply, val_main_v18_apply, val_main_v7_apply, val_main_v6_apply, val_main_v19_apply,
    val_main_v5_apply, val_main_v4_apply, val_main_v29_apply, val_main_v28_apply, val_main_v27_apply, val_main_v26_apply, val_main_v25_apply,
    val_main_v5_apply, val_main_v4_apply, val_main_v24_apply, val_main_c_2_apply, start_at, Ideal.hostDivf_def]
  exact congrArg₂ Ideal.div (inside_word (i 0) (i 1).val (i 2).val (by omega) (by omega)) (count_sub (i 0) (i 1).val (by omega))

/-- The gradient of the tokens that the means read. -/
theorem du_at (i : S8192x512.Idx) : val_main_v37 (F := Ideal) x3 i = du x3 (i 0) (grp (i 1)) (plc (i 1)) := by
  rw [val_main_v37_apply, val_main_v36_apply, val_main_v32_apply, val_main_v31_apply, val_main_v35_apply, val_main_v34_apply, Ideal.hostNegf_def]
  have h0 : (i 0).val < 8192 := (i 0).isLt
  have h1 : (i 1).val < 512 := (i 1).isLt
  have e0 : ((i 0).val * 512 + (i 1).val) / 512 = (i 0).val := by omega
  have e1 : (⟨((i 0).val * 512 + (i 1).val) / 128 % 4, by omega⟩ : Fin 4) = grp (i 1) := Fin.ext (by show _ = (i 1).val / 128; dsimp only; omega)
  have e1' : ((i 0).val * 512 + (i 1).val) / 128 % 4 = (i 1).val / 128 := by omega
  have e2 : ((i 0).val * 512 + (i 1).val) % 128 = (i 1).val % 128 := by omega
  unfold du
  refine congrArg₂ (· + ·) (congrArg Neg.neg (congrArg x3 ?_)) ((Finset.sum_congr rfl fun k _ => ?_).trans (window_sum x3 (i 0) (grp (i 1)) (plc (i 1))))
  · funext a; apply Fin.ext; fin_cases a
    · show ((((i 0).val * 512 + (i 1).val) / 512 * 4 + ((i 0).val * 512 + (i 1).val) / 128 % 4) * 128 + ((i 0).val * 512 + (i 1).val) % 128) / 512 = (i 0).val
      omega
    · show ((((i 0).val * 512 + (i 1).val) / 512 * 4 + ((i 0).val * 512 + (i 1).val) / 128 % 4) * 128 + ((i 0).val * 512 + (i 1).val) % 128) % 512
        = 128 * ((i 1).val / 128) + (i 1).val % 128
      omega
  · rw [val_main_v33_apply, val_main_v31_apply, mat_at]
    have hk := k.isLt
    refine congrArg₂ (· * ·) (congrArg x3 ?_) ?_
    · funext a; apply Fin.ext; fin_cases a
      · show ((k.val * 4 + ((i 0).val * 512 + (i 1).val) / 128 % 4) * 128 + ((i 0).val * 512 + (i 1).val) % 128) / 512 = k.val
        omega
      · show ((k.val * 4 + ((i 0).val * 512 + (i 1).val) / 128 % 4) * 128 + ((i 0).val * 512 + (i 1).val) % 128) % 512
          = 128 * ((i 1).val / 128) + (i 1).val % 128
        omega
    · show Ideal.div (if ((i 0).val * 512 + (i 1).val) / 512 ≤ k.val
          ∧ k.val < ((i 0).val * 512 + (i 1).val) / 512 + size ⟨((i 0).val * 512 + (i 1).val) / 128 % 4, by omega⟩ then 1 else 0)
        (Inproj.count ⟨((i 0).val * 512 + (i 1).val) / 128 % 4, by omega⟩ k.val) = _
      rw [e0, e1]

/-! ## The projection -/

/-- What the gradient of the projection's result joins. -/
def parts : List ((s : Shape) × (s.Idx → EReal)) :=
  [⟨S8192x512, val_main_v38 (F := Ideal) x0⟩, ⟨S8192x128, val_main_v39 (F := Ideal) x1⟩, ⟨S8192x128, val_main_v40 (F := Ideal) x2⟩,
    ⟨S8192x512, val_main_v37 (F := Ideal) x3⟩]

theorem dz_parts : val_main_v41 (F := Ideal) x0 x1 x2 x3
    = concatenate S8192x1280 1 (parts x0 x1 x2 x3) concatenates_S8192x512_S8192x128_S8192x128_S8192x512_S8192x1280_d1 := rfl

/-- A joined array's channel is that of the part that holds it. -/
theorem joined (xs : List ((s : Shape) × (s.Idx → EReal))) (h : Shape.Concatenates (xs.map (·.1)) S8192x1280 1) (t : Fin 8192) (k : Fin 1280) (i W : ℕ)
    (hi : i < xs.length) (x : Shape.Idx ⟨2, ![8192, W]⟩ → EReal) (hx : xs[i] = ⟨⟨2, ![8192, W]⟩, x⟩) (pre : ℕ)
    (hp : (((xs.take i).map (·.1)).map fun s => if h : s.rank = 2 then s.size ((1 : Fin 2).cast h.symm) else 0).sum = pre) (q : Fin W) (hq : pre + q.val = k.val) :
    concatenate S8192x1280 1 xs h (ix2 t k) = x (ix2 t q) :=
  concatenate_apply_piece (t := S8192x1280) 1 xs h (ix2 t k) i hi ⟨2, ![8192, W]⟩ x hx rfl pre hp (ix2 t q)
    (fun b hb => by fin_cases b <;> first | exact absurd rfl hb | rfl) hq

/-- The gradient of the projection's result. -/
theorem dz_at (t : Fin 8192) (k : Fin 1280) : val_main_v41 (F := Ideal) x0 x1 x2 x3 (ix2 t k) = dz x0 x1 x2 x3 t k := by
  rw [dz_parts]
  unfold dz
  by_cases h0 : k.val < 512
  · rw [dif_pos h0]
    exact joined (parts x0 x1 x2 x3) _ t k 0 512 (by decide : 0 < 4) _ rfl 0 rfl ⟨k.val, h0⟩ (Nat.zero_add _)
  · rw [dif_neg h0]
    by_cases h1 : k.val < 640
    · rw [dif_pos h1]
      exact joined (parts x0 x1 x2 x3) _ t k 1 128 (by decide : 1 < 4) _ rfl 512 rfl ⟨k.val - 512, by omega⟩ (by show 512 + (k.val - 512) = _; omega)
    · rw [dif_neg h1]
      by_cases h2 : k.val < 768
      · rw [dif_pos h2]
        exact joined (parts x0 x1 x2 x3) _ t k 2 128 (by decide : 2 < 4) _ rfl 640 rfl ⟨k.val - 640, by omega⟩ (by show 640 + (k.val - 640) = _; omega)
      · rw [dif_neg h2]
        exact (joined (parts x0 x1 x2 x3) _ t k 3 512 (by decide : 3 < 4) _ rfl 768 rfl ⟨k.val - 768, by omega⟩ (by show 768 + (k.val - 768) = _; omega)).trans
          (du_at x3 (ix2 t ⟨k.val - 768, by omega⟩))

/-- An index of a matrix is its row and its column. -/
theorem dz_at' (i : S8192x1280.Idx) : val_main_v41 (F := Ideal) x0 x1 x2 x3 i = dz x0 x1 x2 x3 (i 0) (i 1) :=
  (congrArg (val_main_v41 (F := Ideal) x0 x1 x2 x3) (by funext a; fin_cases a <;> rfl)).trans (dz_at x0 x1 x2 x3 (i 0) (i 1))

/-- The gradient of the normalised tokens. -/
theorem dh_at (i : S8192x1024.Idx) : val_main_v67 (F := Ideal) x0 x1 x2 x3 x6 i = dh x0 x1 x2 x3 x6 (i 0) (i 1) := by
  rw [val_main_v67_apply]
  unfold dh
  refine Finset.sum_congr rfl fun k _ => ?_
  rw [dz_at', val_main_v59_apply, val_main_v42_apply]
  refine congrArg₂ (· * ·) rfl (congrArg x6 ?_)
  funext a; fin_cases a <;> rfl

/-! ## The norm -/

/-- The mean of the squares of a token, with the epsilon. -/
theorem mean_at (i : S8192x1.Idx) : val_main_v50 (F := Ideal) x4 i = sqs (row x4 (i 0)) + epsilon := by
  rw [val_main_v50_apply, val_main_v48_apply, val_main_v46_apply, val_main_v45_apply, val_main_v47_apply, val_main_cst_4_apply, val_main_v49_apply,
    val_main_cst_5_apply, val_main_cst_3_apply, zero_bits, zero_add, Ideal.hostDivf_def, Ideal.ofBits_def, Ideal.ofBits_def, Ffn.word_width, Ffn.word_eps]
  unfold sqs
  refine congrArg₂ (· + ·) (congrArg (fun s => Ideal.div s width) (Finset.sum_congr rfl fun k _ => ?_)) rfl
  have e : idx_main_v45 (idx_main_v46 i) k = ix2 (i 0) k := by funext a; fin_cases a <;> rfl
  rw [val_main_v44_apply, e]
  rfl

theorem rr_at (i : S8192x1.Idx) : val_main_v51 (F := Ideal) x4 i = rr (row x4 (i 0)) := by
  rw [val_main_v51_apply, mean_at]
  rfl

/-- A normalised token before the norm's weights. -/
theorem xh_at (i : S8192x1024.Idx) : val_main_v56 (F := Ideal) x4 i = xh x4 (i 0) (i 1) := by
  rw [val_main_v56_apply, val_main_v55_apply, rr_at]
  unfold xh
  refine congrArg₂ (· * ·) (congrArg x4 ?_) rfl
  funext a; fin_cases a <;> rfl

/-- The gradient of the token that the norm divides. -/
theorem de_at (i : S8192x1024.Idx) : val_main_v73 (F := Ideal) x0 x1 x2 x3 x6 x7 i = dh x0 x1 x2 x3 x6 (i 0) (i 1) * x7 (ix2 0 (i 1)) := by
  rw [val_main_v73_apply, dh_at, val_main_v72_apply]
  refine congrArg₂ (· * ·) rfl (congrArg x7 ?_)
  funext a; fin_cases a <;> rfl

/-- What the mean square's derivative multiplies. -/
theorem chain_at (i : S8192x1.Idx) : val_main_v81 (F := Ideal) x0 x1 x2 x3 x4 x6 x7 i
    = chain (row x4 (i 0)) (fun k => dh x0 x1 x2 x3 x6 (i 0) k * x7 (ix2 0 k)) := by
  rw [val_main_v81_apply, val_main_v79_apply, val_main_v76_apply, val_main_v75_apply, val_main_v54_apply, val_main_v53_apply, val_main_cst_6_apply,
    val_main_v52_apply, rr_at, mean_at, val_main_v80_apply, val_main_cst_10_apply, val_main_cst_9_apply, zero_bits, zero_add, Ideal.hostDivf_def,
    Ideal.hostDivf_def, Ideal.ofBits_def, Ideal.ofBits_def, Ffn.word_width, Ffn.word_neg_half]
  unfold chain
  refine congrArg (fun s => Ideal.div s width) (congrArg₂ (· * ·) (Finset.sum_congr rfl fun k _ => ?_) rfl)
  have e : idx_main_v75 (idx_main_v76 i) k = ix2 (i 0) k := by
    have h1 : (i 1).val < 1 := (i 1).isLt
    funext a; apply Fin.ext; fin_cases a
    · show (i 0).val * 1 + (i 1).val = (i 0).val; omega
    · rfl
  rw [val_main_v74_apply, de_at, e]
  rfl

theorem chain_at' (i : S8192x1024.Idx) : val_main_v83 (F := Ideal) x0 x1 x2 x3 x4 x6 x7 i
    = chain (row x4 (i 0)) (fun k => dh x0 x1 x2 x3 x6 (i 0) k * x7 (ix2 0 k)) := by
  rw [val_main_v83_apply, val_main_v82_apply, val_main_cst_11_apply, zero_bits, zero_add, Fin.sum_univ_one, chain_at]
  rfl

/-! ## The results -/

/-- The reference's gradient of the tokens. -/
theorem d_x : val_main_v88 (F := Ideal) x0 x1 x2 x3 x4 x5 x6 x7 = dX x0 x1 x2 x3 x4 x5 x6 x7 := by
  funext i
  rw [val_main_v88_apply, val_main_v87_apply, val_main_v85_apply, val_main_v86_apply, val_main_v84_apply, val_main_v78_apply, val_main_v77_apply,
    rr_at, chain_at', de_at]
  unfold dX
  refine congrArg₂ (· + ·) rfl (Eq.trans ?_ (back_eq (row x4 (i 0)) (fun k => dh x0 x1 x2 x3 x6 (i 0) k * x7 (ix2 0 k)) (i 1)))
  have e : x4 i = row x4 (i 0) (i 1) := congrArg x4 (by funext a; fin_cases a <;> rfl)
  rw [e]
  rfl

/-- The reference's gradient of the projection's weights. -/
theorem g_w : val_main_v68 (F := Ideal) x0 x1 x2 x3 x4 x7 = gW x0 x1 x2 x3 x4 x7 := by
  funext i
  rw [val_main_v68_apply, val_main_v66_apply, val_main_v65_apply]
  unfold gW
  refine Finset.sum_congr rfl fun k _ => ?_
  rw [dz_at', val_main_v58_apply, xh_at, val_main_v57_apply]
  refine congrArg₂ (· * ·) rfl (congrArg₂ (· * ·) rfl (congrArg x7 ?_))
  funext a; fin_cases a <;> rfl

/-- The reference's gradient of the projection's bias. -/
theorem g_b : val_main_v64 (F := Ideal) x0 x1 x2 x3 = gB x0 x1 x2 x3 := by
  funext i
  rw [val_main_v64_apply, val_main_v63_apply, val_main_cst_7_apply, zero_bits, zero_add]
  unfold gB
  refine Finset.sum_congr rfl fun k _ => ?_
  rw [dz_at']
  have h0 : (i 0).val < 1 := (i 0).isLt
  exact congrArg (dz x0 x1 x2 x3 k) (Fin.ext (by show (i 0).val * 1280 + (i 1).val = (i 1).val; omega))

/-- The reference's gradient of the norm's weights. -/
theorem g_g : val_main_v71 (F := Ideal) x0 x1 x2 x3 x4 x6 = gG x0 x1 x2 x3 x4 x6 := by
  funext i
  rw [val_main_v71_apply, val_main_v70_apply, val_main_cst_8_apply, zero_bits, zero_add]
  unfold gG
  refine Finset.sum_congr rfl fun k _ => ?_
  rw [val_main_v69_apply, xh_at, dh_at]
  have h0 : (i 0).val < 1 := (i 0).isLt
  have e : (⟨(i 0).val * 1024 + (i 1).val, by have h1 : (i 1).val < 1024 := (i 1).isLt; omega⟩ : Fin 1024) = i 1 :=
    Fin.ext (by show (i 0).val * 1024 + (i 1).val = (i 1).val; omega)
  exact (congrArg (fun l => xh x4 k l * dh x0 x1 x2 x3 x6 k l) e).trans (mul_comm _ _)

end Cert.Reference4Ideal.Ref

end
-- ==== Proof.InprojPool.lean ====
/- The pooling branch at one point of the tiled input-projection kernel: what its scratch holds, and the gradient of the tokens computed from it. -/
module

public import proofs.«01_k».proof.Proof.Gen.Kernel4Ideal.Frame
public import proofs.«01_k».proof.Proof.InprojWords
public import Idealize.ShloMosaic.Lib.Pipeline.ValueKit
public import Idealize.ShloMosaic.Lib.Pipeline.ReadBack

@[expose] public section

set_option maxRecDepth 16384

noncomputable section

namespace Cert.Kernel4Ideal.Body

open Cert.Kernel4Ideal Cert.Kernel4Ideal.Gen Idealize.ShloMosaic Idealize.ShloMosaic.TcCoe
open Inproj

/-- A unit rectangle's element lies at its offset plus the index. -/
theorem emb_unit {S : Shape} (off size : Fin S.rank → ℕ) (inb) (x : (Rect.unit off size inb).shape.Idx) (a : Fin S.rank) :
    ((Rect.unit off size inb).emb x a).val = off a + (x a).val := congrArg (off a + ·) (Nat.one_mul _)

/-- A load of part of an array reads the array there. -/
theorem ld_part {R R' : ℕ} {e : EltTy} (X : Vec Ideal ⟨2, ![R, 512]⟩ e) (n o : ℕ) (inb : ∀ a, (![n, o] : Fin 2 → ℕ) a + (![R', 128] : Fin 2 → ℕ) a ≤ (⟨2, ![R, 512]⟩ : Shape).size a)
    (r : Fin R') (l : Fin 128) (hn : n + r.val < R) (ho : o + l.val < 512) :
    (View.ld X (Rect.unit (s := ⟨2, ![R, 512]⟩) ![n, o] ![R', 128] inb) : Shape.Idx ⟨2, ![R', 128]⟩ → Elt Ideal e) (ix2 r l)
      = X (ix2 ⟨n + r.val, hn⟩ ⟨o + l.val, ho⟩) := by
  rw [View.ld_unit]
  refine congrArg X (funext fun a => ?_)
  fin_cases a <;> rfl

variable (m : (ℓ : Loc nD τ sig) → Buf (Elt Ideal) ℓ) (c : Dev nD)

theorem lt8 (t : Fin cfg0.N) : t.val < 8 := by have := t.isLt; have : cfg0.N = 8 := N_0; omega

/-- The token of a row of a point's blocks. -/
def tok (t : Fin cfg0.N) (r : Fin 1024) : Fin 8192 := ⟨1024 * t.val + r.val, by have := lt8 t; omega⟩

/-- Where the blocks of the mixed tokens' gradient lie. -/
theorem idx3 : ∀ t : Fin cfg0.N, win0_3.index t 0 = t.val ∧ win0_3.index t 1 = 0 :=
  (by decide +kernel : ∀ t : Fin grid0.N, win0_3.index t 0 = t.val ∧ win0_3.index t 1 = 0)
@[inherit_doc idx3] theorem idx4 : ∀ t : Fin cfg0.N, (t.val < 7 → win0_4.index t 0 = 64 * t.val + 64) ∧ win0_4.index t 1 = 0 :=
  (by decide +kernel : ∀ t : Fin grid0.N, (t.val < 7 → win0_4.index t 0 = 64 * t.val + 64) ∧ win0_4.index t 1 = 0)

/-- The rows of a point's block, and the sixteen after it. -/
theorem blk3 (t : Fin cfg0.N) (r : Fin 1024) (l : Fin 512) :
    (iblk m c 3 t : S1024x512.Idx → EReal) (ix2 r l) = (V m c main_arg3 : S8192x512.Idx → EReal) (ix2 (tok t r) l) := by
  blk_simp [iblk]
  refine congrArg (V m c main_arg3) ?_
  funext a
  apply Fin.ext
  have h := idx3 t
  fin_cases a
  · blk_simp []
    show win0_3.index t 0 * 1024 + r.val = 1024 * t.val + r.val
    omega
  · blk_simp []
    show win0_3.index t 1 * 512 + l.val = l.val
    omega

@[inherit_doc blk3] theorem blk4 (t : Fin cfg0.N) (h7 : t.val < 7) (r : Fin 16) (l : Fin 512) :
    (iblk m c 4 t : S16x512.Idx → EReal) (ix2 r l)
      = (V m c main_arg3 : S8192x512.Idx → EReal) (ix2 ⟨1024 * t.val + 1024 + r.val, by omega⟩ l) := by
  blk_simp [iblk]
  refine congrArg (V m c main_arg3) ?_
  funext a
  apply Fin.ext
  have h := idx4 t
  have h' := h.1 h7
  fin_cases a
  · blk_simp []
    show win0_4.index t 0 * 16 + r.val = 1024 * t.val + 1024 + r.val
    omega
  · blk_simp []
    show win0_4.index t 1 * 512 + l.val = l.val
    omega

theorem coord : ∀ t : Fin cfg0.N, ((grid0.coords t) 0).val = t.val :=
  (by decide +kernel : ∀ t : Fin grid0.N, ((grid0.coords t) 0).val = t.val)

theorem halo_last (i : grid0.Coords) (h : (i 0).val = 7) (x : S16x512.Idx → EReal) (r : Fin 16) (l : Fin 512) :
    (k0_pay5 (F := Ideal) i x : S16x512.Idx → EReal) (ix2 r l) = 0 := by
  unfold k0_pay5
  rw [h]
  pointwise []

theorem halo_before (i : grid0.Coords) (h : (i 0).val ≠ 7) (x : S16x512.Idx → EReal) (r : Fin 16) (l : Fin 512) :
    (k0_pay5 (F := Ideal) i x : S16x512.Idx → EReal) (ix2 r l) = x (ix2 r l) := by
  have hn : (i 0).val < 8 := (i 0).isLt
  have e : Scalar.cmpi .eq (BitVec.ofNat 32 (i 0).val) 7#32 = 0#1 := by
    generalize (i 0).val = n at h hn
    interval_cases n <;> first | exact absurd rfl h | rfl
  unfold k0_pay5
  pointwise [e]

/-- A group's channels of a point's block. -/
def part (t : Fin cfg0.N) (o : ℕ) (inb : ∀ a, (![0, o] : Fin 2 → ℕ) a + (![1024, 128] : Fin 2 → ℕ) a ≤ S1024x512.size a) : Vec Ideal S1024x128 .f32 :=
  View.ld (iblk m c 3 t) (Rect.unit (s := S1024x512) ![0, o] ![1024, 128] inb)

theorem part_at (g : Fin 4) (t : Fin cfg0.N) (o : ℕ) (inb) (r : Fin 1024) (d : Fin 128) (ho : o = 128 * g.val) :
    (part m c t o inb : S1024x128.Idx → EReal) (ix2 r d) = V m c main_arg3 (ix2 (tok t r) (ch g d)) := by
  subst ho
  refine (ld_part (R := 1024) (R' := 1024) (iblk m c 3 t) 0 _ inb r d (by omega) (by omega)).trans ?_
  refine (congrArg _ (congrArg₂ ix2 (Fin.ext (Nat.zero_add _)) rfl)).trans (blk3 m c t r (ch g d))

/-- What is stored of each group: the block's rows divided by their counts, and the rows after it by the mean's size. -/
def main0 (t : Fin cfg0.N) : FVec Ideal S1024x128 .f32 := k0_pay6 (grid0.coords t) (part m c t 0 inb_S1024x512_S1024x128_0_0)
@[inherit_doc main0] def main1 (t : Fin cfg0.N) : FVec Ideal S1024x128 .f32 := k0_pay9 (k0_pay4 (grid0.coords t)) (part m c t 128 inb_S1024x512_S1024x128_0_128)
@[inherit_doc main0] def main2 (t : Fin cfg0.N) : FVec Ideal S1024x128 .f32 := k0_pay13 (k0_pay12 (k0_pay4 (grid0.coords t)) (part m c t 256 inb_S1024x512_S1024x128_0_256))
@[inherit_doc main0] def main3 (t : Fin cfg0.N) : FVec Ideal S1024x128 .f32 := k0_pay17 (part m c t 384 inb_S1024x512_S1024x128_0_384) (k0_pay16 (k0_pay4 (grid0.coords t)))
@[inherit_doc main0] def mains (t : Fin cfg0.N) : Fin 4 → FVec Ideal S1024x128 .f32 := ![main0 m c t, main1 m c t, main2 m c t, main3 m c t]
@[inherit_doc main0] def halo0 (t : Fin cfg0.N) : FVec Ideal S16x128 .f32 := k0_pay7 (grid0.coords t) (iblk m c 4 t)
@[inherit_doc main0] def halo1 (t : Fin cfg0.N) : FVec Ideal S16x128 .f32 := k0_pay10 (k0_pay5 (grid0.coords t) (iblk m c 4 t))
@[inherit_doc main0] def halo2 (t : Fin cfg0.N) : FVec Ideal S16x128 .f32 := k0_pay14 (k0_pay5 (grid0.coords t) (iblk m c 4 t))
@[inherit_doc main0] def halo3 (t : Fin cfg0.N) : FVec Ideal S16x128 .f32 := k0_pay18 (k0_pay5 (grid0.coords t) (iblk m c 4 t))
@[inherit_doc main0] def halos (t : Fin cfg0.N) : Fin 4 → FVec Ideal S16x128 .f32 := ![halo0 m c t, halo1 m c t, halo2 m c t, halo3 m c t]

theorem mains_at (t : Fin cfg0.N) (g : Fin 4) (r : Fin 1024) (d : Fin 128) :
    (mains m c t g : S1024x128.Idx → EReal) (ix2 r d) = term (V m c main_arg3) g d (1024 * t.val + r.val) := by
  have ht := lt8 t
  unfold term
  rw [dif_pos (by omega)]
  fin_cases g
  case' «0» => show (k0_pay6 (F := Ideal) _ _ : S1024x128.Idx → EReal) (ix2 r d) = Ideal.div _ (count 0 _)
  case' «1» => show (k0_pay9 (F := Ideal) _ _ : S1024x128.Idx → EReal) (ix2 r d) = Ideal.div _ (count 1 _)
  case' «2» => show (k0_pay13 (F := Ideal) (k0_pay12 (k0_pay4 (grid0.coords t)) (part m c t 256 inb_S1024x512_S1024x128_0_256)) : S1024x128.Idx → EReal) (ix2 r d) = Ideal.div _ (count 2 _)
  case' «3» => show (k0_pay17 (F := Ideal) _ _ : S1024x128.Idx → EReal) (ix2 r d) = Ideal.div _ (count 3 _)
  all_goals
    pointwise [k0_pay4, k0_pay6, k0_pay9, k0_pay12, k0_pay13, k0_pay16, k0_pay17]
    simp (disch := decide) only [part_at m c 0, part_at m c 1, part_at m c 2, part_at m c 3, token, coord]
    first
      | rw [count_min 0 2#32 rfl _ (by omega)]
      | rw [count_min 1 4#32 rfl _ (by omega)]
      | rw [count_min 2 8#32 rfl _ (by omega)]
      | rw [count_min 3 16#32 rfl _ (by omega)]
    rfl

/-- The words of the four sizes. -/
theorem size_bits (g : Fin 4) : Ideal.ofBits .f32 ((![0x40000000#32, 0x40800000#32, 0x41000000#32, 0x41800000#32] : Fin 4 → BitVec 32) g) = (((size g : ℕ) : ℝ) : EReal) := by
  fin_cases g <;> simp [size, Ideal.ofBits, Ideal.ieee, -EReal.coe_mul] <;> norm_num

theorem halos_at (t : Fin cfg0.N) (g : Fin 4) (r : Fin 16) (d : Fin 128) :
    (halos m c t g : S16x128.Idx → EReal) (ix2 r d) = term (V m c main_arg3) g d (1024 * t.val + 1024 + r.val) := by
  have e : (halos m c t g : S16x128.Idx → EReal) (ix2 r d)
      = Ideal.div ((k0_pay5 (F := Ideal) (grid0.coords t) (iblk m c 4 t) : S16x512.Idx → EReal) (ix2 r (ch g d))) (((size g : ℕ) : ℝ) : EReal) := by
    rw [← size_bits]
    fin_cases g
    case' «0» => show (k0_pay7 (F := Ideal) _ _ : S16x128.Idx → EReal) (ix2 r d) = _
    case' «1» => show (k0_pay10 (F := Ideal) _ : S16x128.Idx → EReal) (ix2 r d) = _
    case' «2» => show (k0_pay14 (F := Ideal) _ : S16x128.Idx → EReal) (ix2 r d) = _
    case' «3» => show (k0_pay18 (F := Ideal) _ : S16x128.Idx → EReal) (ix2 r d) = _
    all_goals
      pointwise [k0_pay7, k0_pay10, k0_pay14, k0_pay18]
    case' «0» => exact congrArg (Ideal.div · _) (congrArg _ (congrArg (ix2 r) (Fin.ext (Nat.zero_add _).symm)))
    all_goals rfl
  have hs := size_le g
  have ht := lt8 t
  have h0 : (((size g : ℕ) : ℝ)) ≠ 0 := Nat.cast_ne_zero.mpr (size_pos g).ne'
  rw [e]
  unfold term
  by_cases h7 : t.val = 7
  · rw [dif_neg (by omega), halo_last _ ((coord t).trans h7), Ideal.div_coe h0, zero_mul]
  · rw [dif_pos (by omega), halo_before _ (fun h => h7 ((coord t).symm.trans h)), blk4 m c t (by omega)]
    refine congrArg (Ideal.div _) ?_
    unfold Inproj.count
    rw [Nat.min_eq_right (by omega)]

/-- What the scratch holds of a group, whatever was stored of the groups before. -/
theorem scr_canon (t : Fin cfg0.N) (g : Fin 4) (o : ℕ) (ho : o = 128 * g.val) (rest : List (View.Piece (Elt Ideal) S1040x512 .f32)) (inb1 inb2)
    (n : Fin 1040) (d : Fin 128) :
    View.canon (⟨Rect.unit (s := S1040x512) ![1024, o] ![16, 128] inb1, halos m c t g⟩ :: ⟨Rect.unit (s := S1040x512) ![0, o] ![1024, 128] inb2, mains m c t g⟩ :: rest) (ix2 n (ch g d))
      = term (V m c main_arg3) g d (1024 * t.val + n.val) := by
  subst ho
  refine (View.canon_append_of_piecesOf (fun i : S1040x512.Idx => term (V m c main_arg3) g (plc (i 1)) (1024 * t.val + (i 0).val)) rest
    [⟨Rect.unit (s := S1040x512) ![1024, 128 * g.val] ![16, 128] inb1, halos m c t g⟩, ⟨Rect.unit (s := S1040x512) ![0, 128 * g.val] ![1024, 128] inb2, mains m c t g⟩]
    ⟨fun x => ?_, fun x => ?_, trivial⟩ (ix2 n (ch g d)) ?_).trans ?_
  · have h0 := emb_unit (S := S1040x512) ![1024, 128 * g.val] ![16, 128] inb1 x 0
    have h1 := emb_unit (S := S1040x512) ![1024, 128 * g.val] ![16, 128] inb1 x 1
    have hx : (x 1).val < 128 := (x 1).isLt
    refine (congrArg (halos m c t g) (funext fun a => by fin_cases a <;> rfl)).trans ((halos_at m c t g (x 0) (x 1)).trans (congrArg₂ (term _ g) (Fin.ext ?_) ?_))
    · show (x 1).val = _ % 128
      rw [h1]
      show (x 1).val = (128 * g.val + (x 1).val) % 128
      omega
    · rw [h0]
      exact Nat.add_assoc _ _ _
  · have h0 := emb_unit (S := S1040x512) ![0, 128 * g.val] ![1024, 128] inb2 x 0
    have h1 := emb_unit (S := S1040x512) ![0, 128 * g.val] ![1024, 128] inb2 x 1
    have hx : (x 1).val < 128 := (x 1).isLt
    refine (congrArg (mains m c t g) (funext fun a => by fin_cases a <;> rfl)).trans ((mains_at m c t g (x 0) (x 1)).trans (congrArg₂ (term _ g) (Fin.ext ?_) ?_))
    · show (x 1).val = _ % 128
      rw [h1]
      show (x 1).val = (128 * g.val + (x 1).val) % 128
      omega
    · rw [h0]
      exact congrArg (1024 * t.val + ·) (Nat.zero_add _).symm
  · by_cases hy : n.val < 1024
    · refine ⟨_, List.mem_cons_of_mem _ List.mem_cons_self, ?_⟩
      refine (Rect.mem_set_unit (inb := inb2)).mpr fun a => ?_
      fin_cases a
      · exact ⟨Nat.zero_le _, by show n.val < 0 + 1024; omega⟩
      · exact ⟨Nat.le_add_right _ _, by show 128 * g.val + d.val < 128 * g.val + 128; omega⟩
    · refine ⟨_, List.mem_cons_self, ?_⟩
      refine (Rect.mem_set_unit (inb := inb1)).mpr fun a => ?_
      fin_cases a
      · exact ⟨Nat.le_of_not_lt hy, by show n.val < 1024 + 16; omega⟩
      · exact ⟨Nat.le_add_right _ _, by show 128 * g.val + d.val < 128 * g.val + 128; omega⟩
  · refine congrArg₂ (term _ g) (Fin.ext ?_) rfl
    show (128 * g.val + d.val) % 128 = d.val
    omega

/-- The stores of the scratch, after each group's. -/
def stores0 (t : Fin cfg0.N) : List (View.Piece (Elt Ideal) S1040x512 .f32) :=
  [⟨Rect.unit ![1024, 0] ![16, 128] inb_S1040x512_S16x128_1024_0, halo0 m c t⟩, ⟨Rect.unit ![0, 0] ![1024, 128] inb_S1040x512_S1024x128_0_0, main0 m c t⟩]
@[inherit_doc stores0] def stores1 (t : Fin cfg0.N) : List (View.Piece (Elt Ideal) S1040x512 .f32) :=
  ⟨Rect.unit ![1024, 128] ![16, 128] inb_S1040x512_S16x128_1024_128, halo1 m c t⟩ :: ⟨Rect.unit ![0, 128] ![1024, 128] inb_S1040x512_S1024x128_0_128, main1 m c t⟩ :: stores0 m c t
@[inherit_doc stores0] def stores2 (t : Fin cfg0.N) : List (View.Piece (Elt Ideal) S1040x512 .f32) :=
  ⟨Rect.unit ![1024, 256] ![16, 128] inb_S1040x512_S16x128_1024_256, halo2 m c t⟩ :: ⟨Rect.unit ![0, 256] ![1024, 128] inb_S1040x512_S1024x128_0_256, main2 m c t⟩ :: stores1 m c t
@[inherit_doc stores0] def stores3 (t : Fin cfg0.N) : List (View.Piece (Elt Ideal) S1040x512 .f32) :=
  ⟨Rect.unit ![1024, 384] ![16, 128] inb_S1040x512_S16x128_1024_384, halo3 m c t⟩ :: ⟨Rect.unit ![0, 384] ![1024, 128] inb_S1040x512_S1024x128_0_384, main3 m c t⟩ :: stores2 m c t

/-- A group's channels of the 1024 rows of the scratch from row `n` on. -/
def lane (L : List (View.Piece (Elt Ideal) S1040x512 .f32)) (n o : ℕ) (inb : ∀ a, (![n, o] : Fin 2 → ℕ) a + (![1024, 128] : Fin 2 → ℕ) a ≤ S1040x512.size a) : Vec Ideal S1024x128 .f32 :=
  fun j => View.canon L ((Rect.unit (s := S1040x512) ![n, o] ![1024, 128] inb).idx j)

theorem lane_at (t : Fin cfg0.N) (g : Fin 4) (L : List (View.Piece (Elt Ideal) S1040x512 .f32))
    (hL : ∀ (n : Fin 1040) (d : Fin 128), View.canon L (ix2 n (ch g d)) = term (V m c main_arg3) g d (1024 * t.val + n.val))
    (n o : ℕ) (inb) (r : Fin 1024) (d : Fin 128) (hn : n ≤ 16) (ho : o = 128 * g.val) :
    (lane L n o inb : S1024x128.Idx → EReal) (ix2 r d) = term (V m c main_arg3) g d (1024 * t.val + r.val + n) := by
  subst ho
  have hi : (Rect.unit (s := S1040x512) ![n, 128 * g.val] ![1024, 128] inb).idx (ix2 r d) = ix2 ⟨n + r.val, by omega⟩ (ch g d) := by
    funext a
    apply Fin.ext
    refine (emb_unit (S := S1040x512) ![n, 128 * g.val] ![1024, 128] inb (ix2 r d) a).trans ?_
    fin_cases a <;> rfl
  refine (congrArg (View.canon L) hi).trans ((hL _ d).trans (congrArg (term _ g d) ?_))
  show 1024 * t.val + (n + r.val) = _
  omega

theorem stores_at (t : Fin cfg0.N) (g : Fin 4) (n : Fin 1040) (d : Fin 128) :
    View.canon ((![stores0 m c t, stores1 m c t, stores2 m c t, stores3 m c t] : Fin 4 → _) g) (ix2 n (ch g d)) = term (V m c main_arg3) g d (1024 * t.val + n.val) := by
  fin_cases g
  · exact scr_canon m c t 0 0 rfl [] _ _ n d
  · exact scr_canon m c t 1 128 rfl (stores0 m c t) _ _ n d
  · exact scr_canon m c t 2 256 rfl (stores1 m c t) _ _ n d
  · exact scr_canon m c t 3 384 rfl (stores2 m c t) _ _ n d

end Cert.Kernel4Ideal.Body

end
-- ==== Proof.InprojPoint.lean ====
/- The backward pass of the input projection: each result block at a point, by what the point before left. -/
module

public import proofs.«01_k».proof.Proof.InprojPool

@[expose] public section

set_option maxRecDepth 16384

noncomputable section

namespace Cert.Kernel4Ideal.Body

open Cert.Kernel4Ideal Cert.Kernel4Ideal.Gen Idealize.ShloMosaic Idealize.ShloMosaic.TcCoe
open Inproj

variable (m : (ℓ : Loc nD τ sig) → Buf (Elt Ideal) ℓ) (c : Dev nD) (t : Fin cfg0.N)

/-- The gradient of the tokens of a group at a point; of the last group's sixteen terms, the first ten. -/
def du0 : FVec Ideal S1024x128 .f32 :=
  k0_pay8 (part m c t 0 inb_S1024x512_S1024x128_0_0) (main0 m c t) (lane (stores0 m c t) 1 0 inb_S1040x512_S1024x128_1_0)
@[inherit_doc du0] def du1 : FVec Ideal S1024x128 .f32 :=
  k0_pay11 (part m c t 128 inb_S1024x512_S1024x128_0_128) (main1 m c t) (lane (stores1 m c t) 1 128 inb_S1040x512_S1024x128_1_128)
    (lane (stores1 m c t) 2 128 inb_S1040x512_S1024x128_2_128) (lane (stores1 m c t) 3 128 inb_S1040x512_S1024x128_3_128)
@[inherit_doc du0] def du2 : FVec Ideal S1024x128 .f32 :=
  k0_pay15 (part m c t 256 inb_S1024x512_S1024x128_0_256) (main2 m c t) (lane (stores2 m c t) 1 256 inb_S1040x512_S1024x128_1_256)
    (lane (stores2 m c t) 2 256 inb_S1040x512_S1024x128_2_256) (lane (stores2 m c t) 3 256 inb_S1040x512_S1024x128_3_256)
    (lane (stores2 m c t) 4 256 inb_S1040x512_S1024x128_4_256) (lane (stores2 m c t) 5 256 inb_S1040x512_S1024x128_5_256)
    (lane (stores2 m c t) 6 256 inb_S1040x512_S1024x128_6_256) (lane (stores2 m c t) 7 256 inb_S1040x512_S1024x128_7_256)
@[inherit_doc du0] def du3 : FVec Ideal S1024x128 .f32 :=
  k0_pay19 (part m c t 384 inb_S1024x512_S1024x128_0_384) (main3 m c t) (lane (stores3 m c t) 1 384 inb_S1040x512_S1024x128_1_384)
    (lane (stores3 m c t) 2 384 inb_S1040x512_S1024x128_2_384) (lane (stores3 m c t) 3 384 inb_S1040x512_S1024x128_3_384)
    (lane (stores3 m c t) 4 384 inb_S1040x512_S1024x128_4_384) (lane (stores3 m c t) 5 384 inb_S1040x512_S1024x128_5_384)
    (lane (stores3 m c t) 6 384 inb_S1040x512_S1024x128_6_384) (lane (stores3 m c t) 7 384 inb_S1040x512_S1024x128_7_384)
    (lane (stores3 m c t) 8 384 inb_S1040x512_S1024x128_8_384) (lane (stores3 m c t) 9 384 inb_S1040x512_S1024x128_9_384)

/-- The gradient of the projection's result at a point. -/
def dzF : FVec Ideal S1024x1280 .f32 :=
  k0_pay20 (du0 m c t) (du1 m c t) (du2 m c t) (du3 m c t) (lane (stores3 m c t) 10 384 inb_S1040x512_S1024x128_10_384) (lane (stores3 m c t) 11 384 inb_S1040x512_S1024x128_11_384) (lane (stores3 m c t) 12 384 inb_S1040x512_S1024x128_12_384) (lane (stores3 m c t) 13 384 inb_S1040x512_S1024x128_13_384) (lane (stores3 m c t) 14 384 inb_S1040x512_S1024x128_14_384) (lane (stores3 m c t) 15 384 inb_S1040x512_S1024x128_15_384)
    (iblk m c 0 t) (iblk m c 1 t) (iblk m c 2 t)
@[inherit_doc dzF] def dzB : FVec Ideal S1024x1280 .bf16 :=
  k0_pay21 (du0 m c t) (du1 m c t) (du2 m c t) (du3 m c t) (lane (stores3 m c t) 10 384 inb_S1040x512_S1024x128_10_384) (lane (stores3 m c t) 11 384 inb_S1040x512_S1024x128_11_384) (lane (stores3 m c t) 12 384 inb_S1040x512_S1024x128_12_384) (lane (stores3 m c t) 13 384 inb_S1040x512_S1024x128_13_384) (lane (stores3 m c t) 14 384 inb_S1040x512_S1024x128_14_384) (lane (stores3 m c t) 15 384 inb_S1040x512_S1024x128_15_384)
    (iblk m c 0 t) (iblk m c 1 t) (iblk m c 2 t)

/-- One point's step of the bias's running sum. -/
def biasB (acc : Vec Ideal S1x1280 .f32) : FVec Ideal S1x1280 .f32 :=
  k0_pay22 (du0 m c t) (du1 m c t) (du2 m c t) (du3 m c t) (lane (stores3 m c t) 10 384 inb_S1040x512_S1024x128_10_384) (lane (stores3 m c t) 11 384 inb_S1040x512_S1024x128_11_384) (lane (stores3 m c t) 12 384 inb_S1040x512_S1024x128_12_384) (lane (stores3 m c t) 13 384 inb_S1040x512_S1024x128_13_384) (lane (stores3 m c t) 14 384 inb_S1040x512_S1024x128_14_384) (lane (stores3 m c t) 15 384 inb_S1040x512_S1024x128_15_384)
    (iblk m c 0 t) (iblk m c 1 t) (iblk m c 2 t) acc

/-- What the sweep's first point leaves. -/
theorem outs_A (h0 : t.val % 8 = 0) :
    (outsAt0 m c t.val t.isLt).1 = k0_pay29 (dzB m c t) (iblk m c 5 t) (k0_pay23 (iblk m c 5 t)) (iblk m c 8 t) (iblk m c 7 t) (iblk m c 6 t)
    ∧ (outsAt0 m c t.val t.isLt).2.1 = k0_pay26 (dzB m c t) (iblk m c 5 t) (k0_pay23 (iblk m c 5 t)) (iblk m c 8 t) (k0_pay1 (F := Ideal))
    ∧ (outsAt0 m c t.val t.isLt).2.2.1 = biasB m c t (k0_pay2 (F := Ideal))
    ∧ (outsAt0 m c t.val t.isLt).2.2.2 = k0_pay28 (dzB m c t) (iblk m c 5 t) (k0_pay23 (iblk m c 5 t)) (iblk m c 7 t) (k0_pay3 (F := Ideal)) := by
  refine ⟨?_, ?_, ?_, ?_⟩
  all_goals
    rw [outsAt0_A m c t h0]
    frame_open
    simp (disch := decide) only [↓ View.readCov_skip, ↓ View.readCov_cons_toLoadRect, ↓ View.readCov_fill]
    frame_out
    simp only [View.readCov_eq_canon']
    try unfold dzB
    try unfold biasB
    unfold du0 du1 du2 du3 lane stores3 stores2 stores1 stores0 main0 main1 main2 main3 halo0 halo1 halo2 halo3 part
    rfl

/-- What a later point leaves. -/
theorem outs_B (h0 : ¬t.val % 8 = 0) :
    (outsAt0 m c t.val t.isLt).1 = k0_pay29 (dzB m c t) (iblk m c 5 t) (k0_pay23 (iblk m c 5 t)) (iblk m c 8 t) (iblk m c 7 t) (iblk m c 6 t)
    ∧ (outsAt0 m c t.val t.isLt).2.1 = k0_pay26 (dzB m c t) (iblk m c 5 t) (k0_pay23 (iblk m c 5 t)) (iblk m c 8 t) (outsAt0 m c (t.val - 1) (by have := t.isLt; omega)).2.1
    ∧ (outsAt0 m c t.val t.isLt).2.2.1 = biasB m c t (outsAt0 m c (t.val - 1) (by have := t.isLt; omega)).2.2.1
    ∧ (outsAt0 m c t.val t.isLt).2.2.2 = k0_pay28 (dzB m c t) (iblk m c 5 t) (k0_pay23 (iblk m c 5 t)) (iblk m c 7 t) (outsAt0 m c (t.val - 1) (by have := t.isLt; omega)).2.2.2 := by
  refine ⟨?_, ?_, ?_, ?_⟩
  all_goals
    rw [outsAt0_B m c t h0]
    frame_open
    simp (disch := decide) only [↓ View.readCov_skip, ↓ View.readCov_cons_toLoadRect, ↓ View.readCov_fill]
    frame_out
    simp only [View.readCov_eq_canon']
    try unfold dzB
    try unfold biasB
    unfold du0 du1 du2 du3 lane stores3 stores2 stores1 stores0 main0 main1 main2 main3 halo0 halo1 halo2 halo3 part
    rfl

end Cert.Kernel4Ideal.Body

end
-- ==== Proof.InprojValue.lean ====
/- The backward pass of the input projection: what the tiled kernel leaves in its four result arrays. -/
module

public import proofs.«01_k».proof.Proof.InprojPoint
public import proofs.«01_k».proof.Proof.Gen.Kernel4Ideal.Value

@[expose] public section

set_option maxRecDepth 16384

noncomputable section

namespace Cert.Kernel4Ideal.Body

open Cert.Kernel4Ideal Cert.Kernel4Ideal.Gen Idealize.ShloMosaic Idealize.ShloMosaic.TcCoe
open Inproj

section Payloads
variable (z : S1024x1280.Idx → EReal) (x y : S1024x1024.Idx → EReal) (g : S1x1024.Idx → EReal) (w : S1280x1024.Idx → EReal)

/-- The reciprocal root mean square of a row. -/
theorem pay24_at (r : Fin 1024) : (k0_pay24 (F := Ideal) (k0_pay23 (F := Ideal) x) : S1024x1.Idx → EReal) (ix2 r 0) = rr (fun k => x (ix2 r k)) := by
  pointwise [k0_pay24, k0_pay23]
  rw [Ffn.word_width, Ffn.word_eps]
  rfl

/-- A normalised row. -/
theorem pay25_at (r k : Fin 1024) :
    (k0_pay25 (F := Ideal) x (k0_pay23 (F := Ideal) x) : S1024x1024.Idx → EReal) (ix2 r k) = x (ix2 r k) * rr (fun k => x (ix2 r k)) := by
  rw [← pay24_at]
  pointwise [k0_pay25]

/-- The gradient of the normalised tokens. -/
theorem pay27_at (r k : Fin 1024) : (k0_pay27 (F := Ideal) z w : S1024x1024.Idx → EReal) (ix2 r k) = ∑ j : Fin 1280, z (ix2 r j) * w (ix2 j k) := by
  pointwise [k0_pay27]

/-- A point's step of the projection weights' gradient, and of the norm weights'. -/
theorem pay26_at (acc : S1280x1024.Idx → EReal) (i : Fin 1280) (j : Fin 1024) :
    (k0_pay26 (F := Ideal) z x (k0_pay23 (F := Ideal) x) g acc : S1280x1024.Idx → EReal) (ix2 i j)
      = acc (ix2 i j) + ∑ r : Fin 1024, z (ix2 r i) * ((x (ix2 r j) * rr (fun k => x (ix2 r k))) * g (ix2 0 j)) := by
  simp only [← pay25_at]
  pointwise [k0_pay26]

@[inherit_doc pay26_at] theorem pay28_at (acc : S1x1024.Idx → EReal) (j : Fin 1024) :
    (k0_pay28 (F := Ideal) z x (k0_pay23 (F := Ideal) x) w acc : S1x1024.Idx → EReal) (ix2 0 j)
      = acc (ix2 0 j) + ∑ r : Fin 1024, (∑ k : Fin 1280, z (ix2 r k) * w (ix2 k j)) * (x (ix2 r j) * rr (fun k => x (ix2 r k))) := by
  simp only [← pay25_at, ← pay27_at]
  pointwise [k0_pay28]

/-- The gradient of the tokens. -/
theorem pay29_at (r k : Fin 1024) :
    (k0_pay29 (F := Ideal) z x (k0_pay23 (F := Ideal) x) g w y : S1024x1024.Idx → EReal) (ix2 r k)
      = y (ix2 r k) + back (fun k => x (ix2 r k)) (fun k => (∑ j : Fin 1280, z (ix2 r j) * w (ix2 j k)) * g (ix2 0 k)) k := by
  unfold back
  simp only [← pay25_at, ← pay27_at]
  rw [← pay24_at]
  unfold width
  rw [← Ffn.word_width]
  pointwise [k0_pay29]
end Payloads

theorem zero1 (i : Fin 1280) (j : Fin 1024) : (k0_pay1 (F := Ideal) : S1280x1024.Idx → EReal) (ix2 i j) = 0 := by pointwise [k0_pay1]
theorem zero2 (j : Fin 1280) : (k0_pay2 (F := Ideal) : S1x1280.Idx → EReal) (ix2 0 j) = 0 := by pointwise [k0_pay2]
theorem zero3 (j : Fin 1024) : (k0_pay3 (F := Ideal) : S1x1024.Idx → EReal) (ix2 0 j) = 0 := by pointwise [k0_pay3]

variable (m : (ℓ : Loc nD τ sig) → Buf (Elt Ideal) ℓ) (c : Dev nD)

/-- Where the blocks lie. -/
theorem idxT : ∀ t : Fin cfg0.N, (win0_0.index t 0 = t.val ∧ win0_1.index t 0 = t.val ∧ win0_2.index t 0 = t.val ∧ win0_5.index t 0 = t.val ∧ win0_6.index t 0 = t.val
    ∧ win0_9.index t 0 = t.val) ∧ win0_0.index t 1 = 0 ∧ win0_1.index t 1 = 0 ∧ win0_2.index t 1 = 0 ∧ win0_5.index t 1 = 0 ∧ win0_6.index t 1 = 0 ∧ win0_9.index t 1 = 0 :=
  (by decide +kernel : ∀ t : Fin grid0.N, (win0_0.index t 0 = t.val ∧ win0_1.index t 0 = t.val ∧ win0_2.index t 0 = t.val ∧ win0_5.index t 0 = t.val ∧ win0_6.index t 0 = t.val
    ∧ win0_9.index t 0 = t.val) ∧ win0_0.index t 1 = 0 ∧ win0_1.index t 1 = 0 ∧ win0_2.index t 1 = 0 ∧ win0_5.index t 1 = 0 ∧ win0_6.index t 1 = 0 ∧ win0_9.index t 1 = 0)
@[inherit_doc idxT] theorem idxV : ∀ t : Fin cfg0.N, ∀ a : Fin 2, win0_7.index t a = 0 ∧ win0_8.index t a = 0 ∧ win0_10.index t a = 0 ∧ win0_11.index t a = 0
    ∧ win0_12.index t a = 0 :=
  (by decide +kernel : ∀ t : Fin grid0.N, ∀ a : Fin 2, win0_7.index t a = 0 ∧ win0_8.index t a = 0 ∧ win0_10.index t a = 0 ∧ win0_11.index t a = 0 ∧ win0_12.index t a = 0)

/-- What an input block holds of its array. -/
theorem blk0 (t : Fin cfg0.N) (r : Fin 1024) (k : Fin 512) :
    (iblk m c 0 t : S1024x512.Idx → EReal) (ix2 r k) = (V m c main_arg0 : S8192x512.Idx → EReal) (ix2 (tok t r) k) := by
  blk_simp [iblk]
  refine congrArg (V m c main_arg0) ?_
  funext a
  apply Fin.ext
  have h := idxT t
  fin_cases a
  · blk_simp []
    show win0_0.index t 0 * 1024 + r.val = 1024 * t.val + r.val
    omega
  · blk_simp []
    show win0_0.index t 1 * 512 + k.val = k.val
    omega

@[inherit_doc blk0] theorem blk1 (t : Fin cfg0.N) (r : Fin 1024) (k : Fin 128) :
    (iblk m c 1 t : S1024x128.Idx → EReal) (ix2 r k) = (V m c main_arg1 : S8192x128.Idx → EReal) (ix2 (tok t r) k) := by
  blk_simp [iblk]
  refine congrArg (V m c main_arg1) ?_
  funext a
  apply Fin.ext
  have h := idxT t
  fin_cases a
  · blk_simp []
    show win0_1.index t 0 * 1024 + r.val = 1024 * t.val + r.val
    omega
  · blk_simp []
    show win0_1.index t 1 * 128 + k.val = k.val
    omega

@[inherit_doc blk0] theorem blk2 (t : Fin cfg0.N) (r : Fin 1024) (k : Fin 128) :
    (iblk m c 2 t : S1024x128.Idx → EReal) (ix2 r k) = (V m c main_arg2 : S8192x128.Idx → EReal) (ix2 (tok t r) k) := by
  blk_simp [iblk]
  refine congrArg (V m c main_arg2) ?_
  funext a
  apply Fin.ext
  have h := idxT t
  fin_cases a
  · blk_simp []
    show win0_2.index t 0 * 1024 + r.val = 1024 * t.val + r.val
    omega
  · blk_simp []
    show win0_2.index t 1 * 128 + k.val = k.val
    omega

@[inherit_doc blk0] theorem blk5 (t : Fin cfg0.N) (r k : Fin 1024) :
    (iblk m c 5 t : S1024x1024.Idx → EReal) (ix2 r k) = (V m c main_arg4 : S8192x1024.Idx → EReal) (ix2 (tok t r) k) := by
  blk_simp [iblk]
  refine congrArg (V m c main_arg4) ?_
  funext a
  apply Fin.ext
  have h := idxT t
  fin_cases a
  · blk_simp []
    show win0_5.index t 0 * 1024 + r.val = 1024 * t.val + r.val
    omega
  · blk_simp []
    show win0_5.index t 1 * 1024 + k.val = k.val
    omega

@[inherit_doc blk0] theorem blk6 (t : Fin cfg0.N) (r k : Fin 1024) :
    (iblk m c 6 t : S1024x1024.Idx → EReal) (ix2 r k) = (V m c main_arg5 : S8192x1024.Idx → EReal) (ix2 (tok t r) k) := by
  blk_simp [iblk]
  refine congrArg (V m c main_arg5) ?_
  funext a
  apply Fin.ext
  have h := idxT t
  fin_cases a
  · blk_simp []
    show win0_6.index t 0 * 1024 + r.val = 1024 * t.val + r.val
    omega
  · blk_simp []
    show win0_6.index t 1 * 1024 + k.val = k.val
    omega

@[inherit_doc blk0] theorem blk7 (t : Fin cfg0.N) (i : Fin 1280) (j : Fin 1024) :
    (iblk m c 7 t : S1280x1024.Idx → EReal) (ix2 i j) = (V m c main_arg6 : S1280x1024.Idx → EReal) (ix2 i j) := by
  blk_simp [iblk]
  refine congrArg (V m c main_arg6) ?_
  funext a
  apply Fin.ext
  have h0 := (idxV t 0).1
  have h1 := (idxV t 1).1
  fin_cases a
  · blk_simp []
    show win0_7.index t 0 * 1280 + i.val = i.val
    omega
  · blk_simp []
    show win0_7.index t 1 * 1024 + j.val = j.val
    omega

@[inherit_doc blk0] theorem blk8 (t : Fin cfg0.N) (k : Fin 1024) :
    (iblk m c 8 t : S1x1024.Idx → EReal) (ix2 0 k) = (V m c main_arg7 : S1x1024.Idx → EReal) (ix2 0 k) := by
  blk_simp [iblk]
  refine congrArg (V m c main_arg7) ?_
  funext a
  apply Fin.ext
  have h0 := (idxV t 0).2.1
  have h1 := (idxV t 1).2.1
  fin_cases a
  · blk_simp []
    show win0_8.index t 0 * 1 + 0 = 0
    omega
  · blk_simp []
    show win0_8.index t 1 * 1024 + k.val = k.val
    omega

section Point
variable (t : Fin cfg0.N)

/-- The tokens' gradient with the number of its terms. -/
theorem du_sum (dm : S8192x512.Idx → EReal) (n : Fin 8192) (g : Fin 4) (d : Fin 128) (k : ℕ) (h : size g = k) :
    du dm n g d = -dm (ix2 n (ch g d)) + ∑ j ∈ Finset.range k, term dm g d (n.val + j) := by
  subst h
  rfl

/-- The tokens' gradient of each group at a point. -/
theorem du0_at (r : Fin 1024) (d : Fin 128) : (du0 m c t : S1024x128.Idx → EReal) (ix2 r d) = du (V m c main_arg3) (tok t r) 0 d := by
  have e : (main0 m c t : S1024x128.Idx → EReal) (ix2 r d) = _ := mains_at m c t 0 r d
  unfold du0
  pointwise [k0_pay8]
  simp (disch := decide) only [part_at m c 0, e, lane_at m c t 0 (stores0 m c t) (stores_at m c t 0)]
  rw [zero_sub, du_sum _ _ _ _ 2 rfl]
  simp only [Finset.sum_range_succ, Finset.sum_range_zero, zero_add, add_zero, add_assoc, tok]

@[inherit_doc du0_at] theorem du1_at (r : Fin 1024) (d : Fin 128) : (du1 m c t : S1024x128.Idx → EReal) (ix2 r d) = du (V m c main_arg3) (tok t r) 1 d := by
  have e : (main1 m c t : S1024x128.Idx → EReal) (ix2 r d) = _ := mains_at m c t 1 r d
  unfold du1
  pointwise [k0_pay11]
  simp (disch := decide) only [part_at m c 1, e, lane_at m c t 1 (stores1 m c t) (stores_at m c t 1)]
  rw [zero_sub, du_sum _ _ _ _ 4 rfl]
  simp only [Finset.sum_range_succ, Finset.sum_range_zero, zero_add, add_zero, add_assoc, tok]

@[inherit_doc du0_at] theorem du2_at (r : Fin 1024) (d : Fin 128) : (du2 m c t : S1024x128.Idx → EReal) (ix2 r d) = du (V m c main_arg3) (tok t r) 2 d := by
  have e : (main2 m c t : S1024x128.Idx → EReal) (ix2 r d) = _ := mains_at m c t 2 r d
  unfold du2
  pointwise [k0_pay15]
  simp (disch := decide) only [part_at m c 2, e, lane_at m c t 2 (stores2 m c t) (stores_at m c t 2)]
  rw [zero_sub, du_sum _ _ _ _ 8 rfl]
  simp only [Finset.sum_range_succ, Finset.sum_range_zero, zero_add, add_zero, add_assoc, tok]

/-- The six terms added last. -/
def du3B : FVec Ideal S1024x128 .f32 :=
  addf (addf (addf (addf (addf (addf (du3 m c t) (lane (stores3 m c t) 10 384 inb_S1040x512_S1024x128_10_384)) (lane (stores3 m c t) 11 384 inb_S1040x512_S1024x128_11_384))
    (lane (stores3 m c t) 12 384 inb_S1040x512_S1024x128_12_384)) (lane (stores3 m c t) 13 384 inb_S1040x512_S1024x128_13_384))
    (lane (stores3 m c t) 14 384 inb_S1040x512_S1024x128_14_384)) (lane (stores3 m c t) 15 384 inb_S1040x512_S1024x128_15_384)

@[inherit_doc du0_at] theorem du3B_at (r : Fin 1024) (d : Fin 128) : (du3B m c t : S1024x128.Idx → EReal) (ix2 r d) = du (V m c main_arg3) (tok t r) 3 d := by
  have e : (main3 m c t : S1024x128.Idx → EReal) (ix2 r d) = _ := mains_at m c t 3 r d
  unfold du3B du3
  pointwise [k0_pay19]
  simp (disch := decide) only [part_at m c 3, e, lane_at m c t 3 (stores3 m c t) (stores_at m c t 3)]
  rw [zero_sub, du_sum _ _ _ _ 16 rfl]
  simp only [Finset.sum_range_succ, Finset.sum_range_zero, zero_add, add_zero, add_assoc, tok]

/-- A part of the joined gradient. -/
theorem joined (xs : List ((s : Shape) × (s.Idx → EReal))) (h : Shape.Concatenates (xs.map (·.1)) S1024x1280 1) (r : Fin 1024) (k : Fin 1280) (i W : ℕ)
    (hi : i < xs.length) (x : Shape.Idx ⟨2, ![1024, W]⟩ → EReal) (hx : xs[i] = ⟨⟨2, ![1024, W]⟩, x⟩) (pre : ℕ)
    (hp : (((xs.take i).map (·.1)).map fun s => if h : s.rank = 2 then s.size ((1 : Fin 2).cast h.symm) else 0).sum = pre) (q : Fin W) (hq : pre + q.val = k.val) :
    concatenate S1024x1280 1 xs h (ix2 r k) = x (ix2 r q) :=
  concatenate_apply_piece (t := S1024x1280) 1 xs h (ix2 r k) i hi ⟨2, ![1024, W]⟩ x hx rfl pre hp (ix2 r q)
    (fun b hb => by fin_cases b <;> first | exact absurd rfl hb | rfl) hq

/-- What the gradient of the projection's result joins. -/
def parts : List ((s : Shape) × (s.Idx → EReal)) :=
  [⟨S1024x512, iblk m c 0 t⟩, ⟨S1024x128, iblk m c 1 t⟩, ⟨S1024x128, iblk m c 2 t⟩, ⟨S1024x128, du0 m c t⟩, ⟨S1024x128, du1 m c t⟩,
    ⟨S1024x128, du2 m c t⟩, ⟨S1024x128, du3B m c t⟩]

theorem dzF_parts : (dzF m c t : S1024x1280.Idx → EReal) = concatenate S1024x1280 1 (parts m c t)
    concatenates_S1024x512_S1024x128_S1024x128_S1024x128_S1024x128_S1024x128_S1024x128_S1024x1280_d1 := rfl

/-- The gradient of the projection's result at a point. -/
theorem dzF_at (r : Fin 1024) (k : Fin 1280) :
    (dzF m c t : S1024x1280.Idx → EReal) (ix2 r k) = dz (V m c main_arg0) (V m c main_arg1) (V m c main_arg2) (V m c main_arg3) (tok t r) k := by
  rw [dzF_parts]
  unfold dz
  by_cases h0 : k.val < 512
  · rw [dif_pos h0]
    exact (joined (parts m c t) _ r k 0 512 (by decide : 0 < 7) _ rfl 0 rfl ⟨k.val, h0⟩ (Nat.zero_add _)).trans (blk0 m c t r _)
  · rw [dif_neg h0]
    by_cases h1 : k.val < 640
    · rw [dif_pos h1]
      exact (joined (parts m c t) _ r k 1 128 (by decide : 1 < 7) _ rfl 512 rfl ⟨k.val - 512, by omega⟩ (by show 512 + (k.val - 512) = _; omega)).trans (blk1 m c t r _)
    · rw [dif_neg h1]
      by_cases h2 : k.val < 768
      · rw [dif_pos h2]
        exact (joined (parts m c t) _ r k 2 128 (by decide : 2 < 7) _ rfl 640 rfl ⟨k.val - 640, by omega⟩ (by show 640 + (k.val - 640) = _; omega)).trans (blk2 m c t r _)
      · rw [dif_neg h2]
        have hk : 768 + (128 * (grp ⟨k.val - 768, by omega⟩).val + (plc ⟨k.val - 768, by omega⟩).val) = k.val := by
          show 768 + (128 * ((k.val - 768) / 128) + (k.val - 768) % 128) = k.val
          omega
        generalize grp ⟨k.val - 768, _⟩ = g at hk ⊢
        generalize plc ⟨k.val - 768, _⟩ = d at hk ⊢
        fin_cases g
        · exact (joined (parts m c t) _ r k 3 128 (by decide : 3 < 7) _ rfl 768 rfl d ((congrArg (768 + ·) (Nat.zero_add _).symm).trans hk)).trans (du0_at m c t r d)
        · exact (joined (parts m c t) _ r k 4 128 (by decide : 4 < 7) _ rfl 896 rfl d ((Nat.add_assoc 768 128 d.val).trans hk)).trans (du1_at m c t r d)
        · exact (joined (parts m c t) _ r k 5 128 (by decide : 5 < 7) _ rfl 1024 rfl d ((Nat.add_assoc 768 256 d.val).trans hk)).trans (du2_at m c t r d)
        · exact (joined (parts m c t) _ r k 6 128 (by decide : 6 < 7) _ rfl 1152 rfl d ((Nat.add_assoc 768 384 d.val).trans hk)).trans (du3B_at m c t r d)

theorem dzB_at (r : Fin 1024) (k : Fin 1280) :
    (dzB m c t : S1024x1280.Idx → EReal) (ix2 r k) = dz (V m c main_arg0) (V m c main_arg1) (V m c main_arg2) (V m c main_arg3) (tok t r) k := by
  rw [← dzF_at]
  unfold dzB dzF
  pointwise [k0_pay21]

theorem biasB_at (acc : S1x1280.Idx → EReal) (k : Fin 1280) :
    (biasB m c t acc : S1x1280.Idx → EReal) (ix2 0 k)
      = acc (ix2 0 k) + ∑ r : Fin 1024, dz (V m c main_arg0) (V m c main_arg1) (V m c main_arg2) (V m c main_arg3) (tok t r) k := by
  simp only [← dzF_at]
  unfold biasB dzF
  pointwise [k0_pay22]
end Point

/-- A running sum over the eight points' rows is, at the last point, the sum over all tokens. -/
theorem acc_sum (f : Fin 8192 → EReal) (o : (n : ℕ) → n < cfg0.N → EReal)
    (hA : ∀ t : Fin cfg0.N, t.val % 8 = 0 → o t.val t.isLt = 0 + ∑ r : Fin 1024, f (tok t r))
    (hB : ∀ t : Fin cfg0.N, ¬t.val % 8 = 0 → o t.val t.isLt = o (t.val - 1) (by have := t.isLt; omega) + ∑ r : Fin 1024, f (tok t r))
    (t : Fin cfg0.N) (ht : t.val = 7) : o t.val t.isLt = ∑ n : Fin 8192, f n := by
  obtain ⟨n, hn⟩ := t
  obtain rfl : n = 7 := ht
  have e : o 7 hn = ∑ p : Fin 8, ∑ r : Fin 1024, f (tok ⟨p.val, by have := p.isLt; have : cfg0.N = 8 := N_0; omega⟩ r) := by
    rw [Fin.sum_univ_eight, ← zero_add (∑ r : Fin 1024, f (tok ⟨(0 : Fin 8).val, _⟩ r))]
    exact (hB ⟨7, hn⟩ (by decide : ¬7 % 8 = 0)).trans (congrArg (· + _) ((hB ⟨6, by decide⟩ (by decide)).trans (congrArg (· + _)
      ((hB ⟨5, by decide⟩ (by decide)).trans (congrArg (· + _) ((hB ⟨4, by decide⟩ (by decide)).trans (congrArg (· + _)
      ((hB ⟨3, by decide⟩ (by decide)).trans (congrArg (· + _) ((hB ⟨2, by decide⟩ (by decide)).trans (congrArg (· + _)
      ((hB ⟨1, by decide⟩ (by decide)).trans (congrArg (· + _) (hA ⟨0, by decide⟩ (by decide)))))))))))))))
  refine e.trans (Fin.sum_mul_add_congr fun p r hl => congrArg f (Fin.ext ?_))
  show 1024 * p.val + r.val = p.val * 1024 + r.val
  omega

theorem one_row {n : ℕ} (y : Shape.Idx ⟨2, ![1, n]⟩) : y = ix2 0 (y 1) := by
  funext a
  fin_cases a
  · exact Subsingleton.elim (α := Fin 1) _ _
  · rfl

theorem two_axes {n n' : ℕ} (y : Shape.Idx ⟨2, ![n, n']⟩) : y = ix2 (y 0) (y 1) := by
  funext a
  fin_cases a <;> rfl

/-- The first result: the gradient of the tokens. -/
theorem arr9 : (dats m 0 c).arrAt 9 cfg0.N = dX (V m c main_arg0) (V m c main_arg1) (V m c main_arg2) (V m c main_arg3) (V m c main_arg4) (V m c main_arg5) (V m c main_arg6) (V m c main_arg7) := by
  refine (dats m 0 c).arrAt_eq_of_covers 9 _ (by decide +kernel) fun t hf y => ?_
  blk_simp
  rw [after0_9]
  have key : ∀ r k : Fin 1024, (outsAt0 m c t.val t.isLt).1 (ix2 r k) = dX (V m c main_arg0) (V m c main_arg1) (V m c main_arg2) (V m c main_arg3) (V m c main_arg4) (V m c main_arg5) (V m c main_arg6) (V m c main_arg7) (ix2 (tok t r) k) := by
    intro r k
    have e : (outsAt0 m c t.val t.isLt).1 = k0_pay29 (dzB m c t) (iblk m c 5 t) (k0_pay23 (iblk m c 5 t)) (iblk m c 8 t) (iblk m c 7 t) (iblk m c 6 t) := by
      by_cases h0 : t.val % 8 = 0
      · exact (outs_A m c t h0).1
      · exact (outs_B m c t h0).1
    rw [e]
    refine (pay29_at _ _ _ _ _ r k).trans ?_
    simp only [blk5, blk6, blk7, blk8, dzB_at]
    rfl
  have h := idxT t
  refine Eq.trans (congrArg (outsAt0 m c t.val t.isLt).1 (two_axes y)) ((key (y 0) (y 1)).trans (congrArg _ ?_))
  funext a
  apply Fin.ext
  fin_cases a
  · blk_simp []
    show 1024 * t.val + (y 0).val = win0_9.index t 0 * 1024 + (y 0).val
    omega
  · blk_simp []
    show (y 1).val = win0_9.index t 1 * 1024 + (y 1).val
    omega

/-- The second result: the gradient of the projection's weights. -/
theorem arr10 : (dats m 0 c).arrAt 10 cfg0.N = gW (V m c main_arg0) (V m c main_arg1) (V m c main_arg2) (V m c main_arg3) (V m c main_arg4) (V m c main_arg7) := by
  refine (dats m 0 c).arrAt_eq_of_covers 10 _ (by decide +kernel) fun t hf y => ?_
  have ht : t.val = 7 := (by decide +kernel : ∀ t : Fin grid0.N, win0_10.flush t = true → t.val = 7) t hf
  blk_simp
  rw [after0_10]
  have step : ∀ (t : Fin cfg0.N) (acc : S1280x1024.Idx → EReal) (i : Fin 1280) (j : Fin 1024),
      (k0_pay26 (dzB m c t) (iblk m c 5 t) (k0_pay23 (iblk m c 5 t)) (iblk m c 8 t) acc : S1280x1024.Idx → EReal) (ix2 i j)
        = acc (ix2 i j) + ∑ r : Fin 1024, dz (V m c main_arg0) (V m c main_arg1) (V m c main_arg2) (V m c main_arg3) (tok t r) i * (xh (V m c main_arg4) (tok t r) j * V m c main_arg7 (ix2 0 j)) := by
    intro t acc i j
    refine (pay26_at _ _ _ acc i j).trans ?_
    simp only [blk5, blk8, dzB_at]
    rfl
  have key : ∀ (i : Fin 1280) (j : Fin 1024), (outsAt0 m c t.val t.isLt).2.1 (ix2 i j) = gW (V m c main_arg0) (V m c main_arg1) (V m c main_arg2) (V m c main_arg3) (V m c main_arg4) (V m c main_arg7) (ix2 i j) := fun i j => acc_sum
    (fun n => dz (V m c main_arg0) (V m c main_arg1) (V m c main_arg2) (V m c main_arg3) n i * (xh (V m c main_arg4) n j * V m c main_arg7 (ix2 0 j)))
    (fun n h => (outsAt0 m c n h).2.1 (ix2 i j))
    (fun t h0 => by
      show (outsAt0 m c t.val t.isLt).2.1 (ix2 i j) = _
      rw [(outs_A m c t h0).2.1, step, zero1])
    (fun t h0 => by
      show (outsAt0 m c t.val t.isLt).2.1 (ix2 i j) = _
      rw [(outs_B m c t h0).2.1, step]) t ht
  have h0 := (idxV t 0).2.2.1
  have h1 := (idxV t 1).2.2.1
  refine Eq.trans (congrArg (outsAt0 m c t.val t.isLt).2.1 (two_axes y)) ((key (y 0) (y 1)).trans (congrArg _ ?_))
  funext a
  apply Fin.ext
  fin_cases a
  · blk_simp []
    show (y 0).val = win0_10.index t 0 * 1280 + (y 0).val
    omega
  · blk_simp []
    show (y 1).val = win0_10.index t 1 * 1024 + (y 1).val
    omega

/-- The third result: the gradient of the projection's bias. -/
theorem arr11 : (dats m 0 c).arrAt 11 cfg0.N = gB (V m c main_arg0) (V m c main_arg1) (V m c main_arg2) (V m c main_arg3) := by
  refine (dats m 0 c).arrAt_eq_of_covers 11 _ (by decide +kernel) fun t hf y => ?_
  have ht : t.val = 7 := (by decide +kernel : ∀ t : Fin grid0.N, win0_11.flush t = true → t.val = 7) t hf
  blk_simp
  rw [after0_11]
  have key : ∀ k : Fin 1280, (outsAt0 m c t.val t.isLt).2.2.1 (ix2 0 k) = gB (V m c main_arg0) (V m c main_arg1) (V m c main_arg2) (V m c main_arg3) (ix2 0 k) := fun k => acc_sum
    (fun n => dz (V m c main_arg0) (V m c main_arg1) (V m c main_arg2) (V m c main_arg3) n k) (fun n h => (outsAt0 m c n h).2.2.1 (ix2 0 k))
    (fun t h0 => by
      show (outsAt0 m c t.val t.isLt).2.2.1 (ix2 0 k) = _
      rw [(outs_A m c t h0).2.2.1, biasB_at, zero2])
    (fun t h0 => by
      show (outsAt0 m c t.val t.isLt).2.2.1 (ix2 0 k) = _
      rw [(outs_B m c t h0).2.2.1, biasB_at]) t ht
  have h0 := (idxV t 0).2.2.2.1
  have h1 := (idxV t 1).2.2.2.1
  refine Eq.trans (congrArg (outsAt0 m c t.val t.isLt).2.2.1 (one_row y)) ((key (y 1)).trans (congrArg _ ?_))
  funext a
  apply Fin.ext
  fin_cases a
  · blk_simp []
    exact h0.symm
  · blk_simp []
    show (y 1).val = win0_11.index t 1 * 1280 + (y 1).val
    omega

/-- The fourth result: the gradient of the norm's weights. -/
theorem arr12 : (dats m 0 c).arrAt 12 cfg0.N = gG (V m c main_arg0) (V m c main_arg1) (V m c main_arg2) (V m c main_arg3) (V m c main_arg4) (V m c main_arg6) := by
  refine (dats m 0 c).arrAt_eq_of_covers 12 _ (by decide +kernel) fun t hf y => ?_
  have ht : t.val = 7 := (by decide +kernel : ∀ t : Fin grid0.N, win0_12.flush t = true → t.val = 7) t hf
  blk_simp
  rw [after0_12]
  have step : ∀ (t : Fin cfg0.N) (acc : S1x1024.Idx → EReal) (j : Fin 1024),
      (k0_pay28 (dzB m c t) (iblk m c 5 t) (k0_pay23 (iblk m c 5 t)) (iblk m c 7 t) acc : S1x1024.Idx → EReal) (ix2 0 j)
        = acc (ix2 0 j) + ∑ r : Fin 1024, dh (V m c main_arg0) (V m c main_arg1) (V m c main_arg2) (V m c main_arg3) (V m c main_arg6) (tok t r) j * xh (V m c main_arg4) (tok t r) j := by
    intro t acc j
    refine (pay28_at _ _ _ acc j).trans ?_
    simp only [blk5, blk7, dzB_at]
    rfl
  have key : ∀ j : Fin 1024, (outsAt0 m c t.val t.isLt).2.2.2 (ix2 0 j) = gG (V m c main_arg0) (V m c main_arg1) (V m c main_arg2) (V m c main_arg3) (V m c main_arg4) (V m c main_arg6) (ix2 0 j) := fun j => acc_sum
    (fun n => dh (V m c main_arg0) (V m c main_arg1) (V m c main_arg2) (V m c main_arg3) (V m c main_arg6) n j * xh (V m c main_arg4) n j)
    (fun n h => (outsAt0 m c n h).2.2.2 (ix2 0 j))
    (fun t h0 => by
      show (outsAt0 m c t.val t.isLt).2.2.2 (ix2 0 j) = _
      rw [(outs_A m c t h0).2.2.2, step, zero3])
    (fun t h0 => by
      show (outsAt0 m c t.val t.isLt).2.2.2 (ix2 0 j) = _
      rw [(outs_B m c t h0).2.2.2, step]) t ht
  have h0 := (idxV t 0).2.2.2.2
  have h1 := (idxV t 1).2.2.2.2
  refine Eq.trans (congrArg (outsAt0 m c t.val t.isLt).2.2.2 (one_row y)) ((key (y 1)).trans (congrArg _ ?_))
  funext a
  apply Fin.ext
  fin_cases a
  · blk_simp []
    exact h0.symm
  · blk_simp []
    show (y 1).val = win0_12.index t 1 * 1024 + (y 1).val
    omega

end Cert.Kernel4Ideal.Body

end
-- ==== Proof.InprojClaim.lean ====
/- The backward pass of the input projection: the kernel's results are the reference's. -/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.InprojRef
public import proofs.«01_k».proof.Proof.InprojValue

@[expose] public section

set_option maxRecDepth 16384

noncomputable section

namespace Cert.Proof.Inproj

open Idealize.ShloMosaic Idealize.ShloMosaic.TcCoe Idealize.SL.Sem
open Cert.Reference4Ideal Cert.Reference4Ideal.Read Cert.Reference4Ideal.Ref Cert.Kernel4Ideal.Body Idealize.ShloMosaic.StableHlo

/-- The reference ends with its arguments unchanged; it declares no semaphore. -/
theorem frame_reference : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

set_option maxHeartbeats 2000000 in
/-- The kernel's four results and the reference's are the same functions of the arguments. -/
theorem values : Cert.algebraic_Kernel4Ideal_Reference4Ideal := by
  intro m ρ m' ρ' _ hagree
  refine ⟨_, _, _, _, Cert.Kernel4Ideal.Value.run_blocks (F := Ideal) m ρ, ?_⟩
  refine (θ_run Cert.Reference4Ideal.defs _ _).mono (fun r h c => ?_) (Cert.Reference4Ideal.Value.run (F := Ideal) m' ρ')
  obtain ⟨g0, g1, g2, g3, g4, g5, g6, g7⟩ := hagree c
  obtain ⟨r0, r1, r2, r3, k⟩ := h c
  refine ⟨((r0.trans (val_main_v88_eq _ _)).trans (d_x _ _ _ _ _ _ _ _)).trans ?_, ((r1.trans (val_main_v68_eq _ _ _ _ _ _)).trans (g_w _ _ _ _ _ _)).trans ?_,
    ((r2.trans (val_main_v64_eq _ _ _ _)).trans (g_b _ _ _ _)).trans ?_, ((r3.trans (val_main_v71_eq _ _ _ _ _ _)).trans (g_g _ _ _ _ _ _)).trans ?_, k⟩
  · refine Eq.trans ?_ (arr9 m c).symm
    rw [g0, g1, g2, g3, g4, g5, g6, g7]
  · refine Eq.trans ?_ (arr10 m c).symm
    rw [g0, g1, g2, g3, g4, g7]
  · refine Eq.trans ?_ (arr11 m c).symm
    rw [g0, g1, g2, g3]
  · refine Eq.trans ?_ (arr12 m c).symm
    rw [g0, g1, g2, g3, g4, g6]

end Cert.Proof.Inproj

end
-- ==== Proof.Spec5.lean ====
/- The optimiser's arithmetic on whole arrays: the moments and the step, as the kernels' bodies and as the references spell them. -/
module

public import proofs.«01_k».proof.Defs
public import Idealize.ShloMosaic.Lib.Pipeline.Value
public import Idealize.ShloMosaic.Lib.ValueIdx

@[expose] public section

noncomputable section

namespace Cert.Proof.Adamw

open Idealize.ShloMosaic Idealize.ShloMosaic.StableHlo Idealize.ShloMosaic.ValueIdx

variable {s : Shape}

/-- The new first moment of every element: the old one and the gradient, weighted. -/
def newM (g m : FVec Ideal s .f32) : FVec Ideal s .f32 :=
  addf (mulf (broadcast s (Scalar.ofBits .f32 0x3F666666#32)) m) (mulf (broadcast s (Scalar.ofBits .f32 0x3DCCCCCD#32)) g)

/-- The new second moment of every element: the old one and the gradient's square, weighted. -/
def newV (g v : FVec Ideal s .f32) : FVec Ideal s .f32 :=
  addf (mulf (broadcast s (Scalar.ofBits .f32 0x3F7FBE77#32)) v)
    (mulf (broadcast s (Scalar.ofBits .f32 0x3A83126F#32)) (mulf g g))

/-- The step of every element: the corrected first moment over the root of the corrected second one, plus the weight's decay,
    times the negated learning rate. -/
def delta (w g m v : FVec Ideal s .f32) : FVec Ideal s .f32 :=
  mulf (broadcast s (Scalar.ofBits .f32 0xBA83126F#32))
    (addf (divf (divf (newM g m) (broadcast s (Scalar.ofBits .f32 0x3F26BD02#32)))
        (addf (sqrt (divf (newV g v) (broadcast s (Scalar.ofBits .f32 0x3C231ACC#32))))
          (broadcast s (Scalar.ofBits .f32 0x322BCC77#32))))
      (mulf (broadcast s (Scalar.ofBits .f32 0x3C23D70A#32)) w))

/-- Read through any map of indices, the moments and the step are those of their arguments read through it. -/
theorem newM_at {u : Shape} (e : u.Idx → s.Idx) (g m : FVec Ideal s .f32) :
    newM (s := u) (fun j => g (e j)) (fun j => m (e j)) = fun j => newM g m (e j) := rfl

@[inherit_doc newM_at] theorem newV_at {u : Shape} (e : u.Idx → s.Idx) (g v : FVec Ideal s .f32) :
    newV (s := u) (fun j => g (e j)) (fun j => v (e j)) = fun j => newV g v (e j) := rfl

@[inherit_doc newM_at] theorem delta_at {u : Shape} (e : u.Idx → s.Idx) (w g m v : FVec Ideal s .f32) :
    delta (s := u) (fun j => w (e j)) (fun j => g (e j)) (fun j => m (e j)) (fun j => v (e j)) = fun j => delta w g m v (e j) := rfl

variable {z : Shape} {d : Fin z.rank → Fin s.rank} (b : z.BroadcastsInDim s d)

/-- A reference's new first moment is `newM`. -/
theorem newM_eq (g m : FVec Ideal s .f32) :
    addf (mulf (broadcastInDim s d b (constant z .f32 0x3F666666#32)) m)
      (mulf (broadcastInDim s d b (constant z .f32 0x3DCCCCCD#32)) g) = newM g m := rfl

/-- A reference's new second moment is `newV`. -/
theorem newV_eq (g v : FVec Ideal s .f32) :
    addf (mulf (broadcastInDim s d b (constant z .f32 0x3F7FBE77#32)) v)
      (mulf (broadcastInDim s d b (constant z .f32 0x3A83126F#32)) (mulf g g)) = newV g v := rfl

/-- A reference's step is `delta`. -/
theorem delta_eq (w g m v : FVec Ideal s .f32) :
    mulf (broadcastInDim s d b (constant z .f32 0xBA83126F#32))
      (addf (Host.divf (Host.divf (newM g m) (broadcastInDim s d b (constant z .f32 0x3F26BD02#32)))
          (addf (Host.sqrt (Host.divf (newV g v) (broadcastInDim s d b (constant z .f32 0x3C231ACC#32))))
            (broadcastInDim s d b (constant z .f32 0x322BCC77#32))))
        (mulf (broadcastInDim s d b (constant z .f32 0x3C23D70A#32)) w)) = delta w g m v := rfl

/-- Exchanging the two axes of an array twice gives the array back. -/
theorem transpose_back {a b : ℕ} (h : Shape.Transposes ⟨2, ![a, b]⟩ [1, 0] ⟨2, ![b, a]⟩)
    (h' : Shape.Transposes ⟨2, ![b, a]⟩ [1, 0] ⟨2, ![a, b]⟩) (g : FVec Ideal ⟨2, ![a, b]⟩ .f32) :
    transpose ⟨2, ![a, b]⟩ [1, 0] (transpose ⟨2, ![b, a]⟩ [1, 0] g h) h' = g := by
  funext i
  refine (transpose_apply _ _ _ i (ix2 (i 1) (i 0)) (fun x => by fin_cases x <;> rfl)).trans ?_
  exact transpose_apply _ _ _ _ i (fun x => by fin_cases x <;> rfl)

variable {a b : ℕ} (h : Shape.Transposes ⟨2, ![a, b]⟩ [1, 0] ⟨2, ![b, a]⟩) (h' : Shape.Transposes ⟨2, ![b, a]⟩ [1, 0] ⟨2, ![a, b]⟩)
  (w m v : FVec Ideal ⟨2, ![a, b]⟩ .f32) (g : FVec Ideal ⟨2, ![b, a]⟩ .f32)

/-- The moments and the step are taken entry by entry: with the gradient's axes exchanged, and the result's exchanged back, they
    are those of the other arguments with their axes exchanged. -/
theorem newM_turned : transpose ⟨2, ![b, a]⟩ [1, 0] (newM (transpose ⟨2, ![a, b]⟩ [1, 0] g h') m) h
    = newM g (transpose ⟨2, ![b, a]⟩ [1, 0] m h) :=
  congrArg (newM · (transpose ⟨2, ![b, a]⟩ [1, 0] m h)) (transpose_back h' h g)

@[inherit_doc newM_turned] theorem newV_turned : transpose ⟨2, ![b, a]⟩ [1, 0] (newV (transpose ⟨2, ![a, b]⟩ [1, 0] g h') v) h
    = newV g (transpose ⟨2, ![b, a]⟩ [1, 0] v h) :=
  congrArg (newV · (transpose ⟨2, ![b, a]⟩ [1, 0] v h)) (transpose_back h' h g)

@[inherit_doc newM_turned] theorem delta_turned : transpose ⟨2, ![b, a]⟩ [1, 0] (delta w (transpose ⟨2, ![a, b]⟩ [1, 0] g h') m v) h
    = delta (transpose ⟨2, ![b, a]⟩ [1, 0] w h) g (transpose ⟨2, ![b, a]⟩ [1, 0] m h) (transpose ⟨2, ![b, a]⟩ [1, 0] v h) :=
  congrArg (delta (transpose ⟨2, ![b, a]⟩ [1, 0] w h) · (transpose ⟨2, ![b, a]⟩ [1, 0] m h) (transpose ⟨2, ![b, a]⟩ [1, 0] v h))
    (transpose_back h' h g)

end Cert.Proof.Adamw

end
-- ==== Proof.AdamFfnValue.lean ====
/- The optimiser's step of the feed-forward block's three matrices: the nine arrays that the kernel's blocks leave. -/
module

public import proofs.«01_k».proof.Defs
public import proofs.«01_k».proof.Proof.Gen.Kernel5Ideal
public import proofs.«01_k».proof.Proof.Gen.Kernel5Ideal.Value
public import proofs.«01_k».proof.Proof.Spec5

@[expose] public section

set_option maxRecDepth 16384

noncomputable section

namespace Cert.Kernel5Ideal.Body

open Cert.Kernel5Ideal Cert.Kernel5Ideal.Gen Idealize.ShloMosaic Idealize.ShloMosaic.TcCoe Cert.Proof

/-- A block is read and stored from its first entry on. -/
theorem start_zero : (![0, 0] : Fin 2 → Nat) = fun _ => 0 := funext fun a => by fin_cases a <;> rfl

/-- Every index of an array lies in the block of some grid point. -/
theorem in_block (i : S704x1024.Idx) : ∃ t : Fin cfg0.N, i ∈ ((cfg0.win 12).blk t).view.set := by
  have onto : ∀ q : Fin 4, ∃ t : Fin grid0.N, win0_12.index t = ![q.val, 0] := by decide +kernel
  have hi0 : (i 0).val < 704 := (i 0).isLt
  have hi1 : (i 1).val < 1024 := (i 1).isLt
  obtain ⟨t, ht⟩ := onto ⟨(i 0).val / 176, by omega⟩
  refine ⟨t, ?_⟩
  show i ∈ ((View.whole main_v15_0).slice (win0_12.rect t)).set
  rw [View.set_slice_whole, Rect.mem_set_unit]
  intro a
  show win0_12.index t a * S176x1024.size a ≤ (i a).val ∧ (i a).val < win0_12.index t a * S176x1024.size a + S176x1024.size a
  rw [ht]
  match a with
  | ⟨0, _⟩ => show (i 0).val / 176 * 176 ≤ (i 0).val ∧ (i 0).val < (i 0).val / 176 * 176 + 176; omega
  | ⟨1, _⟩ => show 0 * 1024 ≤ (i 1).val ∧ (i 1).val < 0 * 1024 + 1024; omega

/-- One device's part of a matrix whose axes the host code exchanges, as the blocks find it. -/
abbrev turned (x : FVec Ideal S1x1024x704 .f32) : FVec Ideal S704x1024 .f32 :=
  transpose S704x1024 [1, 0] (shapeCast S1024x704 x shapeCasts_S1x1024x704_S1024x704) transposes_S1024x704_S704x1024_1_0

/-- One device's part of a matrix whose axes the host code keeps, as the blocks find it. -/
abbrev kept (x : FVec Ideal S1x704x1024 .f32) : FVec Ideal S704x1024 .f32 := shapeCast S704x1024 x shapeCasts_S1x704x1024_S704x1024

variable (m : (ℓ : Loc nD τ sig) → Buf (Elt Ideal) ℓ) (c : Dev nD)

/-- What the host code prepares of an argument. -/
theorem host0 : V m c main_v1 = turned (m ((c : Thread nD τ).loc main_arg0)) := rfl

@[inherit_doc host0] theorem host1 : V m c main_v3 = turned (m ((c : Thread nD τ).loc main_arg1)) := rfl

@[inherit_doc host0] theorem host2 : V m c main_v4 = kept (m ((c : Thread nD τ).loc main_arg2)) := rfl

@[inherit_doc host0] theorem host6 : V m c main_v6 = turned (m ((c : Thread nD τ).loc main_arg6)) := rfl

@[inherit_doc host0] theorem host7 : V m c main_v8 = turned (m ((c : Thread nD τ).loc main_arg7)) := rfl

@[inherit_doc host0] theorem host8 : V m c main_v9 = kept (m ((c : Thread nD τ).loc main_arg8)) := rfl

@[inherit_doc host0] theorem host9 : V m c main_v11 = turned (m ((c : Thread nD τ).loc main_arg9)) := rfl

@[inherit_doc host0] theorem host10 : V m c main_v13 = turned (m ((c : Thread nD τ).loc main_arg10)) := rfl

@[inherit_doc host0] theorem host11 : V m c main_v14 = kept (m ((c : Thread nD τ).loc main_arg11)) := rfl

/-- The update of the gate matrix. -/
theorem arr12 : (dats m 0 c).arrAt 12 cfg0.N = Adamw.delta (turned (m ((c : Thread nD τ).loc main_arg0))) (m ((c : Thread nD τ).loc main_arg3)) (turned (m ((c : Thread nD τ).loc main_arg6))) (turned (m ((c : Thread nD τ).loc main_arg9))) := by
  rw [← host0 m c, ← V_main_arg3 m c, ← host6 m c, ← host9 m c]
  refine (dats m 0 c).arrAt_eq_of_cover 12 _ (fun t _ => (congrArg _ (after0_12 m c t)).trans ?_)
    (fun i => (in_block i).imp fun t h => ⟨flush0_12 t, h⟩)
  rw [out0_12, View.canon_unit_zero start_zero]
  simp only [View.ld_unit_zero (S := S176x1024) start_zero, k0_pay3, k0_pay1, k0_pay2, shapeCast_self]
  exact Adamw.delta_at ((cfg0.win 12).blk t).view.emb (V m c main_v1) (V m c main_arg3) (V m c main_v6) (V m c main_v11)

/-- The update of the up matrix. -/
theorem arr13 : (dats m 0 c).arrAt 13 cfg0.N = Adamw.delta (turned (m ((c : Thread nD τ).loc main_arg1))) (m ((c : Thread nD τ).loc main_arg4)) (turned (m ((c : Thread nD τ).loc main_arg7))) (turned (m ((c : Thread nD τ).loc main_arg10))) := by
  rw [← host1 m c, ← V_main_arg4 m c, ← host7 m c, ← host10 m c]
  refine (dats m 0 c).arrAt_eq_of_cover 13 _ (fun t _ => (congrArg _ (after0_13 m c t)).trans ?_)
    (fun i => (in_block i).imp fun t h => ⟨flush0_13 t, h⟩)
  rw [out0_13, View.canon_unit_zero start_zero]
  simp only [View.ld_unit_zero (S := S176x1024) start_zero, k0_pay6, k0_pay4, k0_pay5, shapeCast_self]
  exact Adamw.delta_at ((cfg0.win 13).blk t).view.emb (V m c main_v3) (V m c main_arg4) (V m c main_v8) (V m c main_v13)

/-- The update of the down matrix. -/
theorem arr14 : (dats m 0 c).arrAt 14 cfg0.N = Adamw.delta (kept (m ((c : Thread nD τ).loc main_arg2))) (m ((c : Thread nD τ).loc main_arg5)) (kept (m ((c : Thread nD τ).loc main_arg8))) (kept (m ((c : Thread nD τ).loc main_arg11))) := by
  rw [← host2 m c, ← V_main_arg5 m c, ← host8 m c, ← host11 m c]
  refine (dats m 0 c).arrAt_eq_of_cover 14 _ (fun t _ => (congrArg _ (after0_14 m c t)).trans ?_)
    (fun i => (in_block i).imp fun t h => ⟨flush0_14 t, h⟩)
  rw [out0_14, View.canon_unit_zero start_zero]
  simp only [View.ld_unit_zero (S := S176x1024) start_zero, k0_pay9, k0_pay7, k0_pay8, shapeCast_self]
  exact Adamw.delta_at ((cfg0.win 14).blk t).view.emb (V m c main_v4) (V m c main_arg5) (V m c main_v9) (V m c main_v14)

/-- The new first moment of the gate matrix. -/
theorem arr15 : (dats m 0 c).arrAt 15 cfg0.N = Adamw.newM (m ((c : Thread nD τ).loc main_arg3)) (turned (m ((c : Thread nD τ).loc main_arg6))) := by
  rw [← V_main_arg3 m c, ← host6 m c]
  refine (dats m 0 c).arrAt_eq_of_cover 15 _ (fun t _ => (congrArg _ (after0_15 m c t)).trans ?_)
    (fun i => (in_block i).imp fun t h => ⟨flush0_15 t, h⟩)
  rw [out0_15, View.canon_unit_zero start_zero]
  simp only [View.ld_unit_zero (S := S176x1024) start_zero, k0_pay1, shapeCast_self]
  exact Adamw.newM_at ((cfg0.win 15).blk t).view.emb (V m c main_arg3) (V m c main_v6)

/-- The new first moment of the up matrix. -/
theorem arr16 : (dats m 0 c).arrAt 16 cfg0.N = Adamw.newM (m ((c : Thread nD τ).loc main_arg4)) (turned (m ((c : Thread nD τ).loc main_arg7))) := by
  rw [← V_main_arg4 m c, ← host7 m c]
  refine (dats m 0 c).arrAt_eq_of_cover 16 _ (fun t _ => (congrArg _ (after0_16 m c t)).trans ?_)
    (fun i => (in_block i).imp fun t h => ⟨flush0_16 t, h⟩)
  rw [out0_16, View.canon_unit_zero start_zero]
  simp only [View.ld_unit_zero (S := S176x1024) start_zero, k0_pay4, shapeCast_self]
  exact Adamw.newM_at ((cfg0.win 16).blk t).view.emb (V m c main_arg4) (V m c main_v8)

/-- The new first moment of the down matrix. -/
theorem arr17 : (dats m 0 c).arrAt 17 cfg0.N = Adamw.newM (m ((c : Thread nD τ).loc main_arg5)) (kept (m ((c : Thread nD τ).loc main_arg8))) := by
  rw [← V_main_arg5 m c, ← host8 m c]
  refine (dats m 0 c).arrAt_eq_of_cover 17 _ (fun t _ => (congrArg _ (after0_17 m c t)).trans ?_)
    (fun i => (in_block i).imp fun t h => ⟨flush0_17 t, h⟩)
  rw [out0_17, View.canon_unit_zero start_zero]
  simp only [View.ld_unit_zero (S := S176x1024) start_zero, k0_pay7, shapeCast_self]
  exact Adamw.newM_at ((cfg0.win 17).blk t).view.emb (V m c main_arg5) (V m c main_v9)

/-- The new second moment of the gate matrix. -/
theorem arr18 : (dats m 0 c).arrAt 18 cfg0.N = Adamw.newV (m ((c : Thread nD τ).loc main_arg3)) (turned (m ((c : Thread nD τ).loc main_arg9))) := by
  rw [← V_main_arg3 m c, ← host9 m c]
  refine (dats m 0 c).arrAt_eq_of_cover 18 _ (fun t _ => (congrArg _ (after0_18 m c t)).trans ?_)
    (fun i => (in_block i).imp fun t h => ⟨flush0_18 t, h⟩)
  rw [out0_18, View.canon_unit_zero start_zero]
  simp only [View.ld_unit_zero (S := S176x1024) start_zero, k0_pay2, shapeCast_self]
  exact Adamw.newV_at ((cfg0.win 18).blk t).view.emb (V m c main_arg3) (V m c main_v11)

/-- The new second moment of the up matrix. -/
theorem arr19 : (dats m 0 c).arrAt 19 cfg0.N = Adamw.newV (m ((c : Thread nD τ).loc main_arg4)) (turned (m ((c : Thread nD τ).loc main_arg10))) := by
  rw [← V_main_arg4 m c, ← host10 m c]
  refine (dats m 0 c).arrAt_eq_of_cover 19 _ (fun t _ => (congrArg _ (after0_19 m c t)).trans ?_)
    (fun i => (in_block i).imp fun t h => ⟨flush0_19 t, h⟩)
  rw [out0_19, View.canon_unit_zero start_zero]
  simp only [View.ld_unit_zero (S := S176x1024) start_zero, k0_pay5, shapeCast_self]
  exact Adamw.newV_at ((cfg0.win 19).blk t).view.emb (V m c main_arg4) (V m c main_v13)

/-- The new second moment of the down matrix. -/
theorem arr20 : (dats m 0 c).arrAt 20 cfg0.N = Adamw.newV (m ((c : Thread nD τ).loc main_arg5)) (kept (m ((c : Thread nD τ).loc main_arg11))) := by
  rw [← V_main_arg5 m c, ← host11 m c]
  refine (dats m 0 c).arrAt_eq_of_cover 20 _ (fun t _ => (congrArg _ (after0_20 m c t)).trans ?_)
    (fun i => (in_block i).imp fun t h => ⟨flush0_20 t, h⟩)
  rw [out0_20, View.canon_unit_zero start_zero]
  simp only [View.ld_unit_zero (S := S176x1024) start_zero, k0_pay8, shapeCast_self]
  exact Adamw.newV_at ((cfg0.win 20).blk t).view.emb (V m c main_arg5) (V m c main_v14)

end Cert.Kernel5Ideal.Body

end
-- ==== Proof.AdamFfnClaim.lean ====
/- The step and the moments of the three weights of the feed-forward layer: the kernel's results are the reference's. -/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.AdamFfnValue

@[expose] public section

set_option maxRecDepth 16384

noncomputable section

namespace Cert.Proof.AdamFfn

open Idealize.ShloMosaic Idealize.ShloMosaic.TcCoe Idealize.SL.Sem Cert.Kernel5Ideal.Body

/-- The reference ends with its arguments unchanged; it declares no semaphore. -/
theorem frame_reference : Cert.quiescent_Reference5Ideal := fun m ρ _ =>
  (θ_run Cert.Reference5Ideal.defs _ _).mono (fun r h => ⟨fun c => (h c).2.2.2.2.2.2.2.2.2,
      Idealize.ShloMosaic.sem_eq_zero_of_no_sems (by decide) r.2⟩)
    (Cert.Reference5Ideal.Value.run (F := Ideal) m ρ)

set_option maxHeartbeats 2000000 in
/-- The nine results of the kernel and of the reference are the same functions of the arguments. -/
theorem values : Cert.algebraic_Kernel5Ideal_Reference5Ideal := by
  intro m ρ m' ρ' _ hagree
  refine ⟨_, _, _, _, _, _, _, _, _, Cert.Kernel5Ideal.Value.run_blocks (F := Ideal) m ρ, ?_⟩
  refine (θ_run Cert.Reference5Ideal.defs _ _).mono (fun r h c => ?_) (Cert.Reference5Ideal.Value.run (F := Ideal) m' ρ')
  obtain ⟨g0, g1, g2, g3, g4, g5, g6, g7, g8, g9, g10, g11⟩ := hagree c
  obtain ⟨r0, r1, r2, r3, r4, r5, r6, r7, r8, k⟩ := h c
  refine ⟨(r0.trans ?_).trans (arr12 m c).symm, (r1.trans ?_).trans (arr13 m c).symm, (r2.trans ?_).trans (arr14 m c).symm, (r3.trans ?_).trans (arr15 m c).symm, (r4.trans ?_).trans (arr16 m c).symm, (r5.trans ?_).trans (arr17 m c).symm, (r6.trans ?_).trans (arr18 m c).symm, (r7.trans ?_).trans (arr19 m c).symm, (r8.trans ?_).trans (arr20 m c).symm, k⟩
  all_goals simp only [g0, g1, g2, g3, g4, g5, g6, g7, g8, g9, g10, g11]
  iterate 2 exact (congrArg (transpose _ _ · _) (Adamw.delta_eq _ _ _ _ _)).trans (Adamw.delta_turned _ _ _ _ _ _)
  · exact Adamw.delta_eq _ _ _ _ _
  iterate 2 exact (congrArg (transpose _ _ · _) (Adamw.newM_eq _ _ _)).trans (Adamw.newM_turned _ _ _ _)
  · exact Adamw.newM_eq _ _ _
  iterate 2 exact (congrArg (transpose _ _ · _) (Adamw.newV_eq _ _ _)).trans (Adamw.newV_turned _ _ _ _)
  · exact Adamw.newV_eq _ _ _

end Cert.Proof.AdamFfn

end
-- ==== Proof.AdamAttentionValue.lean ====
/- The optimiser's step of the matrices of the input and output projections: the six arrays that the kernel's blocks leave. -/
module

public import proofs.«01_k».proof.Defs
public import proofs.«01_k».proof.Proof.Gen.Kernel6Ideal
public import proofs.«01_k».proof.Proof.Gen.Kernel6Ideal.Value
public import proofs.«01_k».proof.Proof.Spec5

@[expose] public section

set_option maxRecDepth 16384

noncomputable section

namespace Cert.Kernel6Ideal.Body

open Cert.Kernel6Ideal Cert.Kernel6Ideal.Gen Idealize.ShloMosaic Idealize.ShloMosaic.TcCoe Cert.Proof

/-- A block is read and stored from its first entry on. -/
theorem start_zero : (![0, 0] : Fin 2 → Nat) = fun _ => 0 := funext fun a => by fin_cases a <;> rfl

/-- Every index of an array of the input projection lies in the block of some grid point. -/
theorem in_block_in (i : S320x1024.Idx) : ∃ t : Fin cfg0.N, i ∈ ((cfg0.win 8).blk t).view.set := by
  have onto : ∀ q : Fin 4, ∃ t : Fin grid0.N, win0_8.index t = ![q.val, 0] := by decide +kernel
  have hi0 : (i 0).val < 320 := (i 0).isLt
  have hi1 : (i 1).val < 1024 := (i 1).isLt
  obtain ⟨t, ht⟩ := onto ⟨(i 0).val / 80, by omega⟩
  refine ⟨t, ?_⟩
  show i ∈ ((View.whole main_v9_0).slice (win0_8.rect t)).set
  rw [View.set_slice_whole, Rect.mem_set_unit]
  intro a
  show win0_8.index t a * S80x1024.size a ≤ (i a).val ∧ (i a).val < win0_8.index t a * S80x1024.size a + S80x1024.size a
  rw [ht]
  match a with
  | ⟨0, _⟩ => show (i 0).val / 80 * 80 ≤ (i 0).val ∧ (i 0).val < (i 0).val / 80 * 80 + 80; omega
  | ⟨1, _⟩ => show 0 * 1024 ≤ (i 1).val ∧ (i 1).val < 0 * 1024 + 1024; omega

/-- Every index of an array of the output projection lies in the block of some grid point. -/
theorem in_block_out (i : S256x1024.Idx) : ∃ t : Fin cfg0.N, i ∈ ((cfg0.win 9).blk t).view.set := by
  have onto : ∀ q : Fin 4, ∃ t : Fin grid0.N, win0_9.index t = ![q.val, 0] := by decide +kernel
  have hi0 : (i 0).val < 256 := (i 0).isLt
  have hi1 : (i 1).val < 1024 := (i 1).isLt
  obtain ⟨t, ht⟩ := onto ⟨(i 0).val / 64, by omega⟩
  refine ⟨t, ?_⟩
  show i ∈ ((View.whole main_v9_1).slice (win0_9.rect t)).set
  rw [View.set_slice_whole, Rect.mem_set_unit]
  intro a
  show win0_9.index t a * S64x1024.size a ≤ (i a).val ∧ (i a).val < win0_9.index t a * S64x1024.size a + S64x1024.size a
  rw [ht]
  match a with
  | ⟨0, _⟩ => show (i 0).val / 64 * 64 ≤ (i 0).val ∧ (i 0).val < (i 0).val / 64 * 64 + 64; omega
  | ⟨1, _⟩ => show 0 * 1024 ≤ (i 1).val ∧ (i 1).val < 0 * 1024 + 1024; omega

/-- One device's part of a matrix whose axes the host code exchanges, as the blocks find it. -/
abbrev turned (x : FVec Ideal S1x1024x320 .f32) : FVec Ideal S320x1024 .f32 :=
  transpose S320x1024 [1, 0] (shapeCast S1024x320 x shapeCasts_S1x1024x320_S1024x320) transposes_S1024x320_S320x1024_1_0

/-- One device's part of a matrix whose axes the host code keeps, as the blocks find it. -/
abbrev kept (x : FVec Ideal S1x256x1024 .f32) : FVec Ideal S256x1024 .f32 := shapeCast S256x1024 x shapeCasts_S1x256x1024_S256x1024

variable (m : (ℓ : Loc nD τ sig) → Buf (Elt Ideal) ℓ) (c : Dev nD)

/-- What the host code prepares of an argument. -/
theorem host0 : V m c main_v1 = turned (m ((c : Thread nD τ).loc main_arg0)) := rfl

@[inherit_doc host0] theorem host1 : V m c main_v2 = kept (m ((c : Thread nD τ).loc main_arg1)) := rfl

@[inherit_doc host0] theorem host4 : V m c main_v4 = turned (m ((c : Thread nD τ).loc main_arg4)) := rfl

@[inherit_doc host0] theorem host5 : V m c main_v5 = kept (m ((c : Thread nD τ).loc main_arg5)) := rfl

@[inherit_doc host0] theorem host6 : V m c main_v7 = turned (m ((c : Thread nD τ).loc main_arg6)) := rfl

@[inherit_doc host0] theorem host7 : V m c main_v8 = kept (m ((c : Thread nD τ).loc main_arg7)) := rfl

/-- The update of the input projection's matrix. -/
theorem arr8 : (dats m 0 c).arrAt 8 cfg0.N = Adamw.delta (turned (m ((c : Thread nD τ).loc main_arg0))) (m ((c : Thread nD τ).loc main_arg2)) (turned (m ((c : Thread nD τ).loc main_arg4))) (turned (m ((c : Thread nD τ).loc main_arg6))) := by
  rw [← host0 m c, ← V_main_arg2 m c, ← host4 m c, ← host6 m c]
  refine (dats m 0 c).arrAt_eq_of_cover 8 _ (fun t _ => (congrArg _ (after0_8 m c t)).trans ?_)
    (fun i => (in_block_in i).imp fun t h => ⟨flush0_8 t, h⟩)
  rw [out0_8, View.canon_unit_zero start_zero]
  simp only [View.ld_unit_zero (S := S80x1024) start_zero, k0_pay3, k0_pay1, k0_pay2, shapeCast_self]
  exact Adamw.delta_at ((cfg0.win 8).blk t).view.emb (V m c main_v1) (V m c main_arg2) (V m c main_v4) (V m c main_v7)

/-- The update of the output projection's matrix. -/
theorem arr9 : (dats m 0 c).arrAt 9 cfg0.N = Adamw.delta (kept (m ((c : Thread nD τ).loc main_arg1))) (m ((c : Thread nD τ).loc main_arg3)) (kept (m ((c : Thread nD τ).loc main_arg5))) (kept (m ((c : Thread nD τ).loc main_arg7))) := by
  rw [← host1 m c, ← V_main_arg3 m c, ← host5 m c, ← host7 m c]
  refine (dats m 0 c).arrAt_eq_of_cover 9 _ (fun t _ => (congrArg _ (after0_9 m c t)).trans ?_)
    (fun i => (in_block_out i).imp fun t h => ⟨flush0_9 t, h⟩)
  rw [out0_9, View.canon_unit_zero start_zero]
  simp only [View.ld_unit_zero (S := S64x1024) start_zero, k0_pay6, k0_pay4, k0_pay5, shapeCast_self]
  exact Adamw.delta_at ((cfg0.win 9).blk t).view.emb (V m c main_v2) (V m c main_arg3) (V m c main_v5) (V m c main_v8)

/-- The new first moment of the input projection's matrix. -/
theorem arr10 : (dats m 0 c).arrAt 10 cfg0.N = Adamw.newM (m ((c : Thread nD τ).loc main_arg2)) (turned (m ((c : Thread nD τ).loc main_arg4))) := by
  rw [← V_main_arg2 m c, ← host4 m c]
  refine (dats m 0 c).arrAt_eq_of_cover 10 _ (fun t _ => (congrArg _ (after0_10 m c t)).trans ?_)
    (fun i => (in_block_in i).imp fun t h => ⟨flush0_10 t, h⟩)
  rw [out0_10, View.canon_unit_zero start_zero]
  simp only [View.ld_unit_zero (S := S80x1024) start_zero, k0_pay1, shapeCast_self]
  exact Adamw.newM_at ((cfg0.win 10).blk t).view.emb (V m c main_arg2) (V m c main_v4)

/-- The new first moment of the output projection's matrix. -/
theorem arr11 : (dats m 0 c).arrAt 11 cfg0.N = Adamw.newM (m ((c : Thread nD τ).loc main_arg3)) (kept (m ((c : Thread nD τ).loc main_arg5))) := by
  rw [← V_main_arg3 m c, ← host5 m c]
  refine (dats m 0 c).arrAt_eq_of_cover 11 _ (fun t _ => (congrArg _ (after0_11 m c t)).trans ?_)
    (fun i => (in_block_out i).imp fun t h => ⟨flush0_11 t, h⟩)
  rw [out0_11, View.canon_unit_zero start_zero]
  simp only [View.ld_unit_zero (S := S64x1024) start_zero, k0_pay4, shapeCast_self]
  exact Adamw.newM_at ((cfg0.win 11).blk t).view.emb (V m c main_arg3) (V m c main_v5)

/-- The new second moment of the input projection's matrix. -/
theorem arr12 : (dats m 0 c).arrAt 12 cfg0.N = Adamw.newV (m ((c : Thread nD τ).loc main_arg2)) (turned (m ((c : Thread nD τ).loc main_arg6))) := by
  rw [← V_main_arg2 m c, ← host6 m c]
  refine (dats m 0 c).arrAt_eq_of_cover 12 _ (fun t _ => (congrArg _ (after0_12 m c t)).trans ?_)
    (fun i => (in_block_in i).imp fun t h => ⟨flush0_12 t, h⟩)
  rw [out0_12, View.canon_unit_zero start_zero]
  simp only [View.ld_unit_zero (S := S80x1024) start_zero, k0_pay2, shapeCast_self]
  exact Adamw.newV_at ((cfg0.win 12).blk t).view.emb (V m c main_arg2) (V m c main_v7)

/-- The new second moment of the output projection's matrix. -/
theorem arr13 : (dats m 0 c).arrAt 13 cfg0.N = Adamw.newV (m ((c : Thread nD τ).loc main_arg3)) (kept (m ((c : Thread nD τ).loc main_arg7))) := by
  rw [← V_main_arg3 m c, ← host7 m c]
  refine (dats m 0 c).arrAt_eq_of_cover 13 _ (fun t _ => (congrArg _ (after0_13 m c t)).trans ?_)
    (fun i => (in_block_out i).imp fun t h => ⟨flush0_13 t, h⟩)
  rw [out0_13, View.canon_unit_zero start_zero]
  simp only [View.ld_unit_zero (S := S64x1024) start_zero, k0_pay5, shapeCast_self]
  exact Adamw.newV_at ((cfg0.win 13).blk t).view.emb (V m c main_arg3) (V m c main_v8)

end Cert.Kernel6Ideal.Body

end
-- ==== Proof.AdamAttentionClaim.lean ====
/- The step and the moments of the matrices of the two projections: the kernel's results are the reference's. -/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.AdamAttentionValue

@[expose] public section

set_option maxRecDepth 16384

noncomputable section

namespace Cert.Proof.AdamAttention

open Idealize.ShloMosaic Idealize.ShloMosaic.TcCoe Idealize.SL.Sem Cert.Kernel6Ideal.Body

/-- The reference ends with its arguments unchanged; it declares no semaphore. -/
theorem frame_reference : Cert.quiescent_Reference6Ideal := fun m ρ _ =>
  (θ_run Cert.Reference6Ideal.defs _ _).mono (fun r h => ⟨fun c => (h c).2.2.2.2.2.2,
      Idealize.ShloMosaic.sem_eq_zero_of_no_sems (by decide) r.2⟩)
    (Cert.Reference6Ideal.Value.run (F := Ideal) m ρ)

set_option maxHeartbeats 2000000 in
/-- The six results of the kernel and of the reference are the same functions of the arguments. -/
theorem values : Cert.algebraic_Kernel6Ideal_Reference6Ideal := by
  intro m ρ m' ρ' _ hagree
  refine ⟨_, _, _, _, _, _, Cert.Kernel6Ideal.Value.run_blocks (F := Ideal) m ρ, ?_⟩
  refine (θ_run Cert.Reference6Ideal.defs _ _).mono (fun r h c => ?_) (Cert.Reference6Ideal.Value.run (F := Ideal) m' ρ')
  obtain ⟨g0, g1, g2, g3, g4, g5, g6, g7⟩ := hagree c
  obtain ⟨r0, r1, r2, r3, r4, r5, k⟩ := h c
  refine ⟨(r0.trans ?_).trans (arr8 m c).symm, (r1.trans ?_).trans (arr9 m c).symm, (r2.trans ?_).trans (arr10 m c).symm, (r3.trans ?_).trans (arr11 m c).symm, (r4.trans ?_).trans (arr12 m c).symm, (r5.trans ?_).trans (arr13 m c).symm, k⟩
  all_goals simp only [g0, g1, g2, g3, g4, g5, g6, g7]
  · exact (congrArg (transpose _ _ · _) (Adamw.delta_eq _ _ _ _ _)).trans (Adamw.delta_turned _ _ _ _ _ _)
  · exact Adamw.delta_eq _ _ _ _ _
  · exact (congrArg (transpose _ _ · _) (Adamw.newM_eq _ _ _)).trans (Adamw.newM_turned _ _ _ _)
  · exact Adamw.newM_eq _ _ _
  · exact (congrArg (transpose _ _ · _) (Adamw.newV_eq _ _ _)).trans (Adamw.newV_turned _ _ _ _)
  · exact Adamw.newV_eq _ _ _

end Cert.Proof.AdamAttention

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Arrays
public import proofs.«01_k».proof.Proof.RefValue
public import proofs.«01_k».proof.Proof.Finite
public import proofs.«01_k».proof.Proof.WeightsClaim
public import proofs.«01_k».proof.Proof.OutprojClaim
public import proofs.«01_k».proof.Proof.InprojClaim
public import proofs.«01_k».proof.Proof.AdamFfnClaim
public import proofs.«01_k».proof.Proof.AdamAttentionClaim

@[expose] public section

noncomputable section

namespace Cert.Proof

open Idealize.ShloMosaic Idealize.ShloMosaic.TcCoe Idealize.SL.Sem
open Cert.ReferenceIdeal Cert.ReferenceIdeal.Read Cert.ReferenceIdeal.Ref Cert.KernelIdeal.Body Idealize.ShloMosaic.StableHlo

/-- The reference ends with its arguments unchanged; it declares no semaphore. -/
theorem frame_reference : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

set_option maxHeartbeats 2000000 in
/-- The kernel's eight results and the reference's are the same functions of the arguments. -/
theorem values : Cert.algebraic_KernelIdeal_ReferenceIdeal_pre_finite := by
  intro m ρ m' ρ' hpre hagree
  refine ⟨_, _, _, _, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨A, H⟩ := Cert.Finite.holds m hpre c
  obtain ⟨g0, g1, g2, g3, g4, g5, g6⟩ := hagree c
  have h0 : launchContents m' c (Proc.devRef .tc main_arg0) = aX A := g0.trans H.x
  have h1 : launchContents m' c (Proc.devRef .tc main_arg1) = aG A := g1.trans H.g
  have h2 : launchContents m' c (Proc.devRef .tc main_arg2) = aWg A := g2.trans H.wg
  have h3 : launchContents m' c (Proc.devRef .tc main_arg3) = aWu A := g3.trans H.wu
  have h4 : launchContents m' c (Proc.devRef .tc main_arg4) = aWd A := g4.trans H.wd
  have h5 : launchContents m' c (Proc.devRef .tc main_arg5) = aGf A := g5.trans H.gf
  have h6 : launchContents m' c (Proc.devRef .tc main_arg6) = aTg A := g6.trans H.tg
  obtain ⟨r0, r1, r2, r3, r4, r5, r6, r7, k⟩ := h c
  refine ⟨(r0.trans (val_main_v109_eq _)).trans ?_, (r1.trans (val_main_v112_eq _)).trans ?_,
    (r2.trans (val_main_v115_eq _)).trans ?_, (r3.trans (val_main_v116_eq _)).trans ?_,
    (r4.trans (val_main_v117_eq _)).trans ?_, (r5.trans (val_main_v118_eq _)).trans ?_,
    (r6.trans (val_main_v119_eq _)).trans ?_, (r7.trans (val_main_v120_eq _)).trans ?_, k⟩
  · rw [h0, h1, h2, h3]; exact (funext (act_eq A)).trans (arr8 H).symm
  all_goals rw [h0, h1, h2, h3, h4, h5, h6]
  · exact (funext (dgate_eq A)).trans (arr9 H).symm
  · exact (funext (dup_eq A)).trans (arr10 H).symm
  · exact (funext (v116_eq A)).trans (arr11 H).symm
  · exact (funext (dx2_eq A)).trans (arr12 H).symm
  · exact (funext (loss_eq A)).trans (arr13 H).symm
  · exact (funext (dgf_eq A)).trans (arr14 H).symm
  · exact (funext (dg_eq A)).trans (arr15 H).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, Weights.frame_reference,
  fun m ρ _ => Cert.Kernel3.Gen.frame m ρ, fun m ρ _ => Cert.Kernel3Ideal.Gen.frame m ρ, Outproj.frame_reference,
  fun m ρ _ => Cert.Kernel4.Gen.frame m ρ, fun m ρ _ => Cert.Kernel4Ideal.Gen.frame m ρ, Inproj.frame_reference,
  fun m ρ _ => Cert.Kernel5.Gen.frame m ρ, fun m ρ _ => Cert.Kernel5Ideal.Gen.frame m ρ, AdamFfn.frame_reference,
  fun m ρ _ => Cert.Kernel6.Gen.frame m ρ, fun m ρ _ => Cert.Kernel6Ideal.Gen.frame m ρ, AdamAttention.frame_reference,
  trivial, values, trivial, Weights.values, trivial, Outproj.values, trivial, Inproj.values,
  trivial, AdamFfn.values, trivial, AdamAttention.values⟩

end Cert.Proof

end
